-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v617) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5x5x1x224x224 : Shape := ⟨5, ![5, 5, 1, 224, 224]⟩
abbrev S15x1x224x224 : Shape := ⟨4, ![15, 1, 224, 224]⟩
abbrev S32x1x3x3 : Shape := ⟨4, ![32, 1, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S64x256 : Shape := ⟨2, ![64, 256]⟩
abbrev S384x512 : Shape := ⟨2, ![384, 512]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S5x5x1x224x224 : S_.BroadcastsInDim S5x5x1x224x224 (![] : Fin 0 → Fin S5x5x1x224x224.rank)
  reducesTo_S5x5x1x224x224_S_d0_1_2_3_4 : S5x5x1x224x224.ReducesTo [0, 1, 2, 3, 4] S_
  h_S_ : 0 < S_.numel
  bcast_S_S15x1x224x224 : S_.BroadcastsInDim S15x1x224x224 (![] : Fin 0 → Fin S15x1x224x224.rank)
  reducesTo_S15x1x224x224_S_d0_1_2_3 : S15x1x224x224.ReducesTo [0, 1, 2, 3] S_
  bcast_S_S32x1x3x3 : S_.BroadcastsInDim S32x1x3x3 (![] : Fin 0 → Fin S32x1x3x3.rank)
  reducesTo_S32x1x3x3_S_d0_1_2_3 : S32x1x3x3.ReducesTo [0, 1, 2, 3] S_
  bcast_S_S32 : S_.BroadcastsInDim S32 (![] : Fin 0 → Fin S32.rank)
  reducesTo_S32_S_d0 : S32.ReducesTo [0] S_
  bcast_S_S64x32x3x3 : S_.BroadcastsInDim S64x32x3x3 (![] : Fin 0 → Fin S64x32x3x3.rank)
  reducesTo_S64x32x3x3_S_d0_1_2_3 : S64x32x3x3.ReducesTo [0, 1, 2, 3] S_
  bcast_S_S64 : S_.BroadcastsInDim S64 (![] : Fin 0 → Fin S64.rank)
  reducesTo_S64_S_d0 : S64.ReducesTo [0] S_
  bcast_S_S128x64x3x3 : S_.BroadcastsInDim S128x64x3x3 (![] : Fin 0 → Fin S128x64x3x3.rank)
  reducesTo_S128x64x3x3_S_d0_1_2_3 : S128x64x3x3.ReducesTo [0, 1, 2, 3] S_
  bcast_S_S128 : S_.BroadcastsInDim S128 (![] : Fin 0 → Fin S128.rank)
  reducesTo_S128_S_d0 : S128.ReducesTo [0] S_
  bcast_S_S256x128x3x3 : S_.BroadcastsInDim S256x128x3x3 (![] : Fin 0 → Fin S256x128x3x3.rank)
  reducesTo_S256x128x3x3_S_d0_1_2_3 : S256x128x3x3.ReducesTo [0, 1, 2, 3] S_
  bcast_S_S256 : S_.BroadcastsInDim S256 (![] : Fin 0 → Fin S256.rank)
  reducesTo_S256_S_d0 : S256.ReducesTo [0] S_
  bcast_S_S384x512 : S_.BroadcastsInDim S384x512 (![] : Fin 0 → Fin S384x512.rank)
  reducesTo_S384x512_S_d0_1 : S384x512.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg20 : FVec F S384x512 .f32) (main_arg28 : FVec F S1x128 .f32) (main_arg29 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S384x512 .f32 := Host.absf main_arg20
  let main_cst_34 : FVec F S_ .f32 := constant S_ .f32 0x7F800000#32
  let main_v90 : FVec F S384x512 .f32 := broadcastInDim S384x512 ![] bcast_S_S384x512 main_cst_34
  let main_v91 : IVec S384x512 1 := cmpf .olt main_v89 main_v90
  let main_c_35 : IVec S_ 1 := constantI S_ 1 1#1
  let main_v92 : IVec S_ 1 := (fun x v => Host.reduce IntOp.andi x v reducesTo_S384x512_S_d0_1 h_S_) main_v91 main_c_35
  let main_v93 : IVec S_ 1 := andi main_v88 main_v92
  let main_v94 : FVec F S1x128 .f32 := Host.absf main_arg28
  let main_cst_36 : FVec F S_ .f32 := constant S_ .f32 0x7F800000#32
  let main_v95 : FVec F S1x128 .f32 := broadcastInDim S1x128 ![] bcast_S_S1x128 main_cst_36
  let main_v96 : IVec S1x128 1 := cmpf .olt main_v94 main_v95
  let main_c_37 : IVec S_ 1 := constantI S_ 1 1#1
  let main_v97 : IVec S_ 1 := (fun x v => Host.reduce IntOp.andi x v reducesTo_S1x128_S_d0_1 h_S_) main_v96 main_c_37
  let main_v98 : IVec S_ 1 := andi main_v93 main_v97
  let main_v99 : FVec F S1 .f32 := Host.absf main_arg29
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S128 .f32) (main_arg15 : FVec F S128 .f32) (main_arg16 : FVec F S256 .f32) (main_arg17 : FVec F S256 .f32) (main_arg20 : FVec F S384x512 .f32) (main_arg28 : FVec F S1x128 .f32) (main_arg29 : FVec F S1 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg20 main_arg28 main_arg29 main_v83 main_v84 main_cst_32

def fn_part3 {F : FTy → Type} [FloatOps F] (main_arg11 : FVec F S32 .f32) (main_arg12 : FVec F S64 .f32) (main_arg13 : FVec F S64 .f32) (main_arg14 : FVec F S128 .f32) (main_arg15 : FVec F S128 .f32) (main_arg16 : FVec F S256 .f32) (main_arg17 : FVec F S256 .f32) (main_arg20 : FVec F S384x512 .f32) (main_arg28 : FVec F S1x128 .f32) (main_arg29 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg20 main_arg28 main_arg29 main_v63 main_v67

def fn_part2 {F : FTy → Type} [FloatOps F] (main_arg7 : FVec F S128 .f32) (main_arg8 : FVec F S256x128x3x3 .f32) (main_arg9 : FVec F S256 .f32) (main_arg10 : FVec F S32 .f32) (main_arg11 : FVec F S32 .f32) (main_arg12 : FVec F S64 .f32) (main_arg13 : FVec F S64 .f32) (main_arg14 : FVec F S128 .f32) (main_arg15 : FVec F S128 .f32) (main_arg16 : FVec F S256 .f32) (main_arg17 : FVec F S256 .f32) (main_arg20 : FVec F S384x512 .f32) (main_arg28 : FVec F S1x128 .f32) (main_arg29 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128x3x3 .f32 := Host.absf main_arg8
  let main_cst_14 : FVec F S_ .f32 := constant S_ .f32 0x7F800000#32
  let main_v40 : FVec F S256x128x3x3 .f32 := broadcastInDim S256x128x3x3 ![] bcast_S_S256x128x3x3 main_cst_14
  let main_v41 : IVec S256x128x3x3 1 := cmpf .olt main_v39 main_v40
  let main_c_15 : IVec S_ 1 := constantI S_ 1 1#1
  let main_v42 : IVec S_ 1 := (fun x v => Host.reduce IntOp.andi x v reducesTo_S256x128x3x3_S_d0_1_2_3 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_arg17 main_arg20 main_arg28 main_arg29 main_v48 main_v49 main_v50

def fn_part1 {F : FTy → Type} [FloatOps F] (main_arg4 : FVec F S64x32x3x3 .f32) (main_arg5 : FVec F S64 .f32) (main_arg6 : FVec F S128x64x3x3 .f32) (main_arg7 : FVec F S128 .f32) (main_arg8 : FVec F S256x128x3x3 .f32) (main_arg9 : FVec F S256 .f32) (main_arg10 : FVec F S32 .f32) (main_arg11 : FVec F S32 .f32) (main_arg12 : FVec F S64 .f32) (main_arg13 : FVec F S64 .f32) (main_arg14 : FVec F S128 .f32) (main_arg15 : FVec F S128 .f32) (main_arg16 : FVec F S256 .f32) (main_arg17 : FVec F S256 .f32) (main_arg20 : FVec F S384x512 .f32) (main_arg28 : FVec F S1x128 .f32) (main_arg29 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32x3x3 .f32 := Host.absf main_arg4
  let main_cst_6 : FVec F S_ .f32 := constant S_ .f32 0x7F800000#32
  let main_v20 : FVec F S64x32x3x3 .f32 := broadcastInDim S64x32x3x3 ![] bcast_S_S64x32x3x3 main_cst_6
  let main_v21 : IVec S64x32x3x3 1 := cmpf .olt main_v19 main_v20
  let main_c_7 : IVec S_ 1 := constantI S_ 1 1#1
  let main_v22 : IVec S_ 1 := (fun x v => Host.reduce IntOp.andi x v reducesTo_S64x32x3x3_S_d0_1_2_3 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64x3x3 .f32 := Host.absf main_arg6
  let main_cst_10 : FVec F S_ .f32 := constant S_ .f32 0x7F800000#32
  let main_v30 : FVec F S128x64x3x3 .f32 := broadcastInDim S128x64x3x3 ![] bcast_S_S128x64x3x3 main_cst_10
  let main_v31 : IVec S128x64x3x3 1 := cmpf .olt main_v29 main_v30
  let main_c_11 : IVec S_ 1 := constantI S_ 1 1#1
  let main_v32 : IVec S_ 1 := (fun x v => Host.reduce IntOp.andi x v reducesTo_S128x64x3x3_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg20 main_arg28 main_arg29 main_v33

def fn {F : FTy → Type} [FloatOps F] (main_arg0 : FVec F S5x5x1x224x224 .f32) (main_arg1 : FVec F S15x1x224x224 .f32) (main_arg2 : FVec F S32x1x3x3 .f32) (main_arg3 : FVec F S32 .f32) (main_arg4 : FVec F S64x32x3x3 .f32) (main_arg5 : FVec F S64 .f32) (main_arg6 : FVec F S128x64x3x3 .f32) (main_arg7 : FVec F S128 .f32) (main_arg8 : FVec F S256x128x3x3 .f32) (main_arg9 : FVec F S256 .f32) (main_arg10 : FVec F S32 .f32) (main_arg11 : FVec F S32 .f32) (main_arg12 : FVec F S64 .f32) (main_arg13 : FVec F S64 .f32) (main_arg14 : FVec F S128 .f32) (main_arg15 : FVec F S128 .f32) (main_arg16 : FVec F S256 .f32) (main_arg17 : FVec F S256 .f32) (main_arg18 : FVec F S64x256 .f32) (main_arg19 : FVec F S64 .f32) (main_arg20 : FVec F S384x512 .f32) (main_arg21 : FVec F S384x128 .f32) (main_arg22 : FVec F S384 .f32) (main_arg23 : FVec F S384 .f32) (main_arg24 : FVec F S384x128 .f32) (main_arg25 : FVec F S384x128 .f32) (main_arg26 : FVec F S384 .f32) (main_arg27 : FVec F S384 .f32) (main_arg28 : FVec F S1x128 .f32) (main_arg29 : FVec F S1 .f32) : IVec S_ 1 :=
  let main_v0 : FVec F S5x5x1x224x224 .f32 := Host.absf main_arg0
  let main_cst : FVec F S_ .f32 := constant S_ .f32 0x7F800000#32
  let main_v1 : FVec F S5x5x1x224x224 .f32 := broadcastInDim S5x5x1x224x224 ![] bcast_S_S5x5x1x224x224 main_cst
  let main_v2 : IVec S5x5x1x224x224 1 := cmpf .olt main_v0 main_v1
  let main_c : IVec S_ 1 := constantI S_ 1 1#1
  let main_v3 : IVec S_ 1 := (fun x v => Host.reduce IntOp.andi x v reducesTo_S5x5x1x224x224_S_d0_1_2_3_4 h_S_) main_v2 main_c
  let main_v4 : FVec F S15x1x224x224 .f32 := Host.absf main_arg1
  let main_cst_0 : FVec F S_ .f32 := constant S_ .f32 0x7F800000#32
  let main_v5 : FVec F S15x1x224x224 .f32 := broadcastInDim S15x1x224x224 ![] bcast_S_S15x1x224x224 main_cst_0
  let main_v6 : IVec S15x1x224x224 1 := cmpf .olt main_v4 main_v5
  let main_c_1 : IVec S_ 1 := constantI S_ 1 1#1
  let main_v7 : IVec S_ 1 := (fun x v => Host.reduce IntOp.andi x v reducesTo_S15x1x224x224_S_d0_1_2_3 h_S_) main_v6 main_c_1
  let main_v8 : IVec S_ 1 := andi main_v3 main_v7
  let main_v9 : FVec F S32x1x3x3 .f32 := Host.absf main_arg2
  let main_cst_2 : FVec F S_ .f32 := constant S_ .f32 0x7F800000#32
  let main_v10 : FVec F S32x1x3x3 .f32 := broadcastInDim S32x1x3x3 ![] bcast_S_S32x1x3x3 main_cst_2
  let main_v11 : IVec S32x1x3x3 1 := cmpf .olt main_v9 main_v10
  let main_c_3 : IVec S_ 1 := constantI S_ 1 1#1
  let main_v12 : IVec S_ 1 := (fun x v => Host.reduce IntOp.andi x v reducesTo_S32x1x3x3_S_d0_1_2_3 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg20 main_arg28 main_arg29 main_v13 main_v16
-- ==== Kernel.lean ====
abbrev S5x5x1x224x224 : Shape := ⟨5, ![5, 5, 1, 224, 224]⟩
abbrev S15x1x224x224 : Shape := ⟨4, ![15, 1, 224, 224]⟩
abbrev S32x1x3x3 : Shape := ⟨4, ![32, 1, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S64x256 : Shape := ⟨2, ![64, 256]⟩
abbrev S384x512 : Shape := ⟨2, ![384, 512]⟩
abbrev S384x128 : Shape := ⟨2, ![384, 128]⟩
abbrev S384 : Shape := ⟨1, ![384]⟩
abbrev S1x128 : Shape := ⟨2, ![1, 128]⟩
abbrev S1 : Shape := ⟨1, ![1]⟩
abbrev S25x224x224 : Shape := ⟨3, ![25, 224, 224]⟩
abbrev S15x224x224 : Shape := ⟨3, ![15, 224, 224]⟩
abbrev S40x224x224 : Shape := ⟨3, ![40, 224, 224]⟩
abbrev S_ : Shape := ⟨0, ![]⟩
abbrev S40x226x226 : Shape := ⟨3, ![40, 226, 226]⟩
abbrev S40x113x2x113x2 : Shape := ⟨5, ![40, 113, 2, 113, 2]⟩
abbrev S40x2x2x113x113 : Shape := ⟨5, ![40, 2, 2, 113, 113]⟩
abbrev S40x1x1x112x112 : Shape := ⟨5, ![40, 1, 1, 112, 112]⟩
abbrev S40x112x112 : Shape := ⟨3, ![40, 112, 112]⟩
abbrev S40x1x112x112 : Shape := ⟨4, ![40, 1, 112, 112]⟩
abbrev S40x9x112x112 : Shape := ⟨4, ![40, 9, 112, 112]⟩
abbrev S40x9x12544 : Shape := ⟨3, ![40, 9, 12544]⟩
abbrev S32x9 : Shape := ⟨2, ![32, 9]⟩
abbrev S9x32 : Shape := ⟨2, ![9, 32]⟩
abbrev S1x32 : Shape := ⟨2, ![1, 32]⟩
abbrev S2x32 : Shape := ⟨2, ![2, 32]⟩
abbrev S3x3x32x64 : Shape := ⟨4, ![3, 3, 32, 64]⟩
abbrev S9x32x64 : Shape := ⟨3, ![9, 32, 64]⟩
abbrev S1x64 : Shape := ⟨2, ![1, 64]⟩
abbrev S2x64 : Shape := ⟨2, ![2, 64]⟩
abbrev S3x3x64x128 : Shape := ⟨4, ![3, 3, 64, 128]⟩
abbrev S9x64x128 : Shape := ⟨3, ![9, 64, 128]⟩
abbrev S2x128 : Shape := ⟨2, ![2, 128]⟩
abbrev S3x3x128x256 : Shape := ⟨4, ![3, 3, 128, 256]⟩
abbrev S9x128x256 : Shape := ⟨3, ![9, 128, 256]⟩
abbrev S1x256 : Shape := ⟨2, ![1, 256]⟩
abbrev S2x256 : Shape := ⟨2, ![2, 256]⟩
abbrev S256x64 : Shape := ⟨2, ![256, 64]⟩
abbrev S384x256 : Shape := ⟨2, ![384, 256]⟩
abbrev S256x384 : Shape := ⟨2, ![256, 384]⟩
abbrev S1x384 : Shape := ⟨2, ![1, 384]⟩
abbrev S40x49x64 : Shape := ⟨3, ![40, 49, 64]⟩
abbrev S40x49x385 : Shape := ⟨3, ![40, 49, 385]⟩
abbrev S40x49x384 : Shape := ⟨3, ![40, 49, 384]⟩
abbrev S1x9x12544 : Shape := ⟨3, ![1, 9, 12544]⟩
abbrev S1x49x64 : Shape := ⟨3, ![1, 49, 64]⟩
abbrev S1x49x385 : Shape := ⟨3, ![1, 49, 385]⟩
abbrev S1x49x384 : Shape := ⟨3, ![1, 49, 384]⟩
abbrev S9x12544 : Shape := ⟨2, ![9, 12544]⟩
abbrev S12544x32 : Shape := ⟨2, ![12544, 32]⟩
abbrev S112x112x32 : Shape := ⟨3, ![112, 112, 32]⟩
abbrev S56x2x112x32 : Shape := ⟨4, ![56, 2, 112, 32]⟩
abbrev S56x1x112x32 : Shape := ⟨4, ![56, 1, 112, 32]⟩
abbrev S56x112x32 : Shape := ⟨3, ![56, 112, 32]⟩
abbrev S112x56x32 : Shape := ⟨3, ![112, 56, 32]⟩
abbrev S56x2x56x32 : Shape := ⟨4, ![56, 2, 56, 32]⟩
abbrev S56x1x56x32 : Shape := ⟨4, ![56, 1, 56, 32]⟩
abbrev S56x56x32 : Shape := ⟨3, ![56, 56, 32]⟩
abbrev S1x56x32 : Shape := ⟨3, ![1, 56, 32]⟩
abbrev S57x56x32 : Shape := ⟨3, ![57, 56, 32]⟩
abbrev S58x56x32 : Shape := ⟨3, ![58, 56, 32]⟩
abbrev S58x1x32 : Shape := ⟨3, ![58, 1, 32]⟩
abbrev S58x57x32 : Shape := ⟨3, ![58, 57, 32]⟩
abbrev S58x58x32 : Shape := ⟨3, ![58, 58, 32]⟩
abbrev S3136x32 : Shape := ⟨2, ![3136, 32]⟩
abbrev S1x32x64 : Shape := ⟨3, ![1, 32, 64]⟩
abbrev S32x64 : Shape := ⟨2, ![32, 64]⟩
abbrev S3136x64 : Shape := ⟨2, ![3136, 64]⟩
abbrev S56x56x64 : Shape := ⟨3, ![56, 56, 64]⟩
abbrev S28x2x56x64 : Shape := ⟨4, ![28, 2, 56, 64]⟩
abbrev S28x1x56x64 : Shape := ⟨4, ![28, 1, 56, 64]⟩
abbrev S28x56x64 : Shape := ⟨3, ![28, 56, 64]⟩
abbrev S56x28x64 : Shape := ⟨3, ![56, 28, 64]⟩
abbrev S28x2x28x64 : Shape := ⟨4, ![28, 2, 28, 64]⟩
abbrev S28x1x28x64 : Shape := ⟨4, ![28, 1, 28, 64]⟩
abbrev S28x28x64 : Shape := ⟨3, ![28, 28, 64]⟩
abbrev S1x28x64 : Shape := ⟨3, ![1, 28, 64]⟩
abbrev S29x28x64 : Shape := ⟨3, ![29, 28, 64]⟩
abbrev S30x28x64 : Shape := ⟨3, ![30, 28, 64]⟩
abbrev S30x1x64 : Shape := ⟨3, ![30, 1, 64]⟩
abbrev S30x29x64 : Shape := ⟨3, ![30, 29, 64]⟩
abbrev S30x30x64 : Shape := ⟨3, ![30, 30, 64]⟩
abbrev S784x64 : Shape := ⟨2, ![784, 64]⟩
abbrev S1x64x128 : Shape := ⟨3, ![1, 64, 128]⟩
abbrev S64x128 : Shape := ⟨2, ![64, 128]⟩
abbrev S784x128 : Shape := ⟨2, ![784, 128]⟩
abbrev S28x28x128 : Shape := ⟨3, ![28, 28, 128]⟩
abbrev S14x2x28x128 : Shape := ⟨4, ![14, 2, 28, 128]⟩
abbrev S14x1x28x128 : Shape := ⟨4, ![14, 1, 28, 128]⟩
abbrev S14x28x128 : Shape := ⟨3, ![14, 28, 128]⟩
abbrev S28x14x128 : Shape := ⟨3, ![28, 14, 128]⟩
abbrev S14x2x14x128 : Shape := ⟨4, ![14, 2, 14, 128]⟩
abbrev S14x1x14x128 : Shape := ⟨4, ![14, 1, 14, 128]⟩
abbrev S14x14x128 : Shape := ⟨3, ![14, 14, 128]⟩
abbrev S1x14x128 : Shape := ⟨3, ![1, 14, 128]⟩
abbrev S15x14x128 : Shape := ⟨3, ![15, 14, 128]⟩
abbrev S16x14x128 : Shape := ⟨3, ![16, 14, 128]⟩
abbrev S16x1x128 : Shape := ⟨3, ![16, 1, 128]⟩
abbrev S16x15x128 : Shape := ⟨3, ![16, 15, 128]⟩
abbrev S16x16x128 : Shape := ⟨3, ![16, 16, 128]⟩
abbrev S196x128 : Shape := ⟨2, ![196, 128]⟩
abbrev S1x128x256 : Shape := ⟨3, ![1, 128, 256]⟩
abbrev S128x256 : Shape := ⟨2, ![128, 256]⟩
abbrev S196x256 : Shape := ⟨2, ![196, 256]⟩
abbrev S14x14x256 : Shape := ⟨3, ![14, 14, 256]⟩
abbrev S7x2x14x256 : Shape := ⟨4, ![7, 2, 14, 256]⟩
abbrev S7x1x14x256 : Shape := ⟨4, ![7, 1, 14, 256]⟩
abbrev S7x14x256 : Shape := ⟨3, ![7, 14, 256]⟩
abbrev S14x7x256 : Shape := ⟨3, ![14, 7, 256]⟩
abbrev S7x2x7x256 : Shape := ⟨4, ![7, 2, 7, 256]⟩
abbrev S7x1x7x256 : Shape := ⟨4, ![7, 1, 7, 256]⟩
abbrev S7x7x256 : Shape := ⟨3, ![7, 7, 256]⟩
abbrev S49x256 : Shape := ⟨2, ![49, 256]⟩
abbrev S49x64 : Shape := ⟨2, ![49, 64]⟩
abbrev S49x384 : Shape := ⟨2, ![49, 384]⟩
abbrev S49x1 : Shape := ⟨2, ![49, 1]⟩
abbrev S1x49x1 : Shape := ⟨3, ![1, 49, 1]⟩
abbrev S49x375x1x384 : Shape := ⟨4, ![49, 375, 1, 384]⟩
abbrev S5x49x64 : Shape := ⟨3, ![5, 49, 64]⟩
abbrev S5x49x385 : Shape := ⟨3, ![5, 49, 385]⟩
abbrev S49x5x1x384 : Shape := ⟨4, ![49, 5, 1, 384]⟩
abbrev S49x1x64 : Shape := ⟨3, ![49, 1, 64]⟩
abbrev S49x49x64 : Shape := ⟨3, ![49, 49, 64]⟩
abbrev S49x49 : Shape := ⟨2, ![49, 49]⟩
abbrev S49x385 : Shape := ⟨2, ![49, 385]⟩
abbrev S49x1x1x384 : Shape := ⟨4, ![49, 1, 1, 384]⟩
abbrev S49x375x384 : Shape := ⟨3, ![49, 375, 384]⟩
abbrev S128x384 : Shape := ⟨2, ![128, 384]⟩
abbrev S1x375 : Shape := ⟨2, ![1, 375]⟩
abbrev S7x375x384 : Shape := ⟨3, ![7, 375, 384]⟩
abbrev S375x128 : Shape := ⟨2, ![375, 128]⟩
abbrev S1x375x384 : Shape := ⟨3, ![1, 375, 384]⟩
abbrev S375x384 : Shape := ⟨2, ![375, 384]⟩
abbrev S15x25 : Shape := ⟨2, ![15, 25]⟩
abbrev S15x5 : Shape := ⟨2, ![15, 5]⟩
abbrev S25x5 : Shape := ⟨2, ![25, 5]⟩
abbrev S15 : Shape := ⟨1, ![15]⟩
abbrev S15x1 : Shape := ⟨2, ![15, 1]⟩

abbrev nBuf : Space → Nat
  | .hbm => 128
  | .vmem => 45
  | .smem => 0
  | _ => 0

abbrev bufTy : (tb : Table) → Fin (tcTables nBuf tb) → BufTy
  | .hbm, ⟨0, _⟩ => ⟨S5x5x1x224x224, .f32⟩
  | .hbm, ⟨1, _⟩ => ⟨S15x1x224x224, .f32⟩
  | .hbm, ⟨2, _⟩ => ⟨S32x1x3x3, .f32⟩
  | .hbm, ⟨3, _⟩ => ⟨S32, .f32⟩
  | .hbm, ⟨4, _⟩ => ⟨S64x32x3x3, .f32⟩
  | .hbm, ⟨5, _⟩ => ⟨S64, .f32⟩
  | .hbm, ⟨6, _⟩ => ⟨S128x64x3x3, .f32⟩
  | .hbm, ⟨7, _⟩ => ⟨S128, .f32⟩
  | .hbm, ⟨8, _⟩ => ⟨S256x128x3x3, .f32⟩
  | .hbm, ⟨9, _⟩ => ⟨S256, .f32⟩
  | .hbm, ⟨10, _⟩ => ⟨S32, .f32⟩
  | .hbm, ⟨11, _⟩ => ⟨S32, .f32⟩
  | .hbm, ⟨12, _⟩ => ⟨S64, .f32⟩
  | .hbm, ⟨13, _⟩ => ⟨S64, .f32⟩
  | .hbm, ⟨14, _⟩ => ⟨S128, .f32⟩
  | .hbm, ⟨15, _⟩ => ⟨S128, .f32⟩
  | .hbm, ⟨16, _⟩ => ⟨S256, .f32⟩
  | .hbm, ⟨17, _⟩ => ⟨S256, .f32⟩
  | .hbm, ⟨18, _⟩ => ⟨S64x256, .f32⟩
  | .hbm, ⟨19, _⟩ => ⟨S64, .f32⟩
  | .hbm, ⟨20, _⟩ => ⟨S384x512, .f32⟩
  | .hbm, ⟨21, _⟩ => ⟨S384x128, .f32⟩
  | .hbm, ⟨22, _⟩ => ⟨S384, .f32⟩
  | .hbm, ⟨23, _⟩ => ⟨S384, .f32⟩
  | .hbm, ⟨24, _⟩ => ⟨S384x128, .f32⟩
  | .hbm, ⟨25, _⟩ => ⟨S384x128, .f32⟩
  | .hbm, ⟨26, _⟩ => ⟨S384, .f32⟩
  | .hbm, ⟨27, _⟩ => ⟨S384, .f32⟩
  | .hbm, ⟨28, _⟩ => ⟨S1x128, .f32⟩
  | .hbm, ⟨29, _⟩ => ⟨S1, .f32⟩
  | .hbm, ⟨30, _⟩ => ⟨S25x224x224, .f32⟩
  | .hbm, ⟨31, _⟩ => ⟨S15x224x224, .f32⟩
  | .hbm, ⟨32, _⟩ => ⟨S40x224x224, .f32⟩
  | .hbm, ⟨33, _⟩ => ⟨S_, .i32⟩
  | .hbm, ⟨34, _⟩ => ⟨S_, .f32⟩
  | .hbm, ⟨35, _⟩ => ⟨S40x226x226, .f32⟩
  | .hbm, ⟨36, _⟩ => ⟨S40x113x2x113x2, .f32⟩
  | .hbm, ⟨37, _⟩ => ⟨S40x2x2x113x113, .f32⟩
  | .hbm, ⟨38, _⟩ => ⟨S40x1x1x112x112, .f32⟩
  | .hbm, ⟨39, _⟩ => ⟨S40x112x112, .f32⟩
  | .hbm, ⟨40, _⟩ => ⟨S40x1x1x112x112, .f32⟩
  | .hbm, ⟨41, _⟩ => ⟨S40x112x112, .f32⟩
  | .hbm, ⟨42, _⟩ => ⟨S40x1x1x112x112, .f32⟩
  | .hbm, ⟨43, _⟩ => ⟨S40x112x112, .f32⟩
  | .hbm, ⟨44, _⟩ => ⟨S40x1x1x112x112, .f32⟩
  | .hbm, ⟨45, _⟩ => ⟨S40x112x112, .f32⟩
  | .hbm, ⟨46, _⟩ => ⟨S40x1x1x112x112, .f32⟩
  | .hbm, ⟨47, _⟩ => ⟨S40x112x112, .f32⟩
  | .hbm, ⟨48, _⟩ => ⟨S40x1x1x112x112, .f32⟩
  | .hbm, ⟨49, _⟩ => ⟨S40x112x112, .f32⟩
  | .hbm, ⟨50, _⟩ => ⟨S40x1x1x112x112, .f32⟩
  | .hbm, ⟨51, _⟩ => ⟨S40x112x112, .f32⟩
  | .hbm, ⟨52, _⟩ => ⟨S40x1x1x112x112, .f32⟩
  | .hbm, ⟨53, _⟩ => ⟨S40x112x112, .f32⟩
  | .hbm, ⟨54, _⟩ => ⟨S40x1x1x112x112, .f32⟩
  | .hbm, ⟨55, _⟩ => ⟨S40x112x112, .f32⟩
  | .hbm, ⟨56, _⟩ => ⟨S40x1x112x112, .f32⟩
  | .hbm, ⟨57, _⟩ => ⟨S40x1x112x112, .f32⟩
  | .hbm, ⟨58, _⟩ => ⟨S40x1x112x112, .f32⟩
  | .hbm, ⟨59, _⟩ => ⟨S40x1x112x112, .f32⟩
  | .hbm, ⟨60, _⟩ => ⟨S40x1x112x112, .f32⟩
  | .hbm, ⟨61, _⟩ => ⟨S40x1x112x112, .f32⟩
  | .hbm, ⟨62, _⟩ => ⟨S40x1x112x112, .f32⟩
  | .hbm, ⟨63, _⟩ => ⟨S40x1x112x112, .f32⟩
  | .hbm, ⟨64, _⟩ => ⟨S40x1x112x112, .f32⟩
  | .hbm, ⟨65, _⟩ => ⟨S40x9x112x112, .f32⟩
  | .hbm, ⟨66, _⟩ => ⟨S40x9x12544, .f32⟩
  | .hbm, ⟨67, _⟩ => ⟨S32x9, .f32⟩
  | .hbm, ⟨68, _⟩ => ⟨S9x32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S32, .f32⟩
  | .hbm, ⟨73, _⟩ => ⟨S32, .f32⟩
  | .hbm, ⟨74, _⟩ => ⟨S1x32, .f32⟩
  | .hbm, ⟨75, _⟩ => ⟨S1x32, .f32⟩
  | .hbm, ⟨76, _⟩ => ⟨S2x32, .f32⟩
  | .hbm, ⟨77, _⟩ => ⟨S3x3x32x64, .f32⟩
  | .hbm, ⟨78, _⟩ => ⟨S9x32x64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S1x64, .f32⟩
  | .hbm, ⟨85, _⟩ => ⟨S1x64, .f32⟩
  | .hbm, ⟨86, _⟩ => ⟨S2x64, .f32⟩
  | .hbm, ⟨87, _⟩ => ⟨S3x3x64x128, .f32⟩
  | .hbm, ⟨88, _⟩ => ⟨S9x64x128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S1x128, .f32⟩
  | .hbm, ⟨96, _⟩ => ⟨S2x128, .f32⟩
  | .hbm, ⟨97, _⟩ => ⟨S3x3x128x256, .f32⟩
  | .hbm, ⟨98, _⟩ => ⟨S9x128x256, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256, .f32⟩
  | .hbm, ⟨103, _⟩ => ⟨S256, .f32⟩
  | .hbm, ⟨104, _⟩ => ⟨S1x256, .f32⟩
  | .hbm, ⟨105, _⟩ => ⟨S1x256, .f32⟩
  | .hbm, ⟨106, _⟩ => ⟨S2x256, .f32⟩
  | .hbm, ⟨107, _⟩ => ⟨S256x64, .f32⟩
  | .hbm, ⟨108, _⟩ => ⟨S1x64, .f32⟩
  | .hbm, ⟨109, _⟩ => ⟨S384x256, .f32⟩
  | .hbm, ⟨110, _⟩ => ⟨S256x384, .f32⟩
  | .hbm, ⟨111, _⟩ => ⟨S384x256, .f32⟩
  | .hbm, ⟨112, _⟩ => ⟨S256x384, .f32⟩
  | .hbm, ⟨113, _⟩ => ⟨S1x384, .f32⟩
  | .hbm, ⟨114, _⟩ => ⟨S40x49x64, .f32⟩
  | .hbm, ⟨115, _⟩ => ⟨S40x49x385, .f32⟩
  | .hbm, ⟨116, _⟩ => ⟨S40x49x384, .f32⟩
  | .hbm, ⟨117, _⟩ => ⟨S49x375x1x384, .f32⟩
  | .hbm, ⟨118, _⟩ => ⟨S49x375x384, .f32⟩
  | .hbm, ⟨119, _⟩ => ⟨S128x384, .f32⟩
  | .hbm, ⟨120, _⟩ => ⟨S128x384, .f32⟩
  | .hbm, ⟨121, _⟩ => ⟨S128x384, .f32⟩
  | .hbm, ⟨122, _⟩ => ⟨S1x384, .f32⟩
  | .hbm, ⟨123, _⟩ => ⟨S1x384, .f32⟩
  | .hbm, ⟨124, _⟩ => ⟨S1x384, .f32⟩
  | .hbm, ⟨125, _⟩ => ⟨S1x375, .f32⟩
  | .hbm, ⟨126, _⟩ => ⟨S15x25, .f32⟩
  | .hbm, ⟨127, _⟩ => ⟨S15x5, .f32⟩
  | .local _ .vmem, ⟨0, _⟩ => ⟨S1x9x12544, .f32⟩
  | .local _ .vmem, ⟨1, _⟩ => ⟨S1x9x12544, .f32⟩
  | .local _ .vmem, ⟨2, _⟩ => ⟨S9x32, .f32⟩
  | .local _ .vmem, ⟨3, _⟩ => ⟨S2x32, .f32⟩
  | .local _ .vmem, ⟨4, _⟩ => ⟨S9x32x64, .f32⟩
  | .local _ .vmem, ⟨5, _⟩ => ⟨S2x64, .f32⟩
  | .local _ .vmem, ⟨6, _⟩ => ⟨S9x64x128, .f32⟩
  | .local _ .vmem, ⟨7, _⟩ => ⟨S2x128, .f32⟩
  | .local _ .vmem, ⟨8, _⟩ => ⟨S9x128x256, .f32⟩
  | .local _ .vmem, ⟨9, _⟩ => ⟨S2x256, .f32⟩
  | .local _ .vmem, ⟨10, _⟩ => ⟨S256x64, .f32⟩
  | .local _ .vmem, ⟨11, _⟩ => ⟨S1x64, .f32⟩
  | .local _ .vmem, ⟨12, _⟩ => ⟨S256x384, .f32⟩
  | .local _ .vmem, ⟨13, _⟩ => ⟨S256x384, .f32⟩
  | .local _ .vmem, ⟨14, _⟩ => ⟨S1x384, .f32⟩
  | .local _ .vmem, ⟨15, _⟩ => ⟨S1x49x64, .f32⟩
  | .local _ .vmem, ⟨16, _⟩ => ⟨S1x49x64, .f32⟩
  | .local _ .vmem, ⟨17, _⟩ => ⟨S1x49x385, .f32⟩
  | .local _ .vmem, ⟨18, _⟩ => ⟨S1x49x385, .f32⟩
  | .local _ .vmem, ⟨19, _⟩ => ⟨S1x49x384, .f32⟩
  | .local _ .vmem, ⟨20, _⟩ => ⟨S1x49x384, .f32⟩
  | .local _ .vmem, ⟨21, _⟩ => ⟨S1x49x64, .f32⟩
  | .local _ .vmem, ⟨22, _⟩ => ⟨S1x49x64, .f32⟩
  | .local _ .vmem, ⟨23, _⟩ => ⟨S5x49x64, .f32⟩
  | .local _ .vmem, ⟨24, _⟩ => ⟨S5x49x64, .f32⟩
  | .local _ .vmem, ⟨25, _⟩ => ⟨S5x49x385, .f32⟩
  | .local _ .vmem, ⟨26, _⟩ => ⟨S5x49x385, .f32⟩
  | .local _ .vmem, ⟨27, _⟩ => ⟨S1x49x384, .f32⟩
  | .local _ .vmem, ⟨28, _⟩ => ⟨S1x49x384, .f32⟩
  | .local _ .vmem, ⟨29, _⟩ => ⟨S49x5x1x384, .f32⟩
  | .local _ .vmem, ⟨30, _⟩ => ⟨S49x5x1x384, .f32⟩
  | .local _ .vmem, ⟨31, _⟩ => ⟨S7x375x384, .f32⟩
  | .local _ .vmem, ⟨32, _⟩ => ⟨S7x375x384, .f32⟩
  | .local _ .vmem, ⟨33, _⟩ => ⟨S128x384, .f32⟩
  | .local _ .vmem, ⟨34, _⟩ => ⟨S1x384, .f32⟩
  | .local _ .vmem, ⟨35, _⟩ => ⟨S128x384, .f32⟩
  | .local _ .vmem, ⟨36, _⟩ => ⟨S1x384, .f32⟩
  | .local _ .vmem, ⟨37, _⟩ => ⟨S128x384, .f32⟩
  | .local _ .vmem, ⟨38, _⟩ => ⟨S1x384, .f32⟩
  | .local _ .vmem, ⟨39, _⟩ => ⟨S1x128, .f32⟩
  | .local _ .vmem, ⟨40, _⟩ => ⟨S1x375, .f32⟩
  | .local _ .vmem, ⟨41, _⟩ => ⟨S375x128, .f32⟩
  | .local _ .vmem, ⟨42, _⟩ => ⟨S375x128, .f32⟩
  | .local _ .vmem, ⟨43, _⟩ => ⟨S15x25, .f32⟩
  | .local _ .vmem, ⟨44, _⟩ => ⟨S15x5, .f32⟩
  | _, _ => ⟨S5x5x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_c : Ref sig .tc := ⟨.hbm, 33, rfl⟩
abbrev main_call0_v0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_0 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_1 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_2 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78_0 : Ref sig .tc := ⟨.hbm, 114, rfl⟩
abbrev main_v78_1 : Ref sig .tc := ⟨.hbm, 115, rfl⟩
abbrev main_v78_2 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_scratch0 : Ref sig .tc := ⟨.vmem, 41, rfl⟩
abbrev cc2_scratch1 : Ref sig .tc := ⟨.vmem, 42, rfl⟩
abbrev cc3_stg0_0 : Ref sig .tc := ⟨.vmem, 43, rfl⟩
abbrev cc3_stg1_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem4_1 : DmaSem sig := 30
abbrev cc2_sem0_0 : DmaSem sig := 31
abbrev cc2_sem0_1 : DmaSem sig := 32
abbrev cc2_sem1_0 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc3_sem0_0 : DmaSem sig := 41
abbrev cc3_sem1_0 : DmaSem sig := 42

abbrev nD : Nat := 1
abbrev τ : Topo := Topo.v7x

variable {F : FTy → Type} [FloatOps F]

abbrev grid0 : Pipeline.Grid := ⟨2, ![2, 20], ![false, false]⟩

def cc0_transform_0 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x9x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S9x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S9x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S9x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x49x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x49x385 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x49x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev grid1 : Pipeline.Grid := ⟨2, ![15, 5], ![false, false]⟩

def cc1_transform_0 (i : grid1.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg0
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

abbrev stage1_0 : Fin 2 → Memref sig .tc .vmem S1x49x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5x49x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S5x49x385 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x49x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S49x5x1x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![7], ![false]⟩

def k2_cond2 (i : grid2.Coords) : BitVec 1 :=
  let arg0 : BitVec 32 := BitVec.ofNat 32 (i 0).val
  let c6_i32 : BitVec 32 := 6#32
  let v424 : BitVec 1 := Scalar.cmpi .eq arg0 c6_i32
  let v425 : BitVec 32 := Scalar.extui v424
  let c0_i32_141 : BitVec 32 := 0#32
  let v426 : BitVec 1 := Scalar.cmpi .ne v425 c0_i32_141
  v426

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S7x375x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x375 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := .none

abbrev stage3_0 : Fin 1 → Memref sig .tc .vmem S15x25 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S15x5 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
-- ==== ReferenceIdeal.lean ====
abbrev S5x5x1x224x224 : Shape := ⟨5, ![5, 5, 1, 224, 224]⟩
abbrev S15x1x224x224 : Shape := ⟨4, ![15, 1, 224, 224]⟩
abbrev S32x1x3x3 : Shape := ⟨4, ![32, 1, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S64x256 : Shape := ⟨2, ![64, 256]⟩
abbrev S384x512 : Shape := ⟨2, ![384, 512]⟩
abbrev S384x128 : Shape := ⟨2, ![384, 128]⟩
abbrev S384 : Shape := ⟨1, ![384]⟩
abbrev S1x128 : Shape := ⟨2, ![1, 128]⟩
abbrev S1 : Shape := ⟨1, ![1]⟩
abbrev S25x1x224x224 : Shape := ⟨4, ![25, 1, 224, 224]⟩
abbrev S_ : Shape := ⟨0, ![]⟩
abbrev S25x1x226x226 : Shape := ⟨4, ![25, 1, 226, 226]⟩
abbrev S25x1x112x112 : Shape := ⟨4, ![25, 1, 112, 112]⟩
abbrev S32x1x1x1 : Shape := ⟨4, ![32, 1, 1, 1]⟩
abbrev S32x1 : Shape := ⟨2, ![32, 1]⟩
abbrev S32x25x112x112 : Shape := ⟨4, ![32, 25, 112, 112]⟩
abbrev S25x32x112x112 : Shape := ⟨4, ![25, 32, 112, 112]⟩
abbrev S1x32x1x1 : Shape := ⟨4, ![1, 32, 1, 1]⟩
abbrev S25x32x56x56 : Shape := ⟨4, ![25, 32, 56, 56]⟩
abbrev S25x32x58x58 : Shape := ⟨4, ![25, 32, 58, 58]⟩
abbrev S64x32x1x1 : Shape := ⟨4, ![64, 32, 1, 1]⟩
abbrev S64x32 : Shape := ⟨2, ![64, 32]⟩
abbrev S64x25x56x56 : Shape := ⟨4, ![64, 25, 56, 56]⟩
abbrev S25x64x56x56 : Shape := ⟨4, ![25, 64, 56, 56]⟩
abbrev S1x64x1x1 : Shape := ⟨4, ![1, 64, 1, 1]⟩
abbrev S25x64x28x28 : Shape := ⟨4, ![25, 64, 28, 28]⟩
abbrev S25x64x30x30 : Shape := ⟨4, ![25, 64, 30, 30]⟩
abbrev S128x64x1x1 : Shape := ⟨4, ![128, 64, 1, 1]⟩
abbrev S128x64 : Shape := ⟨2, ![128, 64]⟩
abbrev S128x25x28x28 : Shape := ⟨4, ![128, 25, 28, 28]⟩
abbrev S25x128x28x28 : Shape := ⟨4, ![25, 128, 28, 28]⟩
abbrev S1x128x1x1 : Shape := ⟨4, ![1, 128, 1, 1]⟩
abbrev S25x128x14x14 : Shape := ⟨4, ![25, 128, 14, 14]⟩
abbrev S25x128x16x16 : Shape := ⟨4, ![25, 128, 16, 16]⟩
abbrev S256x128x1x1 : Shape := ⟨4, ![256, 128, 1, 1]⟩
abbrev S256x128 : Shape := ⟨2, ![256, 128]⟩
abbrev S256x25x14x14 : Shape := ⟨4, ![256, 25, 14, 14]⟩
abbrev S25x256x14x14 : Shape := ⟨4, ![25, 256, 14, 14]⟩
abbrev S1x256x1x1 : Shape := ⟨4, ![1, 256, 1, 1]⟩
abbrev S25x256x7x7 : Shape := ⟨4, ![25, 256, 7, 7]⟩
abbrev S25x256x49 : Shape := ⟨3, ![25, 256, 49]⟩
abbrev S25x49x256 : Shape := ⟨3, ![25, 49, 256]⟩
abbrev S15x1x226x226 : Shape := ⟨4, ![15, 1, 226, 226]⟩
abbrev S15x1x112x112 : Shape := ⟨4, ![15, 1, 112, 112]⟩
abbrev S32x15x112x112 : Shape := ⟨4, ![32, 15, 112, 112]⟩
abbrev S15x32x112x112 : Shape := ⟨4, ![15, 32, 112, 112]⟩
abbrev S15x32x56x56 : Shape := ⟨4, ![15, 32, 56, 56]⟩
abbrev S15x32x58x58 : Shape := ⟨4, ![15, 32, 58, 58]⟩
abbrev S64x15x56x56 : Shape := ⟨4, ![64, 15, 56, 56]⟩
abbrev S15x64x56x56 : Shape := ⟨4, ![15, 64, 56, 56]⟩
abbrev S15x64x28x28 : Shape := ⟨4, ![15, 64, 28, 28]⟩
abbrev S15x64x30x30 : Shape := ⟨4, ![15, 64, 30, 30]⟩
abbrev S128x15x28x28 : Shape := ⟨4, ![128, 15, 28, 28]⟩
abbrev S15x128x28x28 : Shape := ⟨4, ![15, 128, 28, 28]⟩
abbrev S15x128x14x14 : Shape := ⟨4, ![15, 128, 14, 14]⟩
abbrev S15x128x16x16 : Shape := ⟨4, ![15, 128, 16, 16]⟩
abbrev S256x15x14x14 : Shape := ⟨4, ![256, 15, 14, 14]⟩
abbrev S15x256x14x14 : Shape := ⟨4, ![15, 256, 14, 14]⟩
abbrev S15x256x7x7 : Shape := ⟨4, ![15, 256, 7, 7]⟩
abbrev S15x256x49 : Shape := ⟨3, ![15, 256, 49]⟩
abbrev S15x49x256 : Shape := ⟨3, ![15, 49, 256]⟩
abbrev S256x64 : Shape := ⟨2, ![256, 64]⟩
abbrev S15x49x64 : Shape := ⟨3, ![15, 49, 64]⟩
abbrev S1x1x64 : Shape := ⟨3, ![1, 1, 64]⟩
abbrev S25x49x64 : Shape := ⟨3, ![25, 49, 64]⟩
abbrev S15x1x49x1x64 : Shape := ⟨5, ![15, 1, 49, 1, 64]⟩
abbrev S1x25x1x49x64 : Shape := ⟨5, ![1, 25, 1, 49, 64]⟩
abbrev S15x25x49x49x64 : Shape := ⟨5, ![15, 25, 49, 49, 64]⟩
abbrev S15x25x49x49 : Shape := ⟨4, ![15, 25, 49, 49]⟩
abbrev S15x25x49 : Shape := ⟨3, ![15, 25, 49]⟩
abbrev S15x25x49x1 : Shape := ⟨4, ![15, 25, 49, 1]⟩
abbrev S25x256x15x49 : Shape := ⟨4, ![25, 256, 15, 49]⟩
abbrev S15x25x49x256 : Shape := ⟨4, ![15, 25, 49, 256]⟩
abbrev S15x1x49x256 : Shape := ⟨4, ![15, 1, 49, 256]⟩
abbrev S15x25x49x512 : Shape := ⟨4, ![15, 25, 49, 512]⟩
abbrev S375x49x512 : Shape := ⟨3, ![375, 49, 512]⟩
abbrev S375x128 : Shape := ⟨2, ![375, 128]⟩
abbrev S49x375x512 : Shape := ⟨3, ![49, 375, 512]⟩
abbrev S1x375x512 : Shape := ⟨3, ![1, 375, 512]⟩
abbrev S375x512 : Shape := ⟨2, ![375, 512]⟩
abbrev S512x384 : Shape := ⟨2, ![512, 384]⟩
abbrev S375x384 : Shape := ⟨2, ![375, 384]⟩
abbrev S1x384 : Shape := ⟨2, ![1, 384]⟩
abbrev S128x384 : Shape := ⟨2, ![128, 384]⟩
abbrev S128x1 : Shape := ⟨2, ![128, 1]⟩
abbrev S375x1 : Shape := ⟨2, ![375, 1]⟩
abbrev S1x1 : Shape := ⟨2, ![1, 1]⟩
abbrev S15x5x5 : Shape := ⟨3, ![15, 5, 5]⟩
abbrev S15x5 : Shape := ⟨2, ![15, 5]⟩
abbrev S15 : Shape := ⟨1, ![15]⟩
abbrev S15x1 : Shape := ⟨2, ![15, 1]⟩

abbrev nBuf : Space → Nat
  | .hbm => 822
  | .vmem => 0
  | .smem => 0
  | _ => 0

abbrev hbmTy0_0 (i : Nat) : BufTy := match i % 128 with
  | 0 => ⟨S5x5x1x224x224, .f32⟩
  | 1 => ⟨S15x1x224x224, .f32⟩
  | 2 => ⟨S32x1x3x3, .f32⟩
  | 3 => ⟨S32, .f32⟩
  | 4 => ⟨S64x32x3x3, .f32⟩
  | 5 => ⟨S64, .f32⟩
  | 6 => ⟨S128x64x3x3, .f32⟩
  | 7 => ⟨S128, .f32⟩
  | 8 => ⟨S256x128x3x3, .f32⟩
  | 9 => ⟨S256, .f32⟩
  | 10 => ⟨S32, .f32⟩
  | 11 => ⟨S32, .f32⟩
  | 12 => ⟨S64, .f32⟩
  | 13 => ⟨S64, .f32⟩
  | 14 => ⟨S128, .f32⟩
  | 15 => ⟨S128, .f32⟩
  | 16 => ⟨S256, .f32⟩
  | 17 => ⟨S256, .f32⟩
  | 18 => ⟨S64x256, .f32⟩
  | 19 => ⟨S64, .f32⟩
  | 20 => ⟨S384x512, .f32⟩
  | 21 => ⟨S384x128, .f32⟩
  | 22 => ⟨S384, .f32⟩
  | 23 => ⟨S384, .f32⟩
  | 24 => ⟨S384x128, .f32⟩
  | 25 => ⟨S384x128, .f32⟩
  | 26 => ⟨S384, .f32⟩
  | 27 => ⟨S384, .f32⟩
  | 28 => ⟨S1x128, .f32⟩
  | 29 => ⟨S1, .f32⟩
  | 30 => ⟨S25x1x224x224, .f32⟩
  | 31 => ⟨S_, .i32⟩
  | 32 => ⟨S_, .f32⟩
  | 33 => ⟨S25x1x226x226, .f32⟩
  | 34 => ⟨S25x1x112x112, .f32⟩
  | 35 => ⟨S32x1x1x1, .f32⟩
  | 36 => ⟨S32x1, .f32⟩
  | 37 => ⟨S32x25x112x112, .f32⟩
  | 38 => ⟨S25x32x112x112, .f32⟩
  | 39 => ⟨S_, .f32⟩
  | 40 => ⟨S25x32x112x112, .f32⟩
  | 41 => ⟨S25x32x112x112, .f32⟩
  | 42 => ⟨S25x1x112x112, .f32⟩
  | 43 => ⟨S32x1x1x1, .f32⟩
  | 44 => ⟨S32x1, .f32⟩
  | 45 => ⟨S32x25x112x112, .f32⟩
  | 46 => ⟨S25x32x112x112, .f32⟩
  | 47 => ⟨S25x32x112x112, .f32⟩
  | 48 => ⟨S25x1x112x112, .f32⟩
  | 49 => ⟨S32x1x1x1, .f32⟩
  | 50 => ⟨S32x1, .f32⟩
  | 51 => ⟨S32x25x112x112, .f32⟩
  | 52 => ⟨S25x32x112x112, .f32⟩
  | 53 => ⟨S25x32x112x112, .f32⟩
  | 54 => ⟨S25x1x112x112, .f32⟩
  | 55 => ⟨S32x1x1x1, .f32⟩
  | 56 => ⟨S32x1, .f32⟩
  | 57 => ⟨S32x25x112x112, .f32⟩
  | 58 => ⟨S25x32x112x112, .f32⟩
  | 59 => ⟨S25x32x112x112, .f32⟩
  | 60 => ⟨S25x1x112x112, .f32⟩
  | 61 => ⟨S32x1x1x1, .f32⟩
  | 62 => ⟨S32x1, .f32⟩
  | 63 => ⟨S32x25x112x112, .f32⟩
  | 64 => ⟨S25x32x112x112, .f32⟩
  | 65 => ⟨S25x32x112x112, .f32⟩
  | 66 => ⟨S25x1x112x112, .f32⟩
  | 67 => ⟨S32x1x1x1, .f32⟩
  | 68 => ⟨S32x1, .f32⟩
  | 69 => ⟨S32x25x112x112, .f32⟩
  | 70 => ⟨S25x32x112x112, .f32⟩
  | 71 => ⟨S25x32x112x112, .f32⟩
  | 72 => ⟨S25x1x112x112, .f32⟩
  | 73 => ⟨S32x1x1x1, .f32⟩
  | 74 => ⟨S32x1, .f32⟩
  | 75 => ⟨S32x25x112x112, .f32⟩
  | 76 => ⟨S25x32x112x112, .f32⟩
  | 77 => ⟨S25x32x112x112, .f32⟩
  | 78 => ⟨S25x1x112x112, .f32⟩
  | 79 => ⟨S32x1x1x1, .f32⟩
  | 80 => ⟨S32x1, .f32⟩
  | 81 => ⟨S32x25x112x112, .f32⟩
  | 82 => ⟨S25x32x112x112, .f32⟩
  | 83 => ⟨S25x32x112x112, .f32⟩
  | 84 => ⟨S25x1x112x112, .f32⟩
  | 85 => ⟨S32x1x1x1, .f32⟩
  | 86 => ⟨S32x1, .f32⟩
  | 87 => ⟨S32x25x112x112, .f32⟩
  | 88 => ⟨S25x32x112x112, .f32⟩
  | 89 => ⟨S25x32x112x112, .f32⟩
  | 90 => ⟨S1x32x1x1, .f32⟩
  | 91 => ⟨S25x32x112x112, .f32⟩
  | 92 => ⟨S25x32x112x112, .f32⟩
  | 93 => ⟨S_, .f32⟩
  | 94 => ⟨S32, .f32⟩
  | 95 => ⟨S32, .f32⟩
  | 96 => ⟨S1x32x1x1, .f32⟩
  | 97 => ⟨S25x32x112x112, .f32⟩
  | 98 => ⟨S25x32x112x112, .f32⟩
  | 99 => ⟨S1x32x1x1, .f32⟩
  | 100 => ⟨S25x32x112x112, .f32⟩
  | 101 => ⟨S25x32x112x112, .f32⟩
  | 102 => ⟨S_, .f32⟩
  | 103 => ⟨S25x32x112x112, .f32⟩
  | 104 => ⟨S25x32x112x112, .f32⟩
  | 105 => ⟨S_, .f32⟩
  | 106 => ⟨S_, .f32⟩
  | 107 => ⟨S25x32x56x56, .f32⟩
  | 108 => ⟨S_, .i32⟩
  | 109 => ⟨S_, .f32⟩
  | 110 => ⟨S25x32x58x58, .f32⟩
  | 111 => ⟨S25x32x56x56, .f32⟩
  | 112 => ⟨S64x32x1x1, .f32⟩
  | 113 => ⟨S64x32, .f32⟩
  | 114 => ⟨S64x25x56x56, .f32⟩
  | 115 => ⟨S25x64x56x56, .f32⟩
  | 116 => ⟨S_, .f32⟩
  | 117 => ⟨S25x64x56x56, .f32⟩
  | 118 => ⟨S25x64x56x56, .f32⟩
  | 119 => ⟨S25x32x56x56, .f32⟩
  | 120 => ⟨S64x32x1x1, .f32⟩
  | 121 => ⟨S64x32, .f32⟩
  | 122 => ⟨S64x25x56x56, .f32⟩
  | 123 => ⟨S25x64x56x56, .f32⟩
  | 124 => ⟨S25x64x56x56, .f32⟩
  | 125 => ⟨S25x32x56x56, .f32⟩
  | 126 => ⟨S64x32x1x1, .f32⟩
  | 127 => ⟨S64x32, .f32⟩
  | _ => ⟨S5x5x1x224x224, .f32⟩

abbrev hbmTy0_1 (i : Nat) : BufTy := match i % 128 with
  | 0 => ⟨S64x25x56x56, .f32⟩
  | 1 => ⟨S25x64x56x56, .f32⟩
  | 2 => ⟨S25x64x56x56, .f32⟩
  | 3 => ⟨S25x32x56x56, .f32⟩
  | 4 => ⟨S64x32x1x1, .f32⟩
  | 5 => ⟨S64x32, .f32⟩
  | 6 => ⟨S64x25x56x56, .f32⟩
  | 7 => ⟨S25x64x56x56, .f32⟩
  | 8 => ⟨S25x64x56x56, .f32⟩
  | 9 => ⟨S25x32x56x56, .f32⟩
  | 10 => ⟨S64x32x1x1, .f32⟩
  | 11 => ⟨S64x32, .f32⟩
  | 12 => ⟨S64x25x56x56, .f32⟩
  | 13 => ⟨S25x64x56x56, .f32⟩
  | 14 => ⟨S25x64x56x56, .f32⟩
  | 15 => ⟨S25x32x56x56, .f32⟩
  | 16 => ⟨S64x32x1x1, .f32⟩
  | 17 => ⟨S64x32, .f32⟩
  | 18 => ⟨S64x25x56x56, .f32⟩
  | 19 => ⟨S25x64x56x56, .f32⟩
  | 20 => ⟨S25x64x56x56, .f32⟩
  | 21 => ⟨S25x32x56x56, .f32⟩
  | 22 => ⟨S64x32x1x1, .f32⟩
  | 23 => ⟨S64x32, .f32⟩
  | 24 => ⟨S64x25x56x56, .f32⟩
  | 25 => ⟨S25x64x56x56, .f32⟩
  | 26 => ⟨S25x64x56x56, .f32⟩
  | 27 => ⟨S25x32x56x56, .f32⟩
  | 28 => ⟨S64x32x1x1, .f32⟩
  | 29 => ⟨S64x32, .f32⟩
  | 30 => ⟨S64x25x56x56, .f32⟩
  | 31 => ⟨S25x64x56x56, .f32⟩
  | 32 => ⟨S25x64x56x56, .f32⟩
  | 33 => ⟨S25x32x56x56, .f32⟩
  | 34 => ⟨S64x32x1x1, .f32⟩
  | 35 => ⟨S64x32, .f32⟩
  | 36 => ⟨S64x25x56x56, .f32⟩
  | 37 => ⟨S25x64x56x56, .f32⟩
  | 38 => ⟨S25x64x56x56, .f32⟩
  | 39 => ⟨S1x64x1x1, .f32⟩
  | 40 => ⟨S25x64x56x56, .f32⟩
  | 41 => ⟨S25x64x56x56, .f32⟩
  | 42 => ⟨S_, .f32⟩
  | 43 => ⟨S64, .f32⟩
  | 44 => ⟨S64, .f32⟩
  | 45 => ⟨S1x64x1x1, .f32⟩
  | 46 => ⟨S25x64x56x56, .f32⟩
  | 47 => ⟨S25x64x56x56, .f32⟩
  | 48 => ⟨S1x64x1x1, .f32⟩
  | 49 => ⟨S25x64x56x56, .f32⟩
  | 50 => ⟨S25x64x56x56, .f32⟩
  | 51 => ⟨S_, .f32⟩
  | 52 => ⟨S25x64x56x56, .f32⟩
  | 53 => ⟨S25x64x56x56, .f32⟩
  | 54 => ⟨S_, .f32⟩
  | 55 => ⟨S_, .f32⟩
  | 56 => ⟨S25x64x28x28, .f32⟩
  | 57 => ⟨S_, .i32⟩
  | 58 => ⟨S_, .f32⟩
  | 59 => ⟨S25x64x30x30, .f32⟩
  | 60 => ⟨S25x64x28x28, .f32⟩
  | 61 => ⟨S128x64x1x1, .f32⟩
  | 62 => ⟨S128x64, .f32⟩
  | 63 => ⟨S128x25x28x28, .f32⟩
  | 64 => ⟨S25x128x28x28, .f32⟩
  | 65 => ⟨S_, .f32⟩
  | 66 => ⟨S25x128x28x28, .f32⟩
  | 67 => ⟨S25x128x28x28, .f32⟩
  | 68 => ⟨S25x64x28x28, .f32⟩
  | 69 => ⟨S128x64x1x1, .f32⟩
  | 70 => ⟨S128x64, .f32⟩
  | 71 => ⟨S128x25x28x28, .f32⟩
  | 72 => ⟨S25x128x28x28, .f32⟩
  | 73 => ⟨S25x128x28x28, .f32⟩
  | 74 => ⟨S25x64x28x28, .f32⟩
  | 75 => ⟨S128x64x1x1, .f32⟩
  | 76 => ⟨S128x64, .f32⟩
  | 77 => ⟨S128x25x28x28, .f32⟩
  | 78 => ⟨S25x128x28x28, .f32⟩
  | 79 => ⟨S25x128x28x28, .f32⟩
  | 80 => ⟨S25x64x28x28, .f32⟩
  | 81 => ⟨S128x64x1x1, .f32⟩
  | 82 => ⟨S128x64, .f32⟩
  | 83 => ⟨S128x25x28x28, .f32⟩
  | 84 => ⟨S25x128x28x28, .f32⟩
  | 85 => ⟨S25x128x28x28, .f32⟩
  | 86 => ⟨S25x64x28x28, .f32⟩
  | 87 => ⟨S128x64x1x1, .f32⟩
  | 88 => ⟨S128x64, .f32⟩
  | 89 => ⟨S128x25x28x28, .f32⟩
  | 90 => ⟨S25x128x28x28, .f32⟩
  | 91 => ⟨S25x128x28x28, .f32⟩
  | 92 => ⟨S25x64x28x28, .f32⟩
  | 93 => ⟨S128x64x1x1, .f32⟩
  | 94 => ⟨S128x64, .f32⟩
  | 95 => ⟨S128x25x28x28, .f32⟩
  | 96 => ⟨S25x128x28x28, .f32⟩
  | 97 => ⟨S25x128x28x28, .f32⟩
  | 98 => ⟨S25x64x28x28, .f32⟩
  | 99 => ⟨S128x64x1x1, .f32⟩
  | 100 => ⟨S128x64, .f32⟩
  | 101 => ⟨S128x25x28x28, .f32⟩
  | 102 => ⟨S25x128x28x28, .f32⟩
  | 103 => ⟨S25x128x28x28, .f32⟩
  | 104 => ⟨S25x64x28x28, .f32⟩
  | 105 => ⟨S128x64x1x1, .f32⟩
  | 106 => ⟨S128x64, .f32⟩
  | 107 => ⟨S128x25x28x28, .f32⟩
  | 108 => ⟨S25x128x28x28, .f32⟩
  | 109 => ⟨S25x128x28x28, .f32⟩
  | 110 => ⟨S25x64x28x28, .f32⟩
  | 111 => ⟨S128x64x1x1, .f32⟩
  | 112 => ⟨S128x64, .f32⟩
  | 113 => ⟨S128x25x28x28, .f32⟩
  | 114 => ⟨S25x128x28x28, .f32⟩
  | 115 => ⟨S25x128x28x28, .f32⟩
  | 116 => ⟨S1x128x1x1, .f32⟩
  | 117 => ⟨S25x128x28x28, .f32⟩
  | 118 => ⟨S25x128x28x28, .f32⟩
  | 119 => ⟨S_, .f32⟩
  | 120 => ⟨S128, .f32⟩
  | 121 => ⟨S128, .f32⟩
  | 122 => ⟨S1x128x1x1, .f32⟩
  | 123 => ⟨S25x128x28x28, .f32⟩
  | 124 => ⟨S25x128x28x28, .f32⟩
  | 125 => ⟨S1x128x1x1, .f32⟩
  | 126 => ⟨S25x128x28x28, .f32⟩
  | 127 => ⟨S25x128x28x28, .f32⟩
  | _ => ⟨S5x5x1x224x224, .f32⟩

abbrev hbmTy0_2 (i : Nat) : BufTy := match i % 128 with
  | 0 => ⟨S_, .f32⟩
  | 1 => ⟨S25x128x28x28, .f32⟩
  | 2 => ⟨S25x128x28x28, .f32⟩
  | 3 => ⟨S_, .f32⟩
  | 4 => ⟨S_, .f32⟩
  | 5 => ⟨S25x128x14x14, .f32⟩
  | 6 => ⟨S_, .i32⟩
  | 7 => ⟨S_, .f32⟩
  | 8 => ⟨S25x128x16x16, .f32⟩
  | 9 => ⟨S25x128x14x14, .f32⟩
  | 10 => ⟨S256x128x1x1, .f32⟩
  | 11 => ⟨S256x128, .f32⟩
  | 12 => ⟨S256x25x14x14, .f32⟩
  | 13 => ⟨S25x256x14x14, .f32⟩
  | 14 => ⟨S_, .f32⟩
  | 15 => ⟨S25x256x14x14, .f32⟩
  | 16 => ⟨S25x256x14x14, .f32⟩
  | 17 => ⟨S25x128x14x14, .f32⟩
  | 18 => ⟨S256x128x1x1, .f32⟩
  | 19 => ⟨S256x128, .f32⟩
  | 20 => ⟨S256x25x14x14, .f32⟩
  | 21 => ⟨S25x256x14x14, .f32⟩
  | 22 => ⟨S25x256x14x14, .f32⟩
  | 23 => ⟨S25x128x14x14, .f32⟩
  | 24 => ⟨S256x128x1x1, .f32⟩
  | 25 => ⟨S256x128, .f32⟩
  | 26 => ⟨S256x25x14x14, .f32⟩
  | 27 => ⟨S25x256x14x14, .f32⟩
  | 28 => ⟨S25x256x14x14, .f32⟩
  | 29 => ⟨S25x128x14x14, .f32⟩
  | 30 => ⟨S256x128x1x1, .f32⟩
  | 31 => ⟨S256x128, .f32⟩
  | 32 => ⟨S256x25x14x14, .f32⟩
  | 33 => ⟨S25x256x14x14, .f32⟩
  | 34 => ⟨S25x256x14x14, .f32⟩
  | 35 => ⟨S25x128x14x14, .f32⟩
  | 36 => ⟨S256x128x1x1, .f32⟩
  | 37 => ⟨S256x128, .f32⟩
  | 38 => ⟨S256x25x14x14, .f32⟩
  | 39 => ⟨S25x256x14x14, .f32⟩
  | 40 => ⟨S25x256x14x14, .f32⟩
  | 41 => ⟨S25x128x14x14, .f32⟩
  | 42 => ⟨S256x128x1x1, .f32⟩
  | 43 => ⟨S256x128, .f32⟩
  | 44 => ⟨S256x25x14x14, .f32⟩
  | 45 => ⟨S25x256x14x14, .f32⟩
  | 46 => ⟨S25x256x14x14, .f32⟩
  | 47 => ⟨S25x128x14x14, .f32⟩
  | 48 => ⟨S256x128x1x1, .f32⟩
  | 49 => ⟨S256x128, .f32⟩
  | 50 => ⟨S256x25x14x14, .f32⟩
  | 51 => ⟨S25x256x14x14, .f32⟩
  | 52 => ⟨S25x256x14x14, .f32⟩
  | 53 => ⟨S25x128x14x14, .f32⟩
  | 54 => ⟨S256x128x1x1, .f32⟩
  | 55 => ⟨S256x128, .f32⟩
  | 56 => ⟨S256x25x14x14, .f32⟩
  | 57 => ⟨S25x256x14x14, .f32⟩
  | 58 => ⟨S25x256x14x14, .f32⟩
  | 59 => ⟨S25x128x14x14, .f32⟩
  | 60 => ⟨S256x128x1x1, .f32⟩
  | 61 => ⟨S256x128, .f32⟩
  | 62 => ⟨S256x25x14x14, .f32⟩
  | 63 => ⟨S25x256x14x14, .f32⟩
  | 64 => ⟨S25x256x14x14, .f32⟩
  | 65 => ⟨S1x256x1x1, .f32⟩
  | 66 => ⟨S25x256x14x14, .f32⟩
  | 67 => ⟨S25x256x14x14, .f32⟩
  | 68 => ⟨S_, .f32⟩
  | 69 => ⟨S256, .f32⟩
  | 70 => ⟨S256, .f32⟩
  | 71 => ⟨S1x256x1x1, .f32⟩
  | 72 => ⟨S25x256x14x14, .f32⟩
  | 73 => ⟨S25x256x14x14, .f32⟩
  | 74 => ⟨S1x256x1x1, .f32⟩
  | 75 => ⟨S25x256x14x14, .f32⟩
  | 76 => ⟨S25x256x14x14, .f32⟩
  | 77 => ⟨S_, .f32⟩
  | 78 => ⟨S25x256x14x14, .f32⟩
  | 79 => ⟨S25x256x14x14, .f32⟩
  | 80 => ⟨S_, .f32⟩
  | 81 => ⟨S_, .f32⟩
  | 82 => ⟨S25x256x7x7, .f32⟩
  | 83 => ⟨S25x256x49, .f32⟩
  | 84 => ⟨S25x49x256, .f32⟩
  | 85 => ⟨S_, .i32⟩
  | 86 => ⟨S_, .f32⟩
  | 87 => ⟨S15x1x226x226, .f32⟩
  | 88 => ⟨S15x1x112x112, .f32⟩
  | 89 => ⟨S32x1x1x1, .f32⟩
  | 90 => ⟨S32x1, .f32⟩
  | 91 => ⟨S32x15x112x112, .f32⟩
  | 92 => ⟨S15x32x112x112, .f32⟩
  | 93 => ⟨S_, .f32⟩
  | 94 => ⟨S15x32x112x112, .f32⟩
  | 95 => ⟨S15x32x112x112, .f32⟩
  | 96 => ⟨S15x1x112x112, .f32⟩
  | 97 => ⟨S32x1x1x1, .f32⟩
  | 98 => ⟨S32x1, .f32⟩
  | 99 => ⟨S32x15x112x112, .f32⟩
  | 100 => ⟨S15x32x112x112, .f32⟩
  | 101 => ⟨S15x32x112x112, .f32⟩
  | 102 => ⟨S15x1x112x112, .f32⟩
  | 103 => ⟨S32x1x1x1, .f32⟩
  | 104 => ⟨S32x1, .f32⟩
  | 105 => ⟨S32x15x112x112, .f32⟩
  | 106 => ⟨S15x32x112x112, .f32⟩
  | 107 => ⟨S15x32x112x112, .f32⟩
  | 108 => ⟨S15x1x112x112, .f32⟩
  | 109 => ⟨S32x1x1x1, .f32⟩
  | 110 => ⟨S32x1, .f32⟩
  | 111 => ⟨S32x15x112x112, .f32⟩
  | 112 => ⟨S15x32x112x112, .f32⟩
  | 113 => ⟨S15x32x112x112, .f32⟩
  | 114 => ⟨S15x1x112x112, .f32⟩
  | 115 => ⟨S32x1x1x1, .f32⟩
  | 116 => ⟨S32x1, .f32⟩
  | 117 => ⟨S32x15x112x112, .f32⟩
  | 118 => ⟨S15x32x112x112, .f32⟩
  | 119 => ⟨S15x32x112x112, .f32⟩
  | 120 => ⟨S15x1x112x112, .f32⟩
  | 121 => ⟨S32x1x1x1, .f32⟩
  | 122 => ⟨S32x1, .f32⟩
  | 123 => ⟨S32x15x112x112, .f32⟩
  | 124 => ⟨S15x32x112x112, .f32⟩
  | 125 => ⟨S15x32x112x112, .f32⟩
  | 126 => ⟨S15x1x112x112, .f32⟩
  | 127 => ⟨S32x1x1x1, .f32⟩
  | _ => ⟨S5x5x1x224x224, .f32⟩

abbrev hbmTy0_3 (i : Nat) : BufTy := match i % 128 with
  | 0 => ⟨S32x1, .f32⟩
  | 1 => ⟨S32x15x112x112, .f32⟩
  | 2 => ⟨S15x32x112x112, .f32⟩
  | 3 => ⟨S15x32x112x112, .f32⟩
  | 4 => ⟨S15x1x112x112, .f32⟩
  | 5 => ⟨S32x1x1x1, .f32⟩
  | 6 => ⟨S32x1, .f32⟩
  | 7 => ⟨S32x15x112x112, .f32⟩
  | 8 => ⟨S15x32x112x112, .f32⟩
  | 9 => ⟨S15x32x112x112, .f32⟩
  | 10 => ⟨S15x1x112x112, .f32⟩
  | 11 => ⟨S32x1x1x1, .f32⟩
  | 12 => ⟨S32x1, .f32⟩
  | 13 => ⟨S32x15x112x112, .f32⟩
  | 14 => ⟨S15x32x112x112, .f32⟩
  | 15 => ⟨S15x32x112x112, .f32⟩
  | 16 => ⟨S1x32x1x1, .f32⟩
  | 17 => ⟨S15x32x112x112, .f32⟩
  | 18 => ⟨S15x32x112x112, .f32⟩
  | 19 => ⟨S_, .f32⟩
  | 20 => ⟨S32, .f32⟩
  | 21 => ⟨S32, .f32⟩
  | 22 => ⟨S1x32x1x1, .f32⟩
  | 23 => ⟨S15x32x112x112, .f32⟩
  | 24 => ⟨S15x32x112x112, .f32⟩
  | 25 => ⟨S1x32x1x1, .f32⟩
  | 26 => ⟨S15x32x112x112, .f32⟩
  | 27 => ⟨S15x32x112x112, .f32⟩
  | 28 => ⟨S_, .f32⟩
  | 29 => ⟨S15x32x112x112, .f32⟩
  | 30 => ⟨S15x32x112x112, .f32⟩
  | 31 => ⟨S_, .f32⟩
  | 32 => ⟨S_, .f32⟩
  | 33 => ⟨S15x32x56x56, .f32⟩
  | 34 => ⟨S_, .i32⟩
  | 35 => ⟨S_, .f32⟩
  | 36 => ⟨S15x32x58x58, .f32⟩
  | 37 => ⟨S15x32x56x56, .f32⟩
  | 38 => ⟨S64x32x1x1, .f32⟩
  | 39 => ⟨S64x32, .f32⟩
  | 40 => ⟨S64x15x56x56, .f32⟩
  | 41 => ⟨S15x64x56x56, .f32⟩
  | 42 => ⟨S_, .f32⟩
  | 43 => ⟨S15x64x56x56, .f32⟩
  | 44 => ⟨S15x64x56x56, .f32⟩
  | 45 => ⟨S15x32x56x56, .f32⟩
  | 46 => ⟨S64x32x1x1, .f32⟩
  | 47 => ⟨S64x32, .f32⟩
  | 48 => ⟨S64x15x56x56, .f32⟩
  | 49 => ⟨S15x64x56x56, .f32⟩
  | 50 => ⟨S15x64x56x56, .f32⟩
  | 51 => ⟨S15x32x56x56, .f32⟩
  | 52 => ⟨S64x32x1x1, .f32⟩
  | 53 => ⟨S64x32, .f32⟩
  | 54 => ⟨S64x15x56x56, .f32⟩
  | 55 => ⟨S15x64x56x56, .f32⟩
  | 56 => ⟨S15x64x56x56, .f32⟩
  | 57 => ⟨S15x32x56x56, .f32⟩
  | 58 => ⟨S64x32x1x1, .f32⟩
  | 59 => ⟨S64x32, .f32⟩
  | 60 => ⟨S64x15x56x56, .f32⟩
  | 61 => ⟨S15x64x56x56, .f32⟩
  | 62 => ⟨S15x64x56x56, .f32⟩
  | 63 => ⟨S15x32x56x56, .f32⟩
  | 64 => ⟨S64x32x1x1, .f32⟩
  | 65 => ⟨S64x32, .f32⟩
  | 66 => ⟨S64x15x56x56, .f32⟩
  | 67 => ⟨S15x64x56x56, .f32⟩
  | 68 => ⟨S15x64x56x56, .f32⟩
  | 69 => ⟨S15x32x56x56, .f32⟩
  | 70 => ⟨S64x32x1x1, .f32⟩
  | 71 => ⟨S64x32, .f32⟩
  | 72 => ⟨S64x15x56x56, .f32⟩
  | 73 => ⟨S15x64x56x56, .f32⟩
  | 74 => ⟨S15x64x56x56, .f32⟩
  | 75 => ⟨S15x32x56x56, .f32⟩
  | 76 => ⟨S64x32x1x1, .f32⟩
  | 77 => ⟨S64x32, .f32⟩
  | 78 => ⟨S64x15x56x56, .f32⟩
  | 79 => ⟨S15x64x56x56, .f32⟩
  | 80 => ⟨S15x64x56x56, .f32⟩
  | 81 => ⟨S15x32x56x56, .f32⟩
  | 82 => ⟨S64x32x1x1, .f32⟩
  | 83 => ⟨S64x32, .f32⟩
  | 84 => ⟨S64x15x56x56, .f32⟩
  | 85 => ⟨S15x64x56x56, .f32⟩
  | 86 => ⟨S15x64x56x56, .f32⟩
  | 87 => ⟨S15x32x56x56, .f32⟩
  | 88 => ⟨S64x32x1x1, .f32⟩
  | 89 => ⟨S64x32, .f32⟩
  | 90 => ⟨S64x15x56x56, .f32⟩
  | 91 => ⟨S15x64x56x56, .f32⟩
  | 92 => ⟨S15x64x56x56, .f32⟩
  | 93 => ⟨S1x64x1x1, .f32⟩
  | 94 => ⟨S15x64x56x56, .f32⟩
  | 95 => ⟨S15x64x56x56, .f32⟩
  | 96 => ⟨S_, .f32⟩
  | 97 => ⟨S64, .f32⟩
  | 98 => ⟨S64, .f32⟩
  | 99 => ⟨S1x64x1x1, .f32⟩
  | 100 => ⟨S15x64x56x56, .f32⟩
  | 101 => ⟨S15x64x56x56, .f32⟩
  | 102 => ⟨S1x64x1x1, .f32⟩
  | 103 => ⟨S15x64x56x56, .f32⟩
  | 104 => ⟨S15x64x56x56, .f32⟩
  | 105 => ⟨S_, .f32⟩
  | 106 => ⟨S15x64x56x56, .f32⟩
  | 107 => ⟨S15x64x56x56, .f32⟩
  | 108 => ⟨S_, .f32⟩
  | 109 => ⟨S_, .f32⟩
  | 110 => ⟨S15x64x28x28, .f32⟩
  | 111 => ⟨S_, .i32⟩
  | 112 => ⟨S_, .f32⟩
  | 113 => ⟨S15x64x30x30, .f32⟩
  | 114 => ⟨S15x64x28x28, .f32⟩
  | 115 => ⟨S128x64x1x1, .f32⟩
  | 116 => ⟨S128x64, .f32⟩
  | 117 => ⟨S128x15x28x28, .f32⟩
  | 118 => ⟨S15x128x28x28, .f32⟩
  | 119 => ⟨S_, .f32⟩
  | 120 => ⟨S15x128x28x28, .f32⟩
  | 121 => ⟨S15x128x28x28, .f32⟩
  | 122 => ⟨S15x64x28x28, .f32⟩
  | 123 => ⟨S128x64x1x1, .f32⟩
  | 124 => ⟨S128x64, .f32⟩
  | 125 => ⟨S128x15x28x28, .f32⟩
  | 126 => ⟨S15x128x28x28, .f32⟩
  | 127 => ⟨S15x128x28x28, .f32⟩
  | _ => ⟨S5x5x1x224x224, .f32⟩

abbrev hbmTy0_4 (i : Nat) : BufTy := match i % 128 with
  | 0 => ⟨S15x64x28x28, .f32⟩
  | 1 => ⟨S128x64x1x1, .f32⟩
  | 2 => ⟨S128x64, .f32⟩
  | 3 => ⟨S128x15x28x28, .f32⟩
  | 4 => ⟨S15x128x28x28, .f32⟩
  | 5 => ⟨S15x128x28x28, .f32⟩
  | 6 => ⟨S15x64x28x28, .f32⟩
  | 7 => ⟨S128x64x1x1, .f32⟩
  | 8 => ⟨S128x64, .f32⟩
  | 9 => ⟨S128x15x28x28, .f32⟩
  | 10 => ⟨S15x128x28x28, .f32⟩
  | 11 => ⟨S15x128x28x28, .f32⟩
  | 12 => ⟨S15x64x28x28, .f32⟩
  | 13 => ⟨S128x64x1x1, .f32⟩
  | 14 => ⟨S128x64, .f32⟩
  | 15 => ⟨S128x15x28x28, .f32⟩
  | 16 => ⟨S15x128x28x28, .f32⟩
  | 17 => ⟨S15x128x28x28, .f32⟩
  | 18 => ⟨S15x64x28x28, .f32⟩
  | 19 => ⟨S128x64x1x1, .f32⟩
  | 20 => ⟨S128x64, .f32⟩
  | 21 => ⟨S128x15x28x28, .f32⟩
  | 22 => ⟨S15x128x28x28, .f32⟩
  | 23 => ⟨S15x128x28x28, .f32⟩
  | 24 => ⟨S15x64x28x28, .f32⟩
  | 25 => ⟨S128x64x1x1, .f32⟩
  | 26 => ⟨S128x64, .f32⟩
  | 27 => ⟨S128x15x28x28, .f32⟩
  | 28 => ⟨S15x128x28x28, .f32⟩
  | 29 => ⟨S15x128x28x28, .f32⟩
  | 30 => ⟨S15x64x28x28, .f32⟩
  | 31 => ⟨S128x64x1x1, .f32⟩
  | 32 => ⟨S128x64, .f32⟩
  | 33 => ⟨S128x15x28x28, .f32⟩
  | 34 => ⟨S15x128x28x28, .f32⟩
  | 35 => ⟨S15x128x28x28, .f32⟩
  | 36 => ⟨S15x64x28x28, .f32⟩
  | 37 => ⟨S128x64x1x1, .f32⟩
  | 38 => ⟨S128x64, .f32⟩
  | 39 => ⟨S128x15x28x28, .f32⟩
  | 40 => ⟨S15x128x28x28, .f32⟩
  | 41 => ⟨S15x128x28x28, .f32⟩
  | 42 => ⟨S1x128x1x1, .f32⟩
  | 43 => ⟨S15x128x28x28, .f32⟩
  | 44 => ⟨S15x128x28x28, .f32⟩
  | 45 => ⟨S_, .f32⟩
  | 46 => ⟨S128, .f32⟩
  | 47 => ⟨S128, .f32⟩
  | 48 => ⟨S1x128x1x1, .f32⟩
  | 49 => ⟨S15x128x28x28, .f32⟩
  | 50 => ⟨S15x128x28x28, .f32⟩
  | 51 => ⟨S1x128x1x1, .f32⟩
  | 52 => ⟨S15x128x28x28, .f32⟩
  | 53 => ⟨S15x128x28x28, .f32⟩
  | 54 => ⟨S_, .f32⟩
  | 55 => ⟨S15x128x28x28, .f32⟩
  | 56 => ⟨S15x128x28x28, .f32⟩
  | 57 => ⟨S_, .f32⟩
  | 58 => ⟨S_, .f32⟩
  | 59 => ⟨S15x128x14x14, .f32⟩
  | 60 => ⟨S_, .i32⟩
  | 61 => ⟨S_, .f32⟩
  | 62 => ⟨S15x128x16x16, .f32⟩
  | 63 => ⟨S15x128x14x14, .f32⟩
  | 64 => ⟨S256x128x1x1, .f32⟩
  | 65 => ⟨S256x128, .f32⟩
  | 66 => ⟨S256x15x14x14, .f32⟩
  | 67 => ⟨S15x256x14x14, .f32⟩
  | 68 => ⟨S_, .f32⟩
  | 69 => ⟨S15x256x14x14, .f32⟩
  | 70 => ⟨S15x256x14x14, .f32⟩
  | 71 => ⟨S15x128x14x14, .f32⟩
  | 72 => ⟨S256x128x1x1, .f32⟩
  | 73 => ⟨S256x128, .f32⟩
  | 74 => ⟨S256x15x14x14, .f32⟩
  | 75 => ⟨S15x256x14x14, .f32⟩
  | 76 => ⟨S15x256x14x14, .f32⟩
  | 77 => ⟨S15x128x14x14, .f32⟩
  | 78 => ⟨S256x128x1x1, .f32⟩
  | 79 => ⟨S256x128, .f32⟩
  | 80 => ⟨S256x15x14x14, .f32⟩
  | 81 => ⟨S15x256x14x14, .f32⟩
  | 82 => ⟨S15x256x14x14, .f32⟩
  | 83 => ⟨S15x128x14x14, .f32⟩
  | 84 => ⟨S256x128x1x1, .f32⟩
  | 85 => ⟨S256x128, .f32⟩
  | 86 => ⟨S256x15x14x14, .f32⟩
  | 87 => ⟨S15x256x14x14, .f32⟩
  | 88 => ⟨S15x256x14x14, .f32⟩
  | 89 => ⟨S15x128x14x14, .f32⟩
  | 90 => ⟨S256x128x1x1, .f32⟩
  | 91 => ⟨S256x128, .f32⟩
  | 92 => ⟨S256x15x14x14, .f32⟩
  | 93 => ⟨S15x256x14x14, .f32⟩
  | 94 => ⟨S15x256x14x14, .f32⟩
  | 95 => ⟨S15x128x14x14, .f32⟩
  | 96 => ⟨S256x128x1x1, .f32⟩
  | 97 => ⟨S256x128, .f32⟩
  | 98 => ⟨S256x15x14x14, .f32⟩
  | 99 => ⟨S15x256x14x14, .f32⟩
  | 100 => ⟨S15x256x14x14, .f32⟩
  | 101 => ⟨S15x128x14x14, .f32⟩
  | 102 => ⟨S256x128x1x1, .f32⟩
  | 103 => ⟨S256x128, .f32⟩
  | 104 => ⟨S256x15x14x14, .f32⟩
  | 105 => ⟨S15x256x14x14, .f32⟩
  | 106 => ⟨S15x256x14x14, .f32⟩
  | 107 => ⟨S15x128x14x14, .f32⟩
  | 108 => ⟨S256x128x1x1, .f32⟩
  | 109 => ⟨S256x128, .f32⟩
  | 110 => ⟨S256x15x14x14, .f32⟩
  | 111 => ⟨S15x256x14x14, .f32⟩
  | 112 => ⟨S15x256x14x14, .f32⟩
  | 113 => ⟨S15x128x14x14, .f32⟩
  | 114 => ⟨S256x128x1x1, .f32⟩
  | 115 => ⟨S256x128, .f32⟩
  | 116 => ⟨S256x15x14x14, .f32⟩
  | 117 => ⟨S15x256x14x14, .f32⟩
  | 118 => ⟨S15x256x14x14, .f32⟩
  | 119 => ⟨S1x256x1x1, .f32⟩
  | 120 => ⟨S15x256x14x14, .f32⟩
  | 121 => ⟨S15x256x14x14, .f32⟩
  | 122 => ⟨S_, .f32⟩
  | 123 => ⟨S256, .f32⟩
  | 124 => ⟨S256, .f32⟩
  | 125 => ⟨S1x256x1x1, .f32⟩
  | 126 => ⟨S15x256x14x14, .f32⟩
  | 127 => ⟨S15x256x14x14, .f32⟩
  | _ => ⟨S5x5x1x224x224, .f32⟩

abbrev hbmTy0_5 (i : Nat) : BufTy := match i % 128 with
  | 0 => ⟨S1x256x1x1, .f32⟩
  | 1 => ⟨S15x256x14x14, .f32⟩
  | 2 => ⟨S15x256x14x14, .f32⟩
  | 3 => ⟨S_, .f32⟩
  | 4 => ⟨S15x256x14x14, .f32⟩
  | 5 => ⟨S15x256x14x14, .f32⟩
  | 6 => ⟨S_, .f32⟩
  | 7 => ⟨S_, .f32⟩
  | 8 => ⟨S15x256x7x7, .f32⟩
  | 9 => ⟨S15x256x49, .f32⟩
  | 10 => ⟨S15x49x256, .f32⟩
  | 11 => ⟨S256x64, .f32⟩
  | 12 => ⟨S15x49x64, .f32⟩
  | 13 => ⟨S1x1x64, .f32⟩
  | 14 => ⟨S15x49x64, .f32⟩
  | 15 => ⟨S15x49x64, .f32⟩
  | 16 => ⟨S256x64, .f32⟩
  | 17 => ⟨S25x49x64, .f32⟩
  | 18 => ⟨S1x1x64, .f32⟩
  | 19 => ⟨S25x49x64, .f32⟩
  | 20 => ⟨S25x49x64, .f32⟩
  | 21 => ⟨S15x1x49x1x64, .f32⟩
  | 22 => ⟨S1x25x1x49x64, .f32⟩
  | 23 => ⟨S15x25x49x49x64, .f32⟩
  | 24 => ⟨S15x25x49x49x64, .f32⟩
  | 25 => ⟨S15x25x49x49x64, .f32⟩
  | 26 => ⟨S15x25x49x49x64, .f32⟩
  | 27 => ⟨S_, .f32⟩
  | 28 => ⟨S15x25x49x49, .f32⟩
  | 29 => ⟨S_, .f32⟩
  | 30 => ⟨S15x25x49, .f32⟩
  | 31 => ⟨S_, .f32⟩
  | 32 => ⟨S15x25x49, .f32⟩
  | 33 => ⟨S15x25x49, .f32⟩
  | 34 => ⟨S15x25x49x1, .f32⟩
  | 35 => ⟨S15x25x49x49, .f32⟩
  | 36 => ⟨S15x25x49x49, .f32⟩
  | 37 => ⟨S15x25x49x49, .f32⟩
  | 38 => ⟨S_, .f32⟩
  | 39 => ⟨S15x25x49, .f32⟩
  | 40 => ⟨S15x25x49x1, .f32⟩
  | 41 => ⟨S15x25x49x49, .f32⟩
  | 42 => ⟨S15x25x49x49, .f32⟩
  | 43 => ⟨S25x256x15x49, .f32⟩
  | 44 => ⟨S15x25x49x256, .f32⟩
  | 45 => ⟨S15x1x49x256, .f32⟩
  | 46 => ⟨S15x25x49x256, .f32⟩
  | 47 => ⟨S15x25x49x512, .f32⟩
  | 48 => ⟨S375x49x512, .f32⟩
  | 49 => ⟨S_, .f32⟩
  | 50 => ⟨S375x128, .f32⟩
  | 51 => ⟨S49x375x512, .f32⟩
  | 52 => ⟨S_, .i32⟩
  | 53 => ⟨S49x375x512, .f32⟩
  | 54 => ⟨S384x512, .f32⟩
  | 55 => ⟨S384, .f32⟩
  | 56 => ⟨S384x128, .f32⟩
  | 57 => ⟨S384, .f32⟩
  | 58 => ⟨S384x128, .f32⟩
  | 59 => ⟨S384, .f32⟩
  | 60 => ⟨S384x128, .f32⟩
  | 61 => ⟨S384, .f32⟩
  | 62 => ⟨S_, .i32⟩
  | 63 => ⟨S375x128, .f32⟩
  | 64 => ⟨S375x128, .f32⟩
  | 65 => ⟨S_, .i32⟩
  | 66 => ⟨S_, .i1⟩
  | 67 => ⟨S_, .i32⟩
  | 68 => ⟨S_, .i32⟩
  | 69 => ⟨S1x375x512, .f32⟩
  | 70 => ⟨S375x512, .f32⟩
  | 71 => ⟨S512x384, .f32⟩
  | 72 => ⟨S375x384, .f32⟩
  | 73 => ⟨S1x384, .f32⟩
  | 74 => ⟨S375x384, .f32⟩
  | 75 => ⟨S375x384, .f32⟩
  | 76 => ⟨S128x384, .f32⟩
  | 77 => ⟨S375x384, .f32⟩
  | 78 => ⟨S1x384, .f32⟩
  | 79 => ⟨S375x384, .f32⟩
  | 80 => ⟨S375x384, .f32⟩
  | 81 => ⟨S375x128, .f32⟩
  | 82 => ⟨S375x128, .f32⟩
  | 83 => ⟨S375x128, .f32⟩
  | 84 => ⟨S375x128, .f32⟩
  | 85 => ⟨S375x128, .f32⟩
  | 86 => ⟨S375x128, .f32⟩
  | 87 => ⟨S375x128, .f32⟩
  | 88 => ⟨S375x128, .f32⟩
  | 89 => ⟨S375x128, .f32⟩
  | 90 => ⟨S_, .f32⟩
  | 91 => ⟨S375x128, .f32⟩
  | 92 => ⟨S375x128, .f32⟩
  | 93 => ⟨S_, .f32⟩
  | 94 => ⟨S375x128, .f32⟩
  | 95 => ⟨S375x128, .f32⟩
  | 96 => ⟨S375x128, .f32⟩
  | 97 => ⟨S375x128, .f32⟩
  | 98 => ⟨S375x128, .f32⟩
  | 99 => ⟨S_, .f32⟩
  | 100 => ⟨S375x128, .f32⟩
  | 101 => ⟨S375x128, .f32⟩
  | 102 => ⟨S_, .f32⟩
  | 103 => ⟨S375x128, .f32⟩
  | 104 => ⟨S375x128, .f32⟩
  | 105 => ⟨S375x128, .f32⟩
  | 106 => ⟨S375x128, .f32⟩
  | 107 => ⟨S375x128, .f32⟩
  | 108 => ⟨S_, .f32⟩
  | 109 => ⟨S375x128, .f32⟩
  | 110 => ⟨S375x128, .f32⟩
  | 111 => ⟨S375x128, .f32⟩
  | 112 => ⟨S375x128, .f32⟩
  | 113 => ⟨S375x128, .f32⟩
  | 114 => ⟨S128x384, .f32⟩
  | 115 => ⟨S375x384, .f32⟩
  | 116 => ⟨S1x384, .f32⟩
  | 117 => ⟨S375x384, .f32⟩
  | 118 => ⟨S375x384, .f32⟩
  | 119 => ⟨S128x384, .f32⟩
  | 120 => ⟨S375x384, .f32⟩
  | 121 => ⟨S1x384, .f32⟩
  | 122 => ⟨S375x384, .f32⟩
  | 123 => ⟨S375x384, .f32⟩
  | 124 => ⟨S375x128, .f32⟩
  | 125 => ⟨S375x128, .f32⟩
  | 126 => ⟨S375x128, .f32⟩
  | 127 => ⟨S375x128, .f32⟩
  | _ => ⟨S5x5x1x224x224, .f32⟩

abbrev hbmTy0_6 (i : Nat) : BufTy := match i % 128 with
  | 0 => ⟨S375x128, .f32⟩
  | 1 => ⟨S375x128, .f32⟩
  | 2 => ⟨S375x128, .f32⟩
  | 3 => ⟨S375x128, .f32⟩
  | 4 => ⟨S375x128, .f32⟩
  | 5 => ⟨S_, .f32⟩
  | 6 => ⟨S375x128, .f32⟩
  | 7 => ⟨S375x128, .f32⟩
  | 8 => ⟨S_, .f32⟩
  | 9 => ⟨S375x128, .f32⟩
  | 10 => ⟨S375x128, .f32⟩
  | 11 => ⟨S375x128, .f32⟩
  | 12 => ⟨S375x128, .f32⟩
  | 13 => ⟨S375x128, .f32⟩
  | 14 => ⟨S_, .f32⟩
  | 15 => ⟨S375x128, .f32⟩
  | 16 => ⟨S375x128, .f32⟩
  | 17 => ⟨S_, .f32⟩
  | 18 => ⟨S375x128, .f32⟩
  | 19 => ⟨S375x128, .f32⟩
  | 20 => ⟨S375x128, .f32⟩
  | 21 => ⟨S375x128, .f32⟩
  | 22 => ⟨S375x128, .f32⟩
  | 23 => ⟨S_, .f32⟩
  | 24 => ⟨S375x128, .f32⟩
  | 25 => ⟨S375x128, .f32⟩
  | 26 => ⟨S375x128, .f32⟩
  | 27 => ⟨S375x128, .f32⟩
  | 28 => ⟨S375x128, .f32⟩
  | 29 => ⟨S_, .i32⟩
  | 30 => ⟨S_, .i32⟩
  | 31 => ⟨S128x1, .f32⟩
  | 32 => ⟨S375x1, .f32⟩
  | 33 => ⟨S1x1, .f32⟩
  | 34 => ⟨S375x1, .f32⟩
  | 35 => ⟨S375x1, .f32⟩
  | 36 => ⟨S15x5x5, .f32⟩
  | 37 => ⟨S_, .f32⟩
  | 38 => ⟨S15x5, .f32⟩
  | 39 => ⟨S_, .f32⟩
  | 40 => ⟨S15, .f32⟩
  | 41 => ⟨S_, .f32⟩
  | 42 => ⟨S15, .f32⟩
  | 43 => ⟨S15, .f32⟩
  | 44 => ⟨S15x1, .f32⟩
  | 45 => ⟨S15x5, .f32⟩
  | 46 => ⟨S15x5, .f32⟩
  | 47 => ⟨S15x5, .f32⟩
  | 48 => ⟨S_, .f32⟩
  | 49 => ⟨S15, .f32⟩
  | 50 => ⟨S15x1, .f32⟩
  | 51 => ⟨S15x1, .f32⟩
  | 52 => ⟨S15x5, .f32⟩
  | 53 => ⟨S15x5, .f32⟩
  | _ => ⟨S5x5x1x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S5x5x1x224x224, .f32⟩

abbrev bufTy : (tb : Table) → Fin (tcTables nBuf tb) → BufTy
  | .hbm, ⟨i, _⟩ => hbmTy i
  | _, _ => ⟨S5x5x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_c : Ref sig .tc := ⟨.hbm, 31, rfl⟩
abbrev main_call0_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_1 : Ref sig .tc := ⟨.hbm, 102, rfl⟩
abbrev main_v68 : Ref sig .tc := ⟨.hbm, 103, rfl⟩
abbrev main_v69 : Ref sig .tc := ⟨.hbm, 104, rfl⟩
abbrev main_cst_2 : Ref sig .tc := ⟨.hbm, 105, rfl⟩
abbrev main_v70 : Ref sig .tc := ⟨.hbm, 106, rfl⟩
abbrev main_v71 : Ref sig .tc := ⟨.hbm, 107, rfl⟩
abbrev main_c_3 : Ref sig .tc := ⟨.hbm, 108, rfl⟩
abbrev main_call1_v0 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_4 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_5 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_6 : Ref sig .tc := ⟨.hbm, 179, rfl⟩
abbrev main_v139 : Ref sig .tc := ⟨.hbm, 180, rfl⟩
abbrev main_v140 : Ref sig .tc := ⟨.hbm, 181, rfl⟩
abbrev main_cst_7 : Ref sig .tc := ⟨.hbm, 182, rfl⟩
abbrev main_v141 : Ref sig .tc := ⟨.hbm, 183, rfl⟩
abbrev main_v142 : Ref sig .tc := ⟨.hbm, 184, rfl⟩
abbrev main_c_8 : Ref sig .tc := ⟨.hbm, 185, rfl⟩
abbrev main_call2_v0 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_9 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_cst_10 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_cst_11 : Ref sig .tc := ⟨.hbm, 256, rfl⟩
abbrev main_v210 : Ref sig .tc := ⟨.hbm, 257, rfl⟩
abbrev main_v211 : Ref sig .tc := ⟨.hbm, 258, rfl⟩
abbrev main_cst_12 : Ref sig .tc := ⟨.hbm, 259, rfl⟩
abbrev main_v212 : Ref sig .tc := ⟨.hbm, 260, rfl⟩
abbrev main_v213 : Ref sig .tc := ⟨.hbm, 261, rfl⟩
abbrev main_c_13 : Ref sig .tc := ⟨.hbm, 262, rfl⟩
abbrev main_call3_v0 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_cst_14 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_cst_15 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_cst_16 : Ref sig .tc := ⟨.hbm, 333, rfl⟩
abbrev main_v281 : Ref sig .tc := ⟨.hbm, 334, rfl⟩
abbrev main_v282 : Ref sig .tc := ⟨.hbm, 335, rfl⟩
abbrev main_cst_17 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_c_18 : Ref sig .tc := ⟨.hbm, 341, rfl⟩
abbrev main_call4_v0 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩
abbrev main_cst_19 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_v307 : Ref sig .tc := ⟨.hbm, 364, rfl⟩
abbrev main_v308 : Ref sig .tc := ⟨.hbm, 365, rfl⟩
abbrev main_v309 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_v318 : Ref sig .tc := ⟨.hbm, 375, rfl⟩
abbrev main_v319 : Ref sig .tc := ⟨.hbm, 376, rfl⟩
abbrev main_v320 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_cst_20 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_cst_21 : Ref sig .tc := ⟨.hbm, 412, rfl⟩
abbrev main_v354 : Ref sig .tc := ⟨.hbm, 413, rfl⟩
abbrev main_v355 : Ref sig .tc := ⟨.hbm, 414, rfl⟩
abbrev main_cst_22 : Ref sig .tc := ⟨.hbm, 415, rfl⟩
abbrev main_v356 : Ref sig .tc := ⟨.hbm, 416, rfl⟩
abbrev main_v357 : Ref sig .tc := ⟨.hbm, 417, rfl⟩
abbrev main_c_23 : Ref sig .tc := ⟨.hbm, 418, rfl⟩
abbrev main_call5_v0 : Ref sig .tc := ⟨.hbm, 419, rfl⟩
abbrev main_v358 : Ref sig .tc := ⟨.hbm, 420, rfl⟩
abbrev main_v359 : Ref sig .tc := ⟨.hbm, 421, rfl⟩
abbrev main_v360 : Ref sig .tc := ⟨.hbm, 422, rfl⟩
abbrev main_v361 : Ref sig .tc := ⟨.hbm, 423, rfl⟩
abbrev main_v362 : Ref sig .tc := ⟨.hbm, 424, rfl⟩
abbrev main_v363 : Ref sig .tc := ⟨.hbm, 425, rfl⟩
abbrev main_cst_24 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩
abbrev main_v372 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩
abbrev main_v381 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_v385 : Ref sig .tc := ⟨.hbm, 448, rfl⟩
abbrev main_v386 : Ref sig .tc := ⟨.hbm, 449, rfl⟩
abbrev main_v387 : Ref sig .tc := ⟨.hbm, 450, rfl⟩
abbrev main_v388 : Ref sig .tc := ⟨.hbm, 451, rfl⟩
abbrev main_v389 : Ref sig .tc := ⟨.hbm, 452, rfl⟩
abbrev main_v390 : Ref sig .tc := ⟨.hbm, 453, rfl⟩
abbrev main_v391 : Ref sig .tc := ⟨.hbm, 454, rfl⟩
abbrev main_v392 : Ref sig .tc := ⟨.hbm, 455, rfl⟩
abbrev main_v393 : Ref sig .tc := ⟨.hbm, 456, rfl⟩
abbrev main_v394 : Ref sig .tc := ⟨.hbm, 457, rfl⟩
abbrev main_v395 : Ref sig .tc := ⟨.hbm, 458, rfl⟩
abbrev main_v396 : Ref sig .tc := ⟨.hbm, 459, rfl⟩
abbrev main_v397 : Ref sig .tc := ⟨.hbm, 460, rfl⟩
abbrev main_v398 : Ref sig .tc := ⟨.hbm, 461, rfl⟩
abbrev main_v399 : Ref sig .tc := ⟨.hbm, 462, rfl⟩
abbrev main_v400 : Ref sig .tc := ⟨.hbm, 463, rfl⟩
abbrev main_v401 : Ref sig .tc := ⟨.hbm, 464, rfl⟩
abbrev main_v402 : Ref sig .tc := ⟨.hbm, 465, rfl⟩
abbrev main_v403 : Ref sig .tc := ⟨.hbm, 466, rfl⟩
abbrev main_v404 : Ref sig .tc := ⟨.hbm, 467, rfl⟩
abbrev main_v405 : Ref sig .tc := ⟨.hbm, 468, rfl⟩
abbrev main_v406 : Ref sig .tc := ⟨.hbm, 469, rfl⟩
abbrev main_v407 : Ref sig .tc := ⟨.hbm, 470, rfl⟩
abbrev main_v408 : Ref sig .tc := ⟨.hbm, 471, rfl⟩
abbrev main_v409 : Ref sig .tc := ⟨.hbm, 472, rfl⟩
abbrev main_v410 : Ref sig .tc := ⟨.hbm, 473, rfl⟩
abbrev main_v411 : Ref sig .tc := ⟨.hbm, 474, rfl⟩
abbrev main_v412 : Ref sig .tc := ⟨.hbm, 475, rfl⟩
abbrev main_v413 : Ref sig .tc := ⟨.hbm, 476, rfl⟩
abbrev main_v414 : Ref sig .tc := ⟨.hbm, 477, rfl⟩
abbrev main_v415 : Ref sig .tc := ⟨.hbm, 478, rfl⟩
abbrev main_v416 : Ref sig .tc := ⟨.hbm, 479, rfl⟩
abbrev main_cst_25 : Ref sig .tc := ⟨.hbm, 480, rfl⟩
abbrev main_v417 : Ref sig .tc := ⟨.hbm, 481, rfl⟩
abbrev main_v418 : Ref sig .tc := ⟨.hbm, 482, rfl⟩
abbrev main_v419 : Ref sig .tc := ⟨.hbm, 483, rfl⟩
abbrev main_v420 : Ref sig .tc := ⟨.hbm, 484, rfl⟩
abbrev main_v421 : Ref sig .tc := ⟨.hbm, 485, rfl⟩
abbrev main_v422 : Ref sig .tc := ⟨.hbm, 486, rfl⟩
abbrev main_v423 : Ref sig .tc := ⟨.hbm, 487, rfl⟩
abbrev main_v424 : Ref sig .tc := ⟨.hbm, 488, rfl⟩
abbrev main_cst_26 : Ref sig .tc := ⟨.hbm, 489, rfl⟩
abbrev main_v425 : Ref sig .tc := ⟨.hbm, 490, rfl⟩
abbrev main_v426 : Ref sig .tc := ⟨.hbm, 491, rfl⟩
abbrev main_cst_27 : Ref sig .tc := ⟨.hbm, 492, rfl⟩
abbrev main_v427 : Ref sig .tc := ⟨.hbm, 493, rfl⟩
abbrev main_v428 : Ref sig .tc := ⟨.hbm, 494, rfl⟩
abbrev main_c_28 : Ref sig .tc := ⟨.hbm, 495, rfl⟩
abbrev main_call6_v0 : Ref sig .tc := ⟨.hbm, 496, rfl⟩
abbrev main_v429 : Ref sig .tc := ⟨.hbm, 497, rfl⟩
abbrev main_v430 : Ref sig .tc := ⟨.hbm, 498, rfl⟩
abbrev main_v431 : Ref sig .tc := ⟨.hbm, 499, rfl⟩
abbrev main_v432 : Ref sig .tc := ⟨.hbm, 500, rfl⟩
abbrev main_v433 : Ref sig .tc := ⟨.hbm, 501, rfl⟩
abbrev main_v434 : Ref sig .tc := ⟨.hbm, 502, rfl⟩
abbrev main_cst_29 : Ref sig .tc := ⟨.hbm, 503, rfl⟩
abbrev main_v435 : Ref sig .tc := ⟨.hbm, 504, rfl⟩
abbrev main_v436 : Ref sig .tc := ⟨.hbm, 505, rfl⟩
abbrev main_v437 : Ref sig .tc := ⟨.hbm, 506, rfl⟩
abbrev main_v438 : Ref sig .tc := ⟨.hbm, 507, rfl⟩
abbrev main_v439 : Ref sig .tc := ⟨.hbm, 508, rfl⟩
abbrev main_v440 : Ref sig .tc := ⟨.hbm, 509, rfl⟩
abbrev main_v441 : Ref sig .tc := ⟨.hbm, 510, rfl⟩
abbrev main_v442 : Ref sig .tc := ⟨.hbm, 511, rfl⟩
abbrev main_v443 : Ref sig .tc := ⟨.hbm, 512, rfl⟩
abbrev main_v444 : Ref sig .tc := ⟨.hbm, 513, rfl⟩
abbrev main_v445 : Ref sig .tc := ⟨.hbm, 514, rfl⟩
abbrev main_v446 : Ref sig .tc := ⟨.hbm, 515, rfl⟩
abbrev main_v447 : Ref sig .tc := ⟨.hbm, 516, rfl⟩
abbrev main_v448 : Ref sig .tc := ⟨.hbm, 517, rfl⟩
abbrev main_v449 : Ref sig .tc := ⟨.hbm, 518, rfl⟩
abbrev main_v450 : Ref sig .tc := ⟨.hbm, 519, rfl⟩
abbrev main_v451 : Ref sig .tc := ⟨.hbm, 520, rfl⟩
abbrev main_v452 : Ref sig .tc := ⟨.hbm, 521, rfl⟩
abbrev main_v453 : Ref sig .tc := ⟨.hbm, 522, rfl⟩
abbrev main_v454 : Ref sig .tc := ⟨.hbm, 523, rfl⟩
abbrev main_v455 : Ref sig .tc := ⟨.hbm, 524, rfl⟩
abbrev main_v456 : Ref sig .tc := ⟨.hbm, 525, rfl⟩
abbrev main_v457 : Ref sig .tc := ⟨.hbm, 526, rfl⟩
abbrev main_v458 : Ref sig .tc := ⟨.hbm, 527, rfl⟩
abbrev main_v459 : Ref sig .tc := ⟨.hbm, 528, rfl⟩
abbrev main_v460 : Ref sig .tc := ⟨.hbm, 529, rfl⟩
abbrev main_v461 : Ref sig .tc := ⟨.hbm, 530, rfl⟩
abbrev main_v462 : Ref sig .tc := ⟨.hbm, 531, rfl⟩
abbrev main_v463 : Ref sig .tc := ⟨.hbm, 532, rfl⟩
abbrev main_v464 : Ref sig .tc := ⟨.hbm, 533, rfl⟩
abbrev main_v465 : Ref sig .tc := ⟨.hbm, 534, rfl⟩
abbrev main_v466 : Ref sig .tc := ⟨.hbm, 535, rfl⟩
abbrev main_v467 : Ref sig .tc := ⟨.hbm, 536, rfl⟩
abbrev main_v468 : Ref sig .tc := ⟨.hbm, 537, rfl⟩
abbrev main_v469 : Ref sig .tc := ⟨.hbm, 538, rfl⟩
abbrev main_v470 : Ref sig .tc := ⟨.hbm, 539, rfl⟩
abbrev main_v471 : Ref sig .tc := ⟨.hbm, 540, rfl⟩
abbrev main_v472 : Ref sig .tc := ⟨.hbm, 541, rfl⟩
abbrev main_v473 : Ref sig .tc := ⟨.hbm, 542, rfl⟩
abbrev main_v474 : Ref sig .tc := ⟨.hbm, 543, rfl⟩
abbrev main_v475 : Ref sig .tc := ⟨.hbm, 544, rfl⟩
abbrev main_v476 : Ref sig .tc := ⟨.hbm, 545, rfl⟩
abbrev main_v477 : Ref sig .tc := ⟨.hbm, 546, rfl⟩
abbrev main_v478 : Ref sig .tc := ⟨.hbm, 547, rfl⟩
abbrev main_v479 : Ref sig .tc := ⟨.hbm, 548, rfl⟩
abbrev main_v480 : Ref sig .tc := ⟨.hbm, 549, rfl⟩
abbrev main_v481 : Ref sig .tc := ⟨.hbm, 550, rfl⟩
abbrev main_v482 : Ref sig .tc := ⟨.hbm, 551, rfl⟩
abbrev main_v483 : Ref sig .tc := ⟨.hbm, 552, rfl⟩
abbrev main_v484 : Ref sig .tc := ⟨.hbm, 553, rfl⟩
abbrev main_v485 : Ref sig .tc := ⟨.hbm, 554, rfl⟩
abbrev main_v486 : Ref sig .tc := ⟨.hbm, 555, rfl⟩
abbrev main_v487 : Ref sig .tc := ⟨.hbm, 556, rfl⟩
abbrev main_cst_30 : Ref sig .tc := ⟨.hbm, 557, rfl⟩
abbrev main_v488 : Ref sig .tc := ⟨.hbm, 558, rfl⟩
abbrev main_v489 : Ref sig .tc := ⟨.hbm, 559, rfl⟩
abbrev main_v490 : Ref sig .tc := ⟨.hbm, 560, rfl⟩
abbrev main_v491 : Ref sig .tc := ⟨.hbm, 561, rfl⟩
abbrev main_v492 : Ref sig .tc := ⟨.hbm, 562, rfl⟩
abbrev main_v493 : Ref sig .tc := ⟨.hbm, 563, rfl⟩
abbrev main_v494 : Ref sig .tc := ⟨.hbm, 564, rfl⟩
abbrev main_v495 : Ref sig .tc := ⟨.hbm, 565, rfl⟩
abbrev main_cst_31 : Ref sig .tc := ⟨.hbm, 566, rfl⟩
abbrev main_v496 : Ref sig .tc := ⟨.hbm, 567, rfl⟩
abbrev main_v497 : Ref sig .tc := ⟨.hbm, 568, rfl⟩
abbrev main_cst_32 : Ref sig .tc := ⟨.hbm, 569, rfl⟩
abbrev main_v498 : Ref sig .tc := ⟨.hbm, 570, rfl⟩
abbrev main_v499 : Ref sig .tc := ⟨.hbm, 571, rfl⟩
abbrev main_c_33 : Ref sig .tc := ⟨.hbm, 572, rfl⟩
abbrev main_call7_v0 : Ref sig .tc := ⟨.hbm, 573, rfl⟩
abbrev main_v500 : Ref sig .tc := ⟨.hbm, 574, rfl⟩
abbrev main_v501 : Ref sig .tc := ⟨.hbm, 575, rfl⟩
abbrev main_v502 : Ref sig .tc := ⟨.hbm, 576, rfl⟩
abbrev main_v503 : Ref sig .tc := ⟨.hbm, 577, rfl⟩
abbrev main_v504 : Ref sig .tc := ⟨.hbm, 578, rfl⟩
abbrev main_v505 : Ref sig .tc := ⟨.hbm, 579, rfl⟩
abbrev main_cst_34 : Ref sig .tc := ⟨.hbm, 580, rfl⟩
abbrev main_v506 : Ref sig .tc := ⟨.hbm, 581, rfl⟩
abbrev main_v507 : Ref sig .tc := ⟨.hbm, 582, rfl⟩
abbrev main_v508 : Ref sig .tc := ⟨.hbm, 583, rfl⟩
abbrev main_v509 : Ref sig .tc := ⟨.hbm, 584, rfl⟩
abbrev main_v510 : Ref sig .tc := ⟨.hbm, 585, rfl⟩
abbrev main_v511 : Ref sig .tc := ⟨.hbm, 586, rfl⟩
abbrev main_v512 : Ref sig .tc := ⟨.hbm, 587, rfl⟩
abbrev main_v513 : Ref sig .tc := ⟨.hbm, 588, rfl⟩
abbrev main_v514 : Ref sig .tc := ⟨.hbm, 589, rfl⟩
abbrev main_v515 : Ref sig .tc := ⟨.hbm, 590, rfl⟩
abbrev main_v516 : Ref sig .tc := ⟨.hbm, 591, rfl⟩
abbrev main_v517 : Ref sig .tc := ⟨.hbm, 592, rfl⟩
abbrev main_v518 : Ref sig .tc := ⟨.hbm, 593, rfl⟩
abbrev main_v519 : Ref sig .tc := ⟨.hbm, 594, rfl⟩
abbrev main_v520 : Ref sig .tc := ⟨.hbm, 595, rfl⟩
abbrev main_v521 : Ref sig .tc := ⟨.hbm, 596, rfl⟩
abbrev main_v522 : Ref sig .tc := ⟨.hbm, 597, rfl⟩
abbrev main_v523 : Ref sig .tc := ⟨.hbm, 598, rfl⟩
abbrev main_v524 : Ref sig .tc := ⟨.hbm, 599, rfl⟩
abbrev main_v525 : Ref sig .tc := ⟨.hbm, 600, rfl⟩
abbrev main_v526 : Ref sig .tc := ⟨.hbm, 601, rfl⟩
abbrev main_v527 : Ref sig .tc := ⟨.hbm, 602, rfl⟩
abbrev main_v528 : Ref sig .tc := ⟨.hbm, 603, rfl⟩
abbrev main_v529 : Ref sig .tc := ⟨.hbm, 604, rfl⟩
abbrev main_v530 : Ref sig .tc := ⟨.hbm, 605, rfl⟩
abbrev main_v531 : Ref sig .tc := ⟨.hbm, 606, rfl⟩
abbrev main_v532 : Ref sig .tc := ⟨.hbm, 607, rfl⟩
abbrev main_v533 : Ref sig .tc := ⟨.hbm, 608, rfl⟩
abbrev main_v534 : Ref sig .tc := ⟨.hbm, 609, rfl⟩
abbrev main_v535 : Ref sig .tc := ⟨.hbm, 610, rfl⟩
abbrev main_v536 : Ref sig .tc := ⟨.hbm, 611, rfl⟩
abbrev main_v537 : Ref sig .tc := ⟨.hbm, 612, rfl⟩
abbrev main_v538 : Ref sig .tc := ⟨.hbm, 613, rfl⟩
abbrev main_v539 : Ref sig .tc := ⟨.hbm, 614, rfl⟩
abbrev main_v540 : Ref sig .tc := ⟨.hbm, 615, rfl⟩
abbrev main_v541 : Ref sig .tc := ⟨.hbm, 616, rfl⟩
abbrev main_v542 : Ref sig .tc := ⟨.hbm, 617, rfl⟩
abbrev main_v543 : Ref sig .tc := ⟨.hbm, 618, rfl⟩
abbrev main_v544 : Ref sig .tc := ⟨.hbm, 619, rfl⟩
abbrev main_v545 : Ref sig .tc := ⟨.hbm, 620, rfl⟩
abbrev main_v546 : Ref sig .tc := ⟨.hbm, 621, rfl⟩
abbrev main_v547 : Ref sig .tc := ⟨.hbm, 622, rfl⟩
abbrev main_v548 : Ref sig .tc := ⟨.hbm, 623, rfl⟩
abbrev main_v549 : Ref sig .tc := ⟨.hbm, 624, rfl⟩
abbrev main_v550 : Ref sig .tc := ⟨.hbm, 625, rfl⟩
abbrev main_v551 : Ref sig .tc := ⟨.hbm, 626, rfl⟩
abbrev main_v552 : Ref sig .tc := ⟨.hbm, 627, rfl⟩
abbrev main_v553 : Ref sig .tc := ⟨.hbm, 628, rfl⟩
abbrev main_v554 : Ref sig .tc := ⟨.hbm, 629, rfl⟩
abbrev main_v555 : Ref sig .tc := ⟨.hbm, 630, rfl⟩
abbrev main_v556 : Ref sig .tc := ⟨.hbm, 631, rfl⟩
abbrev main_v557 : Ref sig .tc := ⟨.hbm, 632, rfl⟩
abbrev main_v558 : Ref sig .tc := ⟨.hbm, 633, rfl⟩
abbrev main_cst_35 : Ref sig .tc := ⟨.hbm, 634, rfl⟩
abbrev main_v559 : Ref sig .tc := ⟨.hbm, 635, rfl⟩
abbrev main_v560 : Ref sig .tc := ⟨.hbm, 636, rfl⟩
abbrev main_v561 : Ref sig .tc := ⟨.hbm, 637, rfl⟩
abbrev main_v562 : Ref sig .tc := ⟨.hbm, 638, rfl⟩
abbrev main_v563 : Ref sig .tc := ⟨.hbm, 639, rfl⟩
abbrev main_v564 : Ref sig .tc := ⟨.hbm, 640, rfl⟩
abbrev main_v565 : Ref sig .tc := ⟨.hbm, 641, rfl⟩
abbrev main_v566 : Ref sig .tc := ⟨.hbm, 642, rfl⟩
abbrev main_cst_36 : Ref sig .tc := ⟨.hbm, 643, rfl⟩
abbrev main_v567 : Ref sig .tc := ⟨.hbm, 644, rfl⟩
abbrev main_v568 : Ref sig .tc := ⟨.hbm, 645, rfl⟩
abbrev main_cst_37 : Ref sig .tc := ⟨.hbm, 646, rfl⟩
abbrev main_v569 : Ref sig .tc := ⟨.hbm, 647, rfl⟩
abbrev main_v570 : Ref sig .tc := ⟨.hbm, 648, rfl⟩
abbrev main_v571 : Ref sig .tc := ⟨.hbm, 649, rfl⟩
abbrev main_v572 : Ref sig .tc := ⟨.hbm, 650, rfl⟩
abbrev main_v573 : Ref sig .tc := ⟨.hbm, 651, rfl⟩
abbrev main_v574 : Ref sig .tc := ⟨.hbm, 652, rfl⟩
abbrev main_v575 : Ref sig .tc := ⟨.hbm, 653, rfl⟩
abbrev main_v576 : Ref sig .tc := ⟨.hbm, 654, rfl⟩
abbrev main_v577 : Ref sig .tc := ⟨.hbm, 655, rfl⟩
abbrev main_v578 : Ref sig .tc := ⟨.hbm, 656, rfl⟩
abbrev main_v579 : Ref sig .tc := ⟨.hbm, 657, rfl⟩
abbrev main_v580 : Ref sig .tc := ⟨.hbm, 658, rfl⟩
abbrev main_v581 : Ref sig .tc := ⟨.hbm, 659, rfl⟩
abbrev main_v582 : Ref sig .tc := ⟨.hbm, 660, rfl⟩
abbrev main_v583 : Ref sig .tc := ⟨.hbm, 661, rfl⟩
abbrev main_v584 : Ref sig .tc := ⟨.hbm, 662, rfl⟩
abbrev main_v585 : Ref sig .tc := ⟨.hbm, 663, rfl⟩
abbrev main_v586 : Ref sig .tc := ⟨.hbm, 664, rfl⟩
abbrev main_v587 : Ref sig .tc := ⟨.hbm, 665, rfl⟩
abbrev main_v588 : Ref sig .tc := ⟨.hbm, 666, rfl⟩
abbrev main_cst_38 : Ref sig .tc := ⟨.hbm, 667, rfl⟩
abbrev main_v589 : Ref sig .tc := ⟨.hbm, 668, rfl⟩
abbrev main_cst_39 : Ref sig .tc := ⟨.hbm, 669, rfl⟩
abbrev main_v590 : Ref sig .tc := ⟨.hbm, 670, rfl⟩
abbrev main_cst_40 : Ref sig .tc := ⟨.hbm, 671, rfl⟩
abbrev main_v591 : Ref sig .tc := ⟨.hbm, 672, rfl⟩
abbrev main_v592 : Ref sig .tc := ⟨.hbm, 673, rfl⟩
abbrev main_v593 : Ref sig .tc := ⟨.hbm, 674, rfl⟩
abbrev main_v594 : Ref sig .tc := ⟨.hbm, 675, rfl⟩
abbrev main_v595 : Ref sig .tc := ⟨.hbm, 676, rfl⟩
abbrev main_v596 : Ref sig .tc := ⟨.hbm, 677, rfl⟩
abbrev main_cst_41 : Ref sig .tc := ⟨.hbm, 678, rfl⟩
abbrev main_v597 : Ref sig .tc := ⟨.hbm, 679, rfl⟩
abbrev main_v598 : Ref sig .tc := ⟨.hbm, 680, rfl⟩
abbrev main_v599 : Ref sig .tc := ⟨.hbm, 681, rfl⟩
abbrev main_v600 : Ref sig .tc := ⟨.hbm, 682, rfl⟩
abbrev main_v601 : Ref sig .tc := ⟨.hbm, 683, rfl⟩
abbrev main_v602 : Ref sig .tc := ⟨.hbm, 684, rfl⟩
abbrev main_v603 : Ref sig .tc := ⟨.hbm, 685, rfl⟩
abbrev main_v604 : Ref sig .tc := ⟨.hbm, 686, rfl⟩
abbrev main_v605 : Ref sig .tc := ⟨.hbm, 687, rfl⟩
abbrev main_v606 : Ref sig .tc := ⟨.hbm, 688, rfl⟩
abbrev main_cst_42 : Ref sig .tc := ⟨.hbm, 689, rfl⟩
abbrev main_v607 : Ref sig .tc := ⟨.hbm, 690, rfl⟩
abbrev main_v608 : Ref sig .tc := ⟨.hbm, 691, rfl⟩
abbrev main_c_43 : Ref sig .tc := ⟨.hbm, 692, rfl⟩
abbrev main_v609_0 : Ref sig .tc := ⟨.hbm, 693, rfl⟩
abbrev main_v609_1 : Ref sig .tc := ⟨.hbm, 694, rfl⟩
abbrev main_v609_2 : Ref sig .tc := ⟨.hbm, 695, rfl⟩
abbrev main_v609_3 : Ref sig .tc := ⟨.hbm, 696, rfl⟩
abbrev main_v609_4 : Ref sig .tc := ⟨.hbm, 697, rfl⟩
abbrev main_v609_5 : Ref sig .tc := ⟨.hbm, 698, rfl⟩
abbrev main_v609_6 : Ref sig .tc := ⟨.hbm, 699, rfl⟩
abbrev main_v609_7 : Ref sig .tc := ⟨.hbm, 700, rfl⟩
abbrev main_v609_8 : Ref sig .tc := ⟨.hbm, 701, rfl⟩
abbrev main_v609_9 : Ref sig .tc := ⟨.hbm, 702, rfl⟩
abbrev main_v609_10 : Ref sig .tc := ⟨.hbm, 703, rfl⟩
abbrev main_v609_11 : Ref sig .tc := ⟨.hbm, 704, rfl⟩
abbrev main_while0c_c_56 : Ref sig .tc := ⟨.hbm, 705, rfl⟩
abbrev main_while0c_v618 : Ref sig .tc := ⟨.hbm, 706, rfl⟩
abbrev main_while0b_call8_c : Ref sig .tc := ⟨.hbm, 707, rfl⟩
abbrev main_while0b_call8_c_0 : Ref sig .tc := ⟨.hbm, 708, rfl⟩
abbrev main_while0b_call8_v0 : Ref sig .tc := ⟨.hbm, 709, rfl⟩
abbrev main_while0b_v618 : Ref sig .tc := ⟨.hbm, 710, rfl⟩
abbrev main_while0b_v619 : Ref sig .tc := ⟨.hbm, 711, rfl⟩
abbrev main_while0b_v620 : Ref sig .tc := ⟨.hbm, 712, rfl⟩
abbrev main_while0b_v621 : Ref sig .tc := ⟨.hbm, 713, rfl⟩
abbrev main_while0b_v622 : Ref sig .tc := ⟨.hbm, 714, rfl⟩
abbrev main_while0b_v623 : Ref sig .tc := ⟨.hbm, 715, rfl⟩
abbrev main_while0b_v624 : Ref sig .tc := ⟨.hbm, 716, rfl⟩
abbrev main_while0b_v625 : Ref sig .tc := ⟨.hbm, 717, rfl⟩
abbrev main_while0b_v626 : Ref sig .tc := ⟨.hbm, 718, rfl⟩
abbrev main_while0b_v627 : Ref sig .tc := ⟨.hbm, 719, rfl⟩
abbrev main_while0b_v628 : Ref sig .tc := ⟨.hbm, 720, rfl⟩
abbrev main_while0b_v629 : Ref sig .tc := ⟨.hbm, 721, rfl⟩
abbrev main_while0b_v630 : Ref sig .tc := ⟨.hbm, 722, rfl⟩
abbrev main_while0b_v631 : Ref sig .tc := ⟨.hbm, 723, rfl⟩
abbrev main_while0b_v632 : Ref sig .tc := ⟨.hbm, 724, rfl⟩
abbrev main_while0b_v633 : Ref sig .tc := ⟨.hbm, 725, rfl⟩
abbrev main_while0b_v634 : Ref sig .tc := ⟨.hbm, 726, rfl⟩
abbrev main_while0b_v635 : Ref sig .tc := ⟨.hbm, 727, rfl⟩
abbrev main_while0b_v636 : Ref sig .tc := ⟨.hbm, 728, rfl⟩
abbrev main_while0b_v637 : Ref sig .tc := ⟨.hbm, 729, rfl⟩
abbrev main_while0b_cst_56 : Ref sig .tc := ⟨.hbm, 730, rfl⟩
abbrev main_while0b_v638 : Ref sig .tc := ⟨.hbm, 731, rfl⟩
abbrev main_while0b_v639 : Ref sig .tc := ⟨.hbm, 732, rfl⟩
abbrev main_while0b_cst_57 : Ref sig .tc := ⟨.hbm, 733, rfl⟩
abbrev main_while0b_v640 : Ref sig .tc := ⟨.hbm, 734, rfl⟩
abbrev main_while0b_v641 : Ref sig .tc := ⟨.hbm, 735, rfl⟩
abbrev main_while0b_v642 : Ref sig .tc := ⟨.hbm, 736, rfl⟩
abbrev main_while0b_v643 : Ref sig .tc := ⟨.hbm, 737, rfl⟩
abbrev main_while0b_v644 : Ref sig .tc := ⟨.hbm, 738, rfl⟩
abbrev main_while0b_cst_58 : Ref sig .tc := ⟨.hbm, 739, rfl⟩
abbrev main_while0b_v645 : Ref sig .tc := ⟨.hbm, 740, rfl⟩
abbrev main_while0b_v646 : Ref sig .tc := ⟨.hbm, 741, rfl⟩
abbrev main_while0b_cst_59 : Ref sig .tc := ⟨.hbm, 742, rfl⟩
abbrev main_while0b_v647 : Ref sig .tc := ⟨.hbm, 743, rfl⟩
abbrev main_while0b_v648 : Ref sig .tc := ⟨.hbm, 744, rfl⟩
abbrev main_while0b_v649 : Ref sig .tc := ⟨.hbm, 745, rfl⟩
abbrev main_while0b_v650 : Ref sig .tc := ⟨.hbm, 746, rfl⟩
abbrev main_while0b_v651 : Ref sig .tc := ⟨.hbm, 747, rfl⟩
abbrev main_while0b_cst_60 : Ref sig .tc := ⟨.hbm, 748, rfl⟩
abbrev main_while0b_v652 : Ref sig .tc := ⟨.hbm, 749, rfl⟩
abbrev main_while0b_v653 : Ref sig .tc := ⟨.hbm, 750, rfl⟩
abbrev main_while0b_v654 : Ref sig .tc := ⟨.hbm, 751, rfl⟩
abbrev main_while0b_v655 : Ref sig .tc := ⟨.hbm, 752, rfl⟩
abbrev main_while0b_v656 : Ref sig .tc := ⟨.hbm, 753, rfl⟩
abbrev main_while0b_v657 : Ref sig .tc := ⟨.hbm, 754, rfl⟩
abbrev main_while0b_v658 : Ref sig .tc := ⟨.hbm, 755, rfl⟩
abbrev main_while0b_v659 : Ref sig .tc := ⟨.hbm, 756, rfl⟩
abbrev main_while0b_v660 : Ref sig .tc := ⟨.hbm, 757, rfl⟩
abbrev main_while0b_v661 : Ref sig .tc := ⟨.hbm, 758, rfl⟩
abbrev main_while0b_v662 : Ref sig .tc := ⟨.hbm, 759, rfl⟩
abbrev main_while0b_v663 : Ref sig .tc := ⟨.hbm, 760, rfl⟩
abbrev main_while0b_v664 : Ref sig .tc := ⟨.hbm, 761, rfl⟩
abbrev main_while0b_v665 : Ref sig .tc := ⟨.hbm, 762, rfl⟩
abbrev main_while0b_v666 : Ref sig .tc := ⟨.hbm, 763, rfl⟩
abbrev main_while0b_v667 : Ref sig .tc := ⟨.hbm, 764, rfl⟩
abbrev main_while0b_v668 : Ref sig .tc := ⟨.hbm, 765, rfl⟩
abbrev main_while0b_v669 : Ref sig .tc := ⟨.hbm, 766, rfl⟩
abbrev main_while0b_v670 : Ref sig .tc := ⟨.hbm, 767, rfl⟩
abbrev main_while0b_v671 : Ref sig .tc := ⟨.hbm, 768, rfl⟩
abbrev main_while0b_v672 : Ref sig .tc := ⟨.hbm, 769, rfl⟩
abbrev main_while0b_v673 : Ref sig .tc := ⟨.hbm, 770, rfl⟩
abbrev main_while0b_v674 : Ref sig .tc := ⟨.hbm, 771, rfl⟩
abbrev main_while0b_v675 : Ref sig .tc := ⟨.hbm, 772, rfl⟩
abbrev main_while0b_cst_61 : Ref sig .tc := ⟨.hbm, 773, rfl⟩
abbrev main_while0b_v676 : Ref sig .tc := ⟨.hbm, 774, rfl⟩
abbrev main_while0b_v677 : Ref sig .tc := ⟨.hbm, 775, rfl⟩
abbrev main_while0b_cst_62 : Ref sig .tc := ⟨.hbm, 776, rfl⟩
abbrev main_while0b_v678 : Ref sig .tc := ⟨.hbm, 777, rfl⟩
abbrev main_while0b_v679 : Ref sig .tc := ⟨.hbm, 778, rfl⟩
abbrev main_while0b_v680 : Ref sig .tc := ⟨.hbm, 779, rfl⟩
abbrev main_while0b_v681 : Ref sig .tc := ⟨.hbm, 780, rfl⟩
abbrev main_while0b_v682 : Ref sig .tc := ⟨.hbm, 781, rfl⟩
abbrev main_while0b_cst_63 : Ref sig .tc := ⟨.hbm, 782, rfl⟩
abbrev main_while0b_v683 : Ref sig .tc := ⟨.hbm, 783, rfl⟩
abbrev main_while0b_v684 : Ref sig .tc := ⟨.hbm, 784, rfl⟩
abbrev main_while0b_cst_64 : Ref sig .tc := ⟨.hbm, 785, rfl⟩
abbrev main_while0b_v685 : Ref sig .tc := ⟨.hbm, 786, rfl⟩
abbrev main_while0b_v686 : Ref sig .tc := ⟨.hbm, 787, rfl⟩
abbrev main_while0b_v687 : Ref sig .tc := ⟨.hbm, 788, rfl⟩
abbrev main_while0b_v688 : Ref sig .tc := ⟨.hbm, 789, rfl⟩
abbrev main_while0b_v689 : Ref sig .tc := ⟨.hbm, 790, rfl⟩
abbrev main_while0b_cst_65 : Ref sig .tc := ⟨.hbm, 791, rfl⟩
abbrev main_while0b_v690 : Ref sig .tc := ⟨.hbm, 792, rfl⟩
abbrev main_while0b_v691 : Ref sig .tc := ⟨.hbm, 793, rfl⟩
abbrev main_while0b_v692 : Ref sig .tc := ⟨.hbm, 794, rfl⟩
abbrev main_while0b_v693 : Ref sig .tc := ⟨.hbm, 795, rfl⟩
abbrev main_while0b_v694 : Ref sig .tc := ⟨.hbm, 796, rfl⟩
abbrev main_while0b_c_66 : Ref sig .tc := ⟨.hbm, 797, rfl⟩
abbrev main_while0b_v695 : Ref sig .tc := ⟨.hbm, 798, rfl⟩
abbrev main_v610 : Ref sig .tc := ⟨.hbm, 799, rfl⟩
abbrev main_v611 : Ref sig .tc := ⟨.hbm, 800, rfl⟩
abbrev main_v612 : Ref sig .tc := ⟨.hbm, 801, rfl⟩
abbrev main_v613 : Ref sig .tc := ⟨.hbm, 802, rfl⟩
abbrev main_v614 : Ref sig .tc := ⟨.hbm, 803, rfl⟩
abbrev main_v615 : Ref sig .tc := ⟨.hbm, 804, rfl⟩
abbrev main_cst_44 : Ref sig .tc := ⟨.hbm, 805, rfl⟩
abbrev main_v616 : Ref sig .tc := ⟨.hbm, 806, rfl⟩
abbrev main_call9_cst : Ref sig .tc := ⟨.hbm, 807, rfl⟩
abbrev main_call9_v0 : Ref sig .tc := ⟨.hbm, 808, rfl⟩
abbrev main_call9_cst_0 : Ref sig .tc := ⟨.hbm, 809, rfl⟩
abbrev main_call9_v1 : Ref sig .tc := ⟨.hbm, 810, rfl⟩
abbrev main_call9_v2 : Ref sig .tc := ⟨.hbm, 811, rfl⟩
abbrev main_call9_v3 : Ref sig .tc := ⟨.hbm, 812, rfl⟩
abbrev main_call9_v4 : Ref sig .tc := ⟨.hbm, 813, rfl⟩
abbrev main_call9_v5 : Ref sig .tc := ⟨.hbm, 814, rfl⟩
abbrev main_call9_v6 : Ref sig .tc := ⟨.hbm, 815, rfl⟩
abbrev main_call9_cst_1 : Ref sig .tc := ⟨.hbm, 816, rfl⟩
abbrev main_call9_v7 : Ref sig .tc := ⟨.hbm, 817, rfl⟩
abbrev main_call9_v8 : Ref sig .tc := ⟨.hbm, 818, rfl⟩
abbrev main_call9_v9 : Ref sig .tc := ⟨.hbm, 819, rfl⟩
abbrev main_call9_v10 : Ref sig .tc := ⟨.hbm, 820, rfl⟩
abbrev main_v617 : Ref sig .tc := ⟨.hbm, 821, rfl⟩

abbrev nD : Nat := 1
abbrev τ : Topo := Topo.v7x

variable {F : FTy → Type} [FloatOps F]

abbrev main_while0_count : Scf.Loop 32 := ⟨0#32, 49#32, 1#32⟩
-- ==== Proof.Kernel.Encoder.lean ====
/- The encoder call: one image per grid point. Its blocks, what its body stores, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_encoder` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 14, through which its contents are stated (`View.read_writes_of_cover`: the
    choice does not matter). -/
abbrev VO0_14 : View sig .tc .vmem S1x49x64 .f32 := (Memref.whole cc0_stg14_0 : Memref sig .tc .vmem S1x49x64 .f32).view
/-- One staging buffer of output window 15, through which its contents are stated (`View.read_writes_of_cover`: the
    choice does not matter). -/
abbrev VO0_15 : View sig .tc .vmem S1x49x385 .f32 := (Memref.whole cc0_stg15_0 : Memref sig .tc .vmem S1x49x385 .f32).view
/-- One staging buffer of output window 16, through which its contents are stated (`View.read_writes_of_cover`: the
    choice does not matter). -/
abbrev VO0_16 : View sig .tc .vmem S1x49x384 .f32 := (Memref.whole cc0_stg16_0 : Memref sig .tc .vmem S1x49x384 .f32).view
/-- Each window's current staging memref at point `t`, spelled as the pipeline passes it (`bodyAt0`), and its wholeness. -/
abbrev ms0_0 (t : Fin cfg0.N) : Memref sig .tc .vmem S1x9x12544 .f32 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer at a grid point. -/
abbrev ms0_1 (t : Fin cfg0.N) : Memref sig .tc .vmem S9x32 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer at a grid point. -/
abbrev ms0_2 (t : Fin cfg0.N) : Memref sig .tc .vmem S2x32 .f32 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer at a grid point. -/
abbrev ms0_3 (t : Fin cfg0.N) : Memref sig .tc .vmem S9x32x64 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer at a grid point. -/
abbrev ms0_4 (t : Fin cfg0.N) : Memref sig .tc .vmem S2x64 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer at a grid point. -/
abbrev ms0_5 (t : Fin cfg0.N) : Memref sig .tc .vmem S9x64x128 .f32 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer at a grid point. -/
abbrev ms0_6 (t : Fin cfg0.N) : Memref sig .tc .vmem S2x128 .f32 := win0_6.stage (cfg0.slots t 6)
/-- Window 6's staging buffer is whole. -/
abbrev hs0_6 (t : Fin cfg0.N) : (ms0_6 t).IsWhole := hstage0_6 ((cfg0.slots t 6).cast nbuf0_6)
/-- Window 7's staging buffer at a grid point. -/
abbrev ms0_7 (t : Fin cfg0.N) : Memref sig .tc .vmem S9x128x256 .f32 := win0_7.stage (cfg0.slots t 7)
/-- Window 7's staging buffer is whole. -/
abbrev hs0_7 (t : Fin cfg0.N) : (ms0_7 t).IsWhole := hstage0_7 ((cfg0.slots t 7).cast nbuf0_7)
/-- Window 8's staging buffer at a grid point. -/
abbrev ms0_8 (t : Fin cfg0.N) : Memref sig .tc .vmem S2x256 .f32 := win0_8.stage (cfg0.slots t 8)
/-- Window 8's staging buffer is whole. -/
abbrev hs0_8 (t : Fin cfg0.N) : (ms0_8 t).IsWhole := hstage0_8 ((cfg0.slots t 8).cast nbuf0_8)
/-- Window 9's staging buffer at a grid point. -/
abbrev ms0_9 (t : Fin cfg0.N) : Memref sig .tc .vmem S256x64 .f32 := win0_9.stage (cfg0.slots t 9)
/-- Window 9's staging buffer is whole. -/
abbrev hs0_9 (t : Fin cfg0.N) : (ms0_9 t).IsWhole := hstage0_9 ((cfg0.slots t 9).cast nbuf0_9)
/-- Window 10's staging buffer at a grid point. -/
abbrev ms0_10 (t : Fin cfg0.N) : Memref sig .tc .vmem S1x64 .f32 := win0_10.stage (cfg0.slots t 10)
/-- Window 10's staging buffer is whole. -/
abbrev hs0_10 (t : Fin cfg0.N) : (ms0_10 t).IsWhole := hstage0_10 ((cfg0.slots t 10).cast nbuf0_10)
/-- Window 11's staging buffer at a grid point. -/
abbrev ms0_11 (t : Fin cfg0.N) : Memref sig .tc .vmem S256x384 .f32 := win0_11.stage (cfg0.slots t 11)
/-- Window 11's staging buffer is whole. -/
abbrev hs0_11 (t : Fin cfg0.N) : (ms0_11 t).IsWhole := hstage0_11 ((cfg0.slots t 11).cast nbuf0_11)
/-- Window 12's staging buffer at a grid point. -/
abbrev ms0_12 (t : Fin cfg0.N) : Memref sig .tc .vmem S256x384 .f32 := win0_12.stage (cfg0.slots t 12)
/-- Window 12's staging buffer is whole. -/
abbrev hs0_12 (t : Fin cfg0.N) : (ms0_12 t).IsWhole := hstage0_12 ((cfg0.slots t 12).cast nbuf0_12)
/-- Window 13's staging buffer at a grid point. -/
abbrev ms0_13 (t : Fin cfg0.N) : Memref sig .tc .vmem S1x384 .f32 := win0_13.stage (cfg0.slots t 13)
/-- Window 13's staging buffer is whole. -/
abbrev hs0_13 (t : Fin cfg0.N) : (ms0_13 t).IsWhole := hstage0_13 ((cfg0.slots t 13).cast nbuf0_13)
/-- Window 14's staging buffer at a grid point. -/
abbrev ms0_14 (t : Fin cfg0.N) : Memref sig .tc .vmem S1x49x64 .f32 := win0_14.stage (cfg0.slots t 14)
/-- Window 14's staging buffer is whole. -/
abbrev hs0_14 (t : Fin cfg0.N) : (ms0_14 t).IsWhole := hstage0_14 ((cfg0.slots t 14).cast nbuf0_14)
/-- Window 15's staging buffer at a grid point. -/
abbrev ms0_15 (t : Fin cfg0.N) : Memref sig .tc .vmem S1x49x385 .f32 := win0_15.stage (cfg0.slots t 15)
/-- Window 15's staging buffer is whole. -/
abbrev hs0_15 (t : Fin cfg0.N) : (ms0_15 t).IsWhole := hstage0_15 ((cfg0.slots t 15).cast nbuf0_15)
/-- Window 16's staging buffer at a grid point. -/
abbrev ms0_16 (t : Fin cfg0.N) : Memref sig .tc .vmem S1x49x384 .f32 := win0_16.stage (cfg0.slots t 16)
/-- Window 16's staging buffer is whole. -/
abbrev hs0_16 (t : Fin cfg0.N) : (ms0_16 t).IsWhole := hstage0_16 ((cfg0.slots t 16).cast nbuf0_16)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x9x12544 .f32) (harg2 : arg2.IsWhole) (arg3 : Memref sig .tc .vmem S9x32 .f32) (harg3 : arg3.IsWhole) (arg4 : Memref sig .tc .vmem S2x32 .f32) (harg4 : arg4.IsWhole) (arg5 : Memref sig .tc .vmem S9x32x64 .f32) (harg5 : arg5.IsWhole) (arg6 : Memref sig .tc .vmem S2x64 .f32) (harg6 : arg6.IsWhole) (arg7 : Memref sig .tc .vmem S9x64x128 .f32) (harg7 : arg7.IsWhole) (arg8 : Memref sig .tc .vmem S2x128 .f32) (harg8 : arg8.IsWhole) (arg9 : Memref sig .tc .vmem S9x128x256 .f32) (harg9 : arg9.IsWhole) (arg10 : Memref sig .tc .vmem S2x256 .f32) (harg10 : arg10.IsWhole) (arg11 : Memref sig .tc .vmem S256x64 .f32) (harg11 : arg11.IsWhole) (arg12 : Memref sig .tc .vmem S1x64 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S1x384 .f32) (harg15 : arg15.IsWhole) (arg16 : Memref sig .tc .vmem S1x49x64 .f32) (harg16 : arg16.IsWhole) (arg17 : Memref sig .tc .vmem S1x49x385 .f32) (harg17 : arg17.IsWhole) (arg18 : Memref sig .tc .vmem S1x49x384 .f32) (harg18 : arg18.IsWhole)
    (x0 : Vec F S1x9x12544 .f32) (x1 : Vec F S9x32 .f32) (x2 : Vec F S2x32 .f32) (x3 : Vec F S9x32x64 .f32) (x4 : Vec F S2x64 .f32) (x5 : Vec F S9x64x128 .f32) (x6 : Vec F S2x128 .f32) (x7 : Vec F S9x128x256 .f32) (x8 : Vec F S2x256 .f32) (x9 : Vec F S256x64 .f32) (x10 : Vec F S1x64 .f32) (x11 : Vec F S256x384 .f32) (x12 : Vec F S256x384 .f32) (x13 : Vec F S1x384 .f32) :
    Σ' (L14 : List (View.Piece (Elt F) S1x49x64 .f32)), Σ' (L15 : List (View.Piece (Elt F) S1x49x385 .f32)), { L16 : List (View.Piece (Elt F) S1x49x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16)) -∗ K ⟨⟩))
          ⊢ wp frame (wpE (defs₀ (F := F)) Variants.none c none) E (cc0_encoder i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_encoder_eq_skeleton]; unfold cc0_encoder_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    iexists _; iexact H16

/-- The run's pieces for output 14 tile its block (1 store of `S1x49x64`, checked by the kernel's evaluation: Lib/Ring.lean `Piece.tiledL`, linear in the pieces, through a loop's `@[irreducible]` trip theorem too), so they cover it. -/
theorem cover0_A_14 (c : Dev nD) (i : grid0.Coords) (arg2 : Memref sig .tc .vmem S1x9x12544 .f32) (harg2 : arg2.IsWhole) (arg3 : Memref sig .tc .vmem S9x32 .f32) (harg3 : arg3.IsWhole) (arg4 : Memref sig .tc .vmem S2x32 .f32) (harg4 : arg4.IsWhole) (arg5 : Memref sig .tc .vmem S9x32x64 .f32) (harg5 : arg5.IsWhole) (arg6 : Memref sig .tc .vmem S2x64 .f32) (harg6 : arg6.IsWhole) (arg7 : Memref sig .tc .vmem S9x64x128 .f32) (harg7 : arg7.IsWhole) (arg8 : Memref sig .tc .vmem S2x128 .f32) (harg8 : arg8.IsWhole) (arg9 : Memref sig .tc .vmem S9x128x256 .f32) (harg9 : arg9.IsWhole) (arg10 : Memref sig .tc .vmem S2x256 .f32) (harg10 : arg10.IsWhole) (arg11 : Memref sig .tc .vmem S256x64 .f32) (harg11 : arg11.IsWhole) (arg12 : Memref sig .tc .vmem S1x64 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S1x384 .f32) (harg15 : arg15.IsWhole) (arg16 : Memref sig .tc .vmem S1x49x64 .f32) (harg16 : arg16.IsWhole) (arg17 : Memref sig .tc .vmem S1x49x385 .f32) (harg17 : arg17.IsWhole) (arg18 : Memref sig .tc .vmem S1x49x384 .f32) (harg18 : arg18.IsWhole)
    (x0 : Vec F S1x9x12544 .f32) (x1 : Vec F S9x32 .f32) (x2 : Vec F S2x32 .f32) (x3 : Vec F S9x32x64 .f32) (x4 : Vec F S2x64 .f32) (x5 : Vec F S9x64x128 .f32) (x6 : Vec F S2x128 .f32) (x7 : Vec F S9x128x256 .f32) (x8 : Vec F S2x256 .f32) (x9 : Vec F S256x64 .f32) (x10 : Vec F S1x64 .f32) (x11 : Vec F S256x384 .f32) (x12 : Vec F S256x384 .f32) (x13 : Vec F S1x384 .f32) (y : S1x49x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).1 S1x49x64.size (by sl_kernel_rfl) y

/-- What the run leaves in output 14's staging buffer: its pieces read back over junk. -/
def out0_A_14 (c : Dev nD) (i : grid0.Coords) (arg2 : Memref sig .tc .vmem S1x9x12544 .f32) (harg2 : arg2.IsWhole) (arg3 : Memref sig .tc .vmem S9x32 .f32) (harg3 : arg3.IsWhole) (arg4 : Memref sig .tc .vmem S2x32 .f32) (harg4 : arg4.IsWhole) (arg5 : Memref sig .tc .vmem S9x32x64 .f32) (harg5 : arg5.IsWhole) (arg6 : Memref sig .tc .vmem S2x64 .f32) (harg6 : arg6.IsWhole) (arg7 : Memref sig .tc .vmem S9x64x128 .f32) (harg7 : arg7.IsWhole) (arg8 : Memref sig .tc .vmem S2x128 .f32) (harg8 : arg8.IsWhole) (arg9 : Memref sig .tc .vmem S9x128x256 .f32) (harg9 : arg9.IsWhole) (arg10 : Memref sig .tc .vmem S2x256 .f32) (harg10 : arg10.IsWhole) (arg11 : Memref sig .tc .vmem S256x64 .f32) (harg11 : arg11.IsWhole) (arg12 : Memref sig .tc .vmem S1x64 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S1x384 .f32) (harg15 : arg15.IsWhole) (arg16 : Memref sig .tc .vmem S1x49x64 .f32) (harg16 : arg16.IsWhole) (arg17 : Memref sig .tc .vmem S1x49x385 .f32) (harg17 : arg17.IsWhole) (arg18 : Memref sig .tc .vmem S1x49x384 .f32) (harg18 : arg18.IsWhole)
    (x0 : Vec F S1x9x12544 .f32) (x1 : Vec F S9x32 .f32) (x2 : Vec F S2x32 .f32) (x3 : Vec F S9x32x64 .f32) (x4 : Vec F S2x64 .f32) (x5 : Vec F S9x64x128 .f32) (x6 : Vec F S2x128 .f32) (x7 : Vec F S9x128x256 .f32) (x8 : Vec F S2x256 .f32) (x9 : Vec F S256x64 .f32) (x10 : Vec F S1x64 .f32) (x11 : Vec F S256x384 .f32) (x12 : Vec F S256x384 .f32) (x13 : Vec F S1x384 .f32) : Vec F S1x49x64 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).1)

/-- The run's pieces for output 15 are of SEVERAL sizes (2 stores of `S1x49x1`, `S1x49x384`): cut into blocks of `![1, 49, 1]` they tile its block (checked by the kernel's evaluation: Lib/Ring.lean `Piece.tiledBy`), so they cover it. -/
theorem cover0_A_15 (c : Dev nD) (i : grid0.Coords) (arg2 : Memref sig .tc .vmem S1x9x12544 .f32) (harg2 : arg2.IsWhole) (arg3 : Memref sig .tc .vmem S9x32 .f32) (harg3 : arg3.IsWhole) (arg4 : Memref sig .tc .vmem S2x32 .f32) (harg4 : arg4.IsWhole) (arg5 : Memref sig .tc .vmem S9x32x64 .f32) (harg5 : arg5.IsWhole) (arg6 : Memref sig .tc .vmem S2x64 .f32) (harg6 : arg6.IsWhole) (arg7 : Memref sig .tc .vmem S9x64x128 .f32) (harg7 : arg7.IsWhole) (arg8 : Memref sig .tc .vmem S2x128 .f32) (harg8 : arg8.IsWhole) (arg9 : Memref sig .tc .vmem S9x128x256 .f32) (harg9 : arg9.IsWhole) (arg10 : Memref sig .tc .vmem S2x256 .f32) (harg10 : arg10.IsWhole) (arg11 : Memref sig .tc .vmem S256x64 .f32) (harg11 : arg11.IsWhole) (arg12 : Memref sig .tc .vmem S1x64 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S1x384 .f32) (harg15 : arg15.IsWhole) (arg16 : Memref sig .tc .vmem S1x49x64 .f32) (harg16 : arg16.IsWhole) (arg17 : Memref sig .tc .vmem S1x49x385 .f32) (harg17 : arg17.IsWhole) (arg18 : Memref sig .tc .vmem S1x49x384 .f32) (harg18 : arg18.IsWhole)
    (x0 : Vec F S1x9x12544 .f32) (x1 : Vec F S9x32 .f32) (x2 : Vec F S2x32 .f32) (x3 : Vec F S9x32x64 .f32) (x4 : Vec F S2x64 .f32) (x5 : Vec F S9x64x128 .f32) (x6 : Vec F S2x128 .f32) (x7 : Vec F S9x128x256 .f32) (x8 : Vec F S2x256 .f32) (x9 : Vec F S256x64 .f32) (x10 : Vec F S1x64 .f32) (x11 : Vec F S256x384 .f32) (x12 : Vec F S256x384 .f32) (x13 : Vec F S1x384 .f32) (y : S1x49x385.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.1 ![1, 49, 1] (by sl_kernel_rfl) y

/-- What the run leaves in output 15's staging buffer: its pieces read back over junk. -/
def out0_A_15 (c : Dev nD) (i : grid0.Coords) (arg2 : Memref sig .tc .vmem S1x9x12544 .f32) (harg2 : arg2.IsWhole) (arg3 : Memref sig .tc .vmem S9x32 .f32) (harg3 : arg3.IsWhole) (arg4 : Memref sig .tc .vmem S2x32 .f32) (harg4 : arg4.IsWhole) (arg5 : Memref sig .tc .vmem S9x32x64 .f32) (harg5 : arg5.IsWhole) (arg6 : Memref sig .tc .vmem S2x64 .f32) (harg6 : arg6.IsWhole) (arg7 : Memref sig .tc .vmem S9x64x128 .f32) (harg7 : arg7.IsWhole) (arg8 : Memref sig .tc .vmem S2x128 .f32) (harg8 : arg8.IsWhole) (arg9 : Memref sig .tc .vmem S9x128x256 .f32) (harg9 : arg9.IsWhole) (arg10 : Memref sig .tc .vmem S2x256 .f32) (harg10 : arg10.IsWhole) (arg11 : Memref sig .tc .vmem S256x64 .f32) (harg11 : arg11.IsWhole) (arg12 : Memref sig .tc .vmem S1x64 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S1x384 .f32) (harg15 : arg15.IsWhole) (arg16 : Memref sig .tc .vmem S1x49x64 .f32) (harg16 : arg16.IsWhole) (arg17 : Memref sig .tc .vmem S1x49x385 .f32) (harg17 : arg17.IsWhole) (arg18 : Memref sig .tc .vmem S1x49x384 .f32) (harg18 : arg18.IsWhole)
    (x0 : Vec F S1x9x12544 .f32) (x1 : Vec F S9x32 .f32) (x2 : Vec F S2x32 .f32) (x3 : Vec F S9x32x64 .f32) (x4 : Vec F S2x64 .f32) (x5 : Vec F S9x64x128 .f32) (x6 : Vec F S2x128 .f32) (x7 : Vec F S9x128x256 .f32) (x8 : Vec F S2x256 .f32) (x9 : Vec F S256x64 .f32) (x10 : Vec F S1x64 .f32) (x11 : Vec F S256x384 .f32) (x12 : Vec F S256x384 .f32) (x13 : Vec F S1x384 .f32) : Vec F S1x49x385 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.1)

/-- The run's pieces for output 16 tile its block (1 store of `S1x49x384`, checked by the kernel's evaluation: Lib/Ring.lean `Piece.tiledL`, linear in the pieces, through a loop's `@[irreducible]` trip theorem too), so they cover it. -/
theorem cover0_A_16 (c : Dev nD) (i : grid0.Coords) (arg2 : Memref sig .tc .vmem S1x9x12544 .f32) (harg2 : arg2.IsWhole) (arg3 : Memref sig .tc .vmem S9x32 .f32) (harg3 : arg3.IsWhole) (arg4 : Memref sig .tc .vmem S2x32 .f32) (harg4 : arg4.IsWhole) (arg5 : Memref sig .tc .vmem S9x32x64 .f32) (harg5 : arg5.IsWhole) (arg6 : Memref sig .tc .vmem S2x64 .f32) (harg6 : arg6.IsWhole) (arg7 : Memref sig .tc .vmem S9x64x128 .f32) (harg7 : arg7.IsWhole) (arg8 : Memref sig .tc .vmem S2x128 .f32) (harg8 : arg8.IsWhole) (arg9 : Memref sig .tc .vmem S9x128x256 .f32) (harg9 : arg9.IsWhole) (arg10 : Memref sig .tc .vmem S2x256 .f32) (harg10 : arg10.IsWhole) (arg11 : Memref sig .tc .vmem S256x64 .f32) (harg11 : arg11.IsWhole) (arg12 : Memref sig .tc .vmem S1x64 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S1x384 .f32) (harg15 : arg15.IsWhole) (arg16 : Memref sig .tc .vmem S1x49x64 .f32) (harg16 : arg16.IsWhole) (arg17 : Memref sig .tc .vmem S1x49x385 .f32) (harg17 : arg17.IsWhole) (arg18 : Memref sig .tc .vmem S1x49x384 .f32) (harg18 : arg18.IsWhole)
    (x0 : Vec F S1x9x12544 .f32) (x1 : Vec F S9x32 .f32) (x2 : Vec F S2x32 .f32) (x3 : Vec F S9x32x64 .f32) (x4 : Vec F S2x64 .f32) (x5 : Vec F S9x64x128 .f32) (x6 : Vec F S2x128 .f32) (x7 : Vec F S9x128x256 .f32) (x8 : Vec F S2x256 .f32) (x9 : Vec F S256x64 .f32) (x10 : Vec F S1x64 .f32) (x11 : Vec F S256x384 .f32) (x12 : Vec F S256x384 .f32) (x13 : Vec F S1x384 .f32) (y : S1x49x384.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.2.1 S1x49x384.size (by sl_kernel_rfl) y

/-- What the run leaves in output 16's staging buffer: its pieces read back over junk. -/
def out0_A_16 (c : Dev nD) (i : grid0.Coords) (arg2 : Memref sig .tc .vmem S1x9x12544 .f32) (harg2 : arg2.IsWhole) (arg3 : Memref sig .tc .vmem S9x32 .f32) (harg3 : arg3.IsWhole) (arg4 : Memref sig .tc .vmem S2x32 .f32) (harg4 : arg4.IsWhole) (arg5 : Memref sig .tc .vmem S9x32x64 .f32) (harg5 : arg5.IsWhole) (arg6 : Memref sig .tc .vmem S2x64 .f32) (harg6 : arg6.IsWhole) (arg7 : Memref sig .tc .vmem S9x64x128 .f32) (harg7 : arg7.IsWhole) (arg8 : Memref sig .tc .vmem S2x128 .f32) (harg8 : arg8.IsWhole) (arg9 : Memref sig .tc .vmem S9x128x256 .f32) (harg9 : arg9.IsWhole) (arg10 : Memref sig .tc .vmem S2x256 .f32) (harg10 : arg10.IsWhole) (arg11 : Memref sig .tc .vmem S256x64 .f32) (harg11 : arg11.IsWhole) (arg12 : Memref sig .tc .vmem S1x64 .f32) (harg12 : arg12.IsWhole) (arg13 : Memref sig .tc .vmem S256x384 .f32) (harg13 : arg13.IsWhole) (arg14 : Memref sig .tc .vmem S256x384 .f32) (harg14 : arg14.IsWhole) (arg15 : Memref sig .tc .vmem S1x384 .f32) (harg15 : arg15.IsWhole) (arg16 : Memref sig .tc .vmem S1x49x64 .f32) (harg16 : arg16.IsWhole) (arg17 : Memref sig .tc .vmem S1x49x385 .f32) (harg17 : arg17.IsWhole) (arg18 : Memref sig .tc .vmem S1x49x384 .f32) (harg18 : arg18.IsWhole)
    (x0 : Vec F S1x9x12544 .f32) (x1 : Vec F S9x32 .f32) (x2 : Vec F S2x32 .f32) (x3 : Vec F S9x32x64 .f32) (x4 : Vec F S2x64 .f32) (x5 : Vec F S9x64x128 .f32) (x6 : Vec F S2x128 .f32) (x7 : Vec F S9x128x256 .f32) (x8 : Vec F S2x256 .f32) (x9 : Vec F S256x64 .f32) (x10 : Vec F S1x64 .f32) (x11 : Vec F S256x384 .f32) (x12 : Vec F S256x384 .f32) (x13 : Vec F S1x384 .f32) : Vec F S1x49x384 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.2.1)

/-! ## What the outputs hold after each point -/

/-- What the outputs' staging buffers hold after the body at point `t` (as a tuple, in window order): the run's contents at
    the point's memrefs and input blocks. -/
def outsAt0 (c : Dev nD) (t : Fin cfg0.N) : Vec F S1x49x64 .f32 × Vec F S1x49x385 .f32 × Vec F S1x49x384 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => (outsAt0 V c t).1
    | ⟨15, _⟩ => (outsAt0 V c t).2.1
    | ⟨16, _⟩ => (outsAt0 V c t).2.2
    | ⟨_ + 17, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- What window 1 holds after the body ran at a grid point. -/
theorem after0_1 (c : Dev nD) (t : Fin cfg0.N) : (dat0 V c).after 1 t = iblk0 V c 1 t := by dsimp only [dat0]
/-- What window 2 holds after the body ran at a grid point. -/
theorem after0_2 (c : Dev nD) (t : Fin cfg0.N) : (dat0 V c).after 2 t = iblk0 V c 2 t := by dsimp only [dat0]
/-- What window 3 holds after the body ran at a grid point. -/
theorem after0_3 (c : Dev nD) (t : Fin cfg0.N) : (dat0 V c).after 3 t = iblk0 V c 3 t := by dsimp only [dat0]
/-- What window 4 holds after the body ran at a grid point. -/
theorem after0_4 (c : Dev nD) (t : Fin cfg0.N) : (dat0 V c).after 4 t = iblk0 V c 4 t := by dsimp only [dat0]
/-- What window 5 holds after the body ran at a grid point. -/
theorem after0_5 (c : Dev nD) (t : Fin cfg0.N) : (dat0 V c).after 5 t = iblk0 V c 5 t := by dsimp only [dat0]
/-- What window 6 holds after the body ran at a grid point. -/
theorem after0_6 (c : Dev nD) (t : Fin cfg0.N) : (dat0 V c).after 6 t = iblk0 V c 6 t := by dsimp only [dat0]
/-- What window 7 holds after the body ran at a grid point. -/
theorem after0_7 (c : Dev nD) (t : Fin cfg0.N) : (dat0 V c).after 7 t = iblk0 V c 7 t := by dsimp only [dat0]
/-- What window 8 holds after the body ran at a grid point. -/
theorem after0_8 (c : Dev nD) (t : Fin cfg0.N) : (dat0 V c).after 8 t = iblk0 V c 8 t := by dsimp only [dat0]
/-- What window 9 holds after the body ran at a grid point. -/
theorem after0_9 (c : Dev nD) (t : Fin cfg0.N) : (dat0 V c).after 9 t = iblk0 V c 9 t := by dsimp only [dat0]
/-- What window 10 holds after the body ran at a grid point. -/
theorem after0_10 (c : Dev nD) (t : Fin cfg0.N) : (dat0 V c).after 10 t = iblk0 V c 10 t := by dsimp only [dat0]
/-- What window 11 holds after the body ran at a grid point. -/
theorem after0_11 (c : Dev nD) (t : Fin cfg0.N) : (dat0 V c).after 11 t = iblk0 V c 11 t := by dsimp only [dat0]
/-- What window 12 holds after the body ran at a grid point. -/
theorem after0_12 (c : Dev nD) (t : Fin cfg0.N) : (dat0 V c).after 12 t = iblk0 V c 12 t := by dsimp only [dat0]
/-- What window 13 holds after the body ran at a grid point. -/
theorem after0_13 (c : Dev nD) (t : Fin cfg0.N) : (dat0 V c).after 13 t = iblk0 V c 13 t := by dsimp only [dat0]
/-- What window 14 holds after the body ran at a grid point. -/
theorem after0_14 (c : Dev nD) (t : Fin cfg0.N) : (dat0 V c).after 14 t = (outsAt0 V c t).1 := by dsimp only [dat0]
/-- What window 15 holds after the body ran at a grid point. -/
theorem after0_15 (c : Dev nD) (t : Fin cfg0.N) : (dat0 V c).after 15 t = (outsAt0 V c t).2.1 := by dsimp only [dat0]
/-- What window 16 holds after the body ran at a grid point. -/
theorem after0_16 (c : Dev nD) (t : Fin cfg0.N) : (dat0 V c).after 16 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What window 1 holds when the body starts at a grid point: its block. -/
theorem before0_1 (c : Dev nD) (t : Fin cfg0.N) (d) : (dat0 V c).before 1 t d = iblk0 V c 1 t :=
  before0_1_of V (dat0 V c) (A_eq0 V c 1) (after0_1 V c) t d
/-- What window 2 holds when the body starts at a grid point: its block. -/
theorem before0_2 (c : Dev nD) (t : Fin cfg0.N) (d) : (dat0 V c).before 2 t d = iblk0 V c 2 t :=
  before0_2_of V (dat0 V c) (A_eq0 V c 2) (after0_2 V c) t d
/-- What window 3 holds when the body starts at a grid point: its block. -/
theorem before0_3 (c : Dev nD) (t : Fin cfg0.N) (d) : (dat0 V c).before 3 t d = iblk0 V c 3 t :=
  before0_3_of V (dat0 V c) (A_eq0 V c 3) (after0_3 V c) t d
/-- What window 4 holds when the body starts at a grid point: its block. -/
theorem before0_4 (c : Dev nD) (t : Fin cfg0.N) (d) : (dat0 V c).before 4 t d = iblk0 V c 4 t :=
  before0_4_of V (dat0 V c) (A_eq0 V c 4) (after0_4 V c) t d
/-- What window 5 holds when the body starts at a grid point: its block. -/
theorem before0_5 (c : Dev nD) (t : Fin cfg0.N) (d) : (dat0 V c).before 5 t d = iblk0 V c 5 t :=
  before0_5_of V (dat0 V c) (A_eq0 V c 5) (after0_5 V c) t d
/-- What window 6 holds when the body starts at a grid point: its block. -/
theorem before0_6 (c : Dev nD) (t : Fin cfg0.N) (d) : (dat0 V c).before 6 t d = iblk0 V c 6 t :=
  before0_6_of V (dat0 V c) (A_eq0 V c 6) (after0_6 V c) t d
/-- What window 7 holds when the body starts at a grid point: its block. -/
theorem before0_7 (c : Dev nD) (t : Fin cfg0.N) (d) : (dat0 V c).before 7 t d = iblk0 V c 7 t :=
  before0_7_of V (dat0 V c) (A_eq0 V c 7) (after0_7 V c) t d
/-- What window 8 holds when the body starts at a grid point: its block. -/
theorem before0_8 (c : Dev nD) (t : Fin cfg0.N) (d) : (dat0 V c).before 8 t d = iblk0 V c 8 t :=
  before0_8_of V (dat0 V c) (A_eq0 V c 8) (after0_8 V c) t d
/-- What window 9 holds when the body starts at a grid point: its block. -/
theorem before0_9 (c : Dev nD) (t : Fin cfg0.N) (d) : (dat0 V c).before 9 t d = iblk0 V c 9 t :=
  before0_9_of V (dat0 V c) (A_eq0 V c 9) (after0_9 V c) t d
/-- What window 10 holds when the body starts at a grid point: its block. -/
theorem before0_10 (c : Dev nD) (t : Fin cfg0.N) (d) : (dat0 V c).before 10 t d = iblk0 V c 10 t :=
  before0_10_of V (dat0 V c) (A_eq0 V c 10) (after0_10 V c) t d
/-- What window 11 holds when the body starts at a grid point: its block. -/
theorem before0_11 (c : Dev nD) (t : Fin cfg0.N) (d) : (dat0 V c).before 11 t d = iblk0 V c 11 t :=
  before0_11_of V (dat0 V c) (A_eq0 V c 11) (after0_11 V c) t d
/-- What window 12 holds when the body starts at a grid point: its block. -/
theorem before0_12 (c : Dev nD) (t : Fin cfg0.N) (d) : (dat0 V c).before 12 t d = iblk0 V c 12 t :=
  before0_12_of V (dat0 V c) (A_eq0 V c 12) (after0_12 V c) t d
/-- What window 13 holds when the body starts at a grid point: its block. -/
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t))

set_option maxHeartbeats 1600000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16]
  unfold outsAt0
  unfold out0_A_14 out0_A_15 out0_A_16; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  iintro ⟨H0, H1, H2, H3, H4, H5, H6, H7, H8, H9, H10, H11, H12, H13, ⟨%e14, H14⟩, ⟨%e15, H15⟩, ⟨%e16, H16⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H16
  ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.Kernel.Attention.lean ====
/- The attention call: one query and one support set per grid point. Its blocks, what its body stores, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_attention` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A rectangle that the body reads or writes. -/
abbrev r1_0 : Rect S1x49x64 := Rect.unit (s := S1x49x64) ![0, 0, 0] S1x49x64.size inb_S1x49x64_S1x49x64_0_0_0
/-- A rectangle that the body reads or writes. -/
abbrev r1_1 : Rect S1x49x384 := Rect.unit (s := S1x49x384) ![0, 0, 0] S1x49x384.size inb_S1x49x384_S1x49x384_0_0_0
/-- A rectangle that the body reads or writes. -/
abbrev r1_2 : Rect S5x49x64 := Rect.unit (s := S5x49x64) ![0, 0, 0] S1x49x64.size inb_S5x49x64_S1x49x64_0_0_0
/-- A rectangle that the body reads or writes. -/
abbrev r1_3 : Rect S5x49x385 := Rect.unit (s := S5x49x385) ![0, 0, 0] S1x49x385.size inb_S5x49x385_S1x49x385_0_0_0
/-- A rectangle that the body reads or writes. -/
abbrev r1_4 : Rect S49x5x1x384 := Rect.unit (s := S49x5x1x384) ![0, 0, 0, 0] S49x1x1x384.size inb_S49x5x1x384_S49x1x1x384_0_0_0_0
/-- A rectangle that the body reads or writes. -/
abbrev r1_5 : Rect S5x49x64 := Rect.unit (s := S5x49x64) ![1, 0, 0] S1x49x64.size inb_S5x49x64_S1x49x64_1_0_0
/-- A rectangle that the body reads or writes. -/
abbrev r1_6 : Rect S5x49x385 := Rect.unit (s := S5x49x385) ![1, 0, 0] S1x49x385.size inb_S5x49x385_S1x49x385_1_0_0
/-- A rectangle that the body reads or writes. -/
abbrev r1_7 : Rect S49x5x1x384 := Rect.unit (s := S49x5x1x384) ![0, 1, 0, 0] S49x1x1x384.size inb_S49x5x1x384_S49x1x1x384_0_1_0_0
/-- A rectangle that the body reads or writes. -/
abbrev r1_8 : Rect S5x49x64 := Rect.unit (s := S5x49x64) ![2, 0, 0] S1x49x64.size inb_S5x49x64_S1x49x64_2_0_0
/-- A rectangle that the body reads or writes. -/
abbrev r1_9 : Rect S5x49x385 := Rect.unit (s := S5x49x385) ![2, 0, 0] S1x49x385.size inb_S5x49x385_S1x49x385_2_0_0
/-- A rectangle that the body reads or writes. -/
abbrev r1_10 : Rect S49x5x1x384 := Rect.unit (s := S49x5x1x384) ![0, 2, 0, 0] S49x1x1x384.size inb_S49x5x1x384_S49x1x1x384_0_2_0_0
/-- A rectangle that the body reads or writes. -/
abbrev r1_11 : Rect S5x49x64 := Rect.unit (s := S5x49x64) ![3, 0, 0] S1x49x64.size inb_S5x49x64_S1x49x64_3_0_0
/-- A rectangle that the body reads or writes. -/
abbrev r1_12 : Rect S5x49x385 := Rect.unit (s := S5x49x385) ![3, 0, 0] S1x49x385.size inb_S5x49x385_S1x49x385_3_0_0
/-- A rectangle that the body reads or writes. -/
abbrev r1_13 : Rect S49x5x1x384 := Rect.unit (s := S49x5x1x384) ![0, 3, 0, 0] S49x1x1x384.size inb_S49x5x1x384_S49x1x1x384_0_3_0_0
/-- A rectangle that the body reads or writes. -/
abbrev r1_14 : Rect S5x49x64 := Rect.unit (s := S5x49x64) ![4, 0, 0] S1x49x64.size inb_S5x49x64_S1x49x64_4_0_0
/-- A rectangle that the body reads or writes. -/
abbrev r1_15 : Rect S5x49x385 := Rect.unit (s := S5x49x385) ![4, 0, 0] S1x49x385.size inb_S5x49x385_S1x49x385_4_0_0
/-- A rectangle that the body reads or writes. -/
abbrev r1_16 : Rect S49x5x1x384 := Rect.unit (s := S49x5x1x384) ![0, 4, 0, 0] S49x1x1x384.size inb_S49x5x1x384_S49x1x1x384_0_4_0_0

/-! ## What the body leaves in each output window's buffer -/

/-! ### Values of the body that the stores' payloads, spelt out, would write more than once

    Each is a vector the body binds (often a part call's result), stated over the input windows' blocks and
    numbered on from the skeleton's payload functions (`k1_pay12` …, after `k1_pay11`), so that
    `out1_W` and the values after it name it instead of spelling it out; the comment after each is the printed function's
    name for the value (a count appended where that name is bound again). -/

/-- A value that the body stores. -/
def k1_pay12 (x0 : Vec F S1x49x64 .f32) (x1 : Vec F S5x49x64 .f32) (x2 : Vec F S5x49x385 .f32) (x3 : Vec F S1x49x384 .f32) : FVec F S49x64 .f32 :=
  k1_pay2 (View.ld x0 r1_0) -- `v1`
/-- A value that the body stores. -/
def k1_pay13 (x0 : Vec F S1x49x64 .f32) (x1 : Vec F S5x49x64 .f32) (x2 : Vec F S5x49x385 .f32) (x3 : Vec F S1x49x384 .f32) : FVec F S49x384 .f32 :=
  k1_pay3 (View.ld x3 r1_1) -- `v3`

/-- Window 4's staging buffer after the body, from the input windows' blocks: its 5 stores as pieces, LAST
    FIRST (Lib/Pipeline/FrameBody.lean `View.canon`; the payloads are the skeleton's and the values stated above). -/
def out1_4 (x0 : Vec F S1x49x64 .f32) (x1 : Vec F S5x49x64 .f32) (x2 : Vec F S5x49x385 .f32) (x3 : Vec F S1x49x384 .f32) : Vec F S49x5x1x384 .f32 :=
  View.canon [⟨r1_16, k1_pay1 (k1_pay11 (k1_pay12 x0 x1 x2 x3) (k1_pay13 x0 x1 x2 x3) (View.ld x1 r1_14) (View.ld x2 r1_15))⟩,
    ⟨r1_13, k1_pay10 (k1_pay13 x0 x1 x2 x3) (k1_pay8 (View.ld x1 r1_11)) (k1_pay9 (k1_pay12 x0 x1 x2 x3)) (View.ld x2 r1_12)⟩,
    ⟨r1_10, k1_pay7 (k1_pay12 x0 x1 x2 x3) (k1_pay13 x0 x1 x2 x3) (View.ld x1 r1_8) (View.ld x2 r1_9)⟩,
    ⟨r1_7, k1_pay6 (k1_pay13 x0 x1 x2 x3) (k1_pay5 (View.ld x0 r1_0) (View.ld x1 r1_5)) (View.ld x2 r1_6)⟩,
    ⟨r1_4, k1_pay4 (View.ld x0 r1_0) (View.ld x3 r1_1) (View.ld x1 r1_2) (View.ld x2 r1_3)⟩]

/-- Its stores tile the buffer (checked by evaluation), so they cover it. -/
theorem cover1_4 (p0 : Vec F S49x1x1x384 .f32) (p1 : Vec F S49x1x1x384 .f32) (p2 : Vec F S49x1x1x384 .f32) (p3 : Vec F S49x1x1x384 .f32) (p4 : Vec F S49x1x1x384 .f32) (y : S49x5x1x384.Idx) :
    ∃ pc ∈ ([⟨r1_16, p0⟩, ⟨r1_13, p1⟩, ⟨r1_10, p2⟩, ⟨r1_7, p3⟩, ⟨r1_4, p4⟩] : List (View.Piece (Elt F) S49x5x1x384 .f32)), y ∈ pc.1.set :=
  View.cover_of_tiled [⟨r1_16, p0⟩, ⟨r1_13, p1⟩, ⟨r1_10, p2⟩, ⟨r1_7, p3⟩, ⟨r1_4, p4⟩] S49x1x1x384.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1x49x64 .f32) (harg2 : arg2.IsWhole) (arg3 : Memref sig .tc .vmem S5x49x64 .f32) (harg3 : arg3.IsWhole) (arg4 : Memref sig .tc .vmem S5x49x385 .f32) (harg4 : arg4.IsWhole) (arg5 : Memref sig .tc .vmem S1x49x384 .f32) (harg5 : arg5.IsWhole) (arg6 : Memref sig .tc .vmem S49x5x1x384 .f32) (harg6 : arg6.IsWhole)
    (x0 : Vec F S1x49x64 .f32) (x1 : Vec F S5x49x64 .f32) (x2 : Vec F S5x49x385 .f32) (x3 : Vec F S1x49x384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1_attention i arg2 harg2 arg3 harg3 arg4 harg4 arg5 harg5 arg6 harg6) K := by
  simp only [cc1_attention_eq_skeleton]; unfold cc1_attention_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _ _ _ _ _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- What window 1 holds after the body ran at a grid point. -/
theorem after1_1 (c : Dev nD) (t : Fin cfg1.N) : (dat1 V c).after 1 t = iblk1 V c 1 t := by dsimp only [dat1]
/-- What window 2 holds after the body ran at a grid point. -/
theorem after1_2 (c : Dev nD) (t : Fin cfg1.N) : (dat1 V c).after 2 t = iblk1 V c 2 t := by dsimp only [dat1]
/-- What window 3 holds after the body ran at a grid point. -/
theorem after1_3 (c : Dev nD) (t : Fin cfg1.N) : (dat1 V c).after 3 t = iblk1 V c 3 t := by dsimp only [dat1]
/-- What window 4 holds after the body ran at a grid point. -/
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What window 1 holds when the body starts at a grid point: its block. -/
theorem before1_1 (c : Dev nD) (t : Fin cfg1.N) (d) : (dat1 V c).before 1 t d = iblk1 V c 1 t :=
  before1_1_of V (dat1 V c) (A_eq1 V c 1) (after1_1 V c) t d
/-- What window 2 holds when the body starts at a grid point: its block. -/
theorem before1_2 (c : Dev nD) (t : Fin cfg1.N) (d) : (dat1 V c).before 2 t d = iblk1 V c 2 t :=
  before1_2_of V (dat1 V c) (A_eq1 V c 2) (after1_2 V c) t d
/-- What window 3 holds when the body starts at a grid point: its block. -/
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.Kernel.GruRuns.lean ====
/- The recurrent call: its blocks, the points where its two conditionals hold, and what its body stores in each case. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 7 = 0 :=
  (fun t => by
    have ht : t.val < 7 := Nat.lt_of_lt_of_eq t.isLt N_2
    have e0 : (grid2.coords t 0).val = t.val / 1 % 7 := Pipeline.Grid.coords_val t 0 (by decide) rfl
    simp only [cond2_0, e0]
    word_cmp
   : ∀ t : Fin grid2.N, cond2_0 (grid2.coords t) ↔ t.val % 7 = 0)

/-- The condition of the body's `scf.if` 1 (`k2_h2`), from the grid coordinates (the skeleton's scalar
    chain substituted). -/
abbrev cond2_1 (i : grid2.Coords) : Prop := k2_cond2 i = 1#1
/-- It holds at the last point only — by arithmetic of the point. -/
theorem hcond2_1 : ∀ t : Fin cfg2.N, cond2_1 (grid2.coords t) ↔ t.val % 7 = 6 :=
  (fun t => by
    have ht : t.val < 7 := Nat.lt_of_lt_of_eq t.isLt N_2
    have e0 : (grid2.coords t 0).val = t.val / 1 % 7 := Pipeline.Grid.coords_val t 0 (by decide) rfl
    simp only [cond2_1, k2_cond2, e0]
    word_cmp
   : ∀ t : Fin grid2.N, cond2_1 (grid2.coords t) ↔ t.val % 7 = 6)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- Window 5 is never idle (an input). -/
theorem liveAt2_5 : ∀ t : Fin cfg2.N, cfg2.idle 5 (grid2.coords t) = false := fun _ => rfl
/-- Window 6 is never idle (an input). -/
theorem liveAt2_6 : ∀ t : Fin cfg2.N, cfg2.idle 6 (grid2.coords t) = false := fun _ => rfl
/-- Window 7 is never idle (an input). -/
theorem liveAt2_7 : ∀ t : Fin cfg2.N, cfg2.idle 7 (grid2.coords t) = false := fun _ => rfl
/-- At the points of case A the printed configuration (`Cfg.idle`) calls output 8 idle: the case stores nothing into it. -/
theorem idleAt2_8_A : ∀ t : Fin cfg2.N, cond2_0 (grid2.coords t) → ¬cond2_1 (grid2.coords t) → cfg2.idle 8 (grid2.coords t) = true := by decide +kernel
/-- At the points of case A the pipeline does not write output 8's block back. -/
theorem noFlush2_8_A : ∀ t : Fin cfg2.N, cond2_0 (grid2.coords t) → ¬cond2_1 (grid2.coords t) → (cfg2.win 8).flush t = false := by decide +kernel
/-- At the points of case B the printed configuration (`Cfg.idle`) calls output 8 idle: the case stores nothing into it. -/
theorem idleAt2_8_B : ∀ t : Fin cfg2.N, ¬cond2_0 (grid2.coords t) → ¬cond2_1 (grid2.coords t) → cfg2.idle 8 (grid2.coords t) = true := by decide +kernel
/-- At the points of case B the pipeline does not write output 8's block back. -/
theorem noFlush2_8_B : ∀ t : Fin cfg2.N, ¬cond2_0 (grid2.coords t) → ¬cond2_1 (grid2.coords t) → (cfg2.win 8).flush t = false := by decide +kernel
/-- At the points of case C the printed configuration (`Cfg.idle`) calls output 8 live: the case stores into it. -/
theorem liveAt2_8_C : ∀ t : Fin cfg2.N, ¬cond2_0 (grid2.coords t) → cond2_1 (grid2.coords t) → cfg2.idle 8 (grid2.coords t) = false := by decide +kernel

/-! ## The kernel body on any staging memrefs: a subtype the run finds -/

/-- One staging buffer of output window 8, through which its contents are stated (`View.read_writes_of_cover`: the
    choice does not matter). -/
abbrev VO2_8 : View sig .tc .vmem S1x375 .f32 := (Memref.whole cc2_stg8_0 : Memref sig .tc .vmem S1x375 .f32).view
/-- Each window's current staging memref at point `t`, spelled as the pipeline passes it (`bodyAt2`), and its wholeness. -/
abbrev ms2_0 (t : Fin cfg2.N) : Memref sig .tc .vmem S7x375x384 .f32 := win2_0.stage (cfg2.slots t 0)
/-- Window 0's staging buffer is whole. -/
abbrev hs2_0 (t : Fin cfg2.N) : (ms2_0 t).IsWhole := hstage2_0 ((cfg2.slots t 0).cast nbuf2_0)
/-- Window 1's staging buffer at a grid point. -/
abbrev ms2_1 (t : Fin cfg2.N) : Memref sig .tc .vmem S128x384 .f32 := win2_1.stage (cfg2.slots t 1)
/-- Window 1's staging buffer is whole. -/
abbrev hs2_1 (t : Fin cfg2.N) : (ms2_1 t).IsWhole := hstage2_1 ((cfg2.slots t 1).cast nbuf2_1)
/-- Window 2's staging buffer at a grid point. -/
abbrev ms2_2 (t : Fin cfg2.N) : Memref sig .tc .vmem S1x384 .f32 := win2_2.stage (cfg2.slots t 2)
/-- Window 2's staging buffer is whole. -/
abbrev hs2_2 (t : Fin cfg2.N) : (ms2_2 t).IsWhole := hstage2_2 ((cfg2.slots t 2).cast nbuf2_2)
/-- Window 3's staging buffer at a grid point. -/
abbrev ms2_3 (t : Fin cfg2.N) : Memref sig .tc .vmem S128x384 .f32 := win2_3.stage (cfg2.slots t 3)
/-- Window 3's staging buffer is whole. -/
abbrev hs2_3 (t : Fin cfg2.N) : (ms2_3 t).IsWhole := hstage2_3 ((cfg2.slots t 3).cast nbuf2_3)
/-- Window 4's staging buffer at a grid point. -/
abbrev ms2_4 (t : Fin cfg2.N) : Memref sig .tc .vmem S1x384 .f32 := win2_4.stage (cfg2.slots t 4)
/-- Window 4's staging buffer is whole. -/
abbrev hs2_4 (t : Fin cfg2.N) : (ms2_4 t).IsWhole := hstage2_4 ((cfg2.slots t 4).cast nbuf2_4)
/-- Window 5's staging buffer at a grid point. -/
abbrev ms2_5 (t : Fin cfg2.N) : Memref sig .tc .vmem S128x384 .f32 := win2_5.stage (cfg2.slots t 5)
/-- Window 5's staging buffer is whole. -/
abbrev hs2_5 (t : Fin cfg2.N) : (ms2_5 t).IsWhole := hstage2_5 ((cfg2.slots t 5).cast nbuf2_5)
/-- Window 6's staging buffer at a grid point. -/
abbrev ms2_6 (t : Fin cfg2.N) : Memref sig .tc .vmem S1x384 .f32 := win2_6.stage (cfg2.slots t 6)
/-- Window 6's staging buffer is whole. -/
abbrev hs2_6 (t : Fin cfg2.N) : (ms2_6 t).IsWhole := hstage2_6 ((cfg2.slots t 6).cast nbuf2_6)
/-- Window 7's staging buffer at a grid point. -/
abbrev ms2_7 (t : Fin cfg2.N) : Memref sig .tc .vmem S1x128 .f32 := win2_7.stage (cfg2.slots t 7)
/-- Window 7's staging buffer is whole. -/
abbrev hs2_7 (t : Fin cfg2.N) : (ms2_7 t).IsWhole := hstage2_7 ((cfg2.slots t 7).cast nbuf2_7)
/-- Window 8's staging buffer at a grid point. -/
abbrev ms2_8 (t : Fin cfg2.N) : Memref sig .tc .vmem S1x375 .f32 := win2_8.stage (cfg2.slots t 8)
/-- Window 8's staging buffer is whole. -/
abbrev hs2_8 (t : Fin cfg2.N) : (ms2_8 t).IsWhole := hstage2_8 ((cfg2.slots t 8).cast nbuf2_8)
/-- The scratch operands: whole scoped buffers of the kernel's own, passed beside the windows. -/
abbrev scM2_0 : Memref sig .tc .vmem S375x128 .f32 := Memref.whole cc2_scratch0
/-- The second carried state's scratch buffer. -/
abbrev scM2_1 : Memref sig .tc .vmem S375x128 .f32 := Memref.whole cc2_scratch1
/-- The scratch `arg10` the kernel carries between points, as a view: what it holds is stated through it. -/
abbrev VS2_0 : View sig .tc .vmem S375x128 .f32 := scM2_0.view
/-- The scratch `arg11` the kernel carries between points, as a view: what it holds is stated through it. -/
abbrev VS2_1 : View sig .tc .vmem S375x128 .f32 := scM2_1.view

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ Pipeline.scopedRestBut spec2 c [cc2_scratch0, cc2_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest2_split, assoc]

/-- The frame kit's invariant with the scratch operands as memrefs owned at some contents (`Gen.scopedRest2_flat`,
    Lib/Memref.lean `owns_whole`): what the body obligation hands the run and takes back. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ Pipeline.scopedRestBut spec2 c [cc2_scratch0, cc2_scratch1]) ∗ (∃ r, prngReg c r)) := by
  unfold Pipeline.ΦA; rw [scopedRest2_flat]; simp only [scM2_0, scM2_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) :
    Σ' (L8 : List (View.Piece (Elt F) S1x375 .f32)), Σ' (LS0 : List (View.Piece (Elt F) S375x128 .f32)), { LS1 : List (View.Piece (Elt F) S375x128 .f32) //
      ∀ (xi8 : Vec F S1x375 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2_gru i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc2_gru_eq_skeleton]; unfold cc2_gru_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, 3, 4, 5), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) :
    Σ' (L8 : List (View.Piece (Elt F) S1x375 .f32)), Σ' (LS0 : List (View.Piece (Elt F) S375x128 .f32)), { LS1 : List (View.Piece (Elt F) S375x128 .f32) //
      ∀ (xi8 : Vec F S1x375 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2_gru i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc2_gru_eq_skeleton]; unfold cc2_gru_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE C (`scf.if` 0 not taken, `scf.if` 1 taken: points 6), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) :
    Σ' (L8 : List (View.Piece (Elt F) S1x375 .f32)), Σ' (LS0 : List (View.Piece (Elt F) S375x128 .f32)), { LS1 : List (View.Piece (Elt F) S375x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2_gru i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2_gru_eq_skeleton]; unfold cc2_gru_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel.Hand

end
-- ==== Proof.Kernel.Gru.lean ====
/- The recurrent call, whose two hidden states stay in scratch from one point to the next: what it holds after each point, and the body obligation. -/
module

public import proofs.«01_k».proof.Proof.Kernel.GruRuns

@[expose] public section

-- rectangles of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 8 (the window is idle at its points and not written back there):
    no pieces — a placeholder (junk read back) that nothing consults, since at these points the window is neither
    written back nor read at the next point (Lib/Pipeline.lean "Idle points"). -/
def out2_A_8 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) : Vec F S1x375 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1)

/-- Case A's pieces for scratch `arg10`, which the kernel carries between points, cover it: 2 pieces of `S375x128` tiling it (Lib/Ring.lean `Piece.tiledL`). -/
theorem scover2_A_0 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (y : S375x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S375x128.size (by sl_kernel_rfl) y

/-- What case A leaves in scratch `arg10`: its pieces read back over junk. -/
def sout2_A_0 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) : Vec F S375x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1)

/-- Case A's pieces for scratch `arg11`, which the kernel carries between points, cover it: 2 pieces of `S375x128` tiling it (Lib/Ring.lean `Piece.tiledL`). -/
theorem scover2_A_1 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (y : S375x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 S375x128.size (by sl_kernel_rfl) y

/-- What case A leaves in scratch `arg11`: its pieces read back over junk. -/
def sout2_A_1 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) : Vec F S375x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1)

/-- Case B stores nothing into output 8 (the window is idle at its points and not written back there):
    no pieces — a placeholder (junk read back) that nothing consults, since at these points the window is neither
    written back nor read at the next point (Lib/Pipeline.lean "Idle points"). -/
def out2_B_8 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) : Vec F S1x375 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- Case B's pieces for scratch `arg10`, which the kernel carries between points, cover it: 1 piece of `S375x128` tiling it (Lib/Ring.lean `Piece.tiledL`). -/
theorem scover2_B_0 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) (y : S375x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 S375x128.size (by sl_kernel_rfl) y

/-- What case B leaves in scratch `arg10`: its pieces read back over junk. -/
def sout2_B_0 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) : Vec F S375x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- Case B's pieces for scratch `arg11`, which the kernel carries between points, cover it: 1 piece of `S375x128` tiling it (Lib/Ring.lean `Piece.tiledL`). -/
theorem scover2_B_1 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) (y : S375x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 S375x128.size (by sl_kernel_rfl) y

/-- What case B leaves in scratch `arg11`: its pieces read back over junk. -/
def sout2_B_1 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : ¬cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) : Vec F S375x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

/-- Case C's pieces for output 8 tile its block (1 store of `S1x375`, checked by the kernel's evaluation: Lib/Ring.lean `Piece.tiledL`, linear in the pieces, through a loop's `@[irreducible]` trip theorem too), so they cover it. -/
theorem cover2_C_8 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) (y : S1x375.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1 S1x375.size (by sl_kernel_rfl) y

/-- What case C leaves in output 8's staging buffer: its pieces read back over junk. -/
def out2_C_8 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) : Vec F S1x375 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- Case C's pieces for scratch `arg10`, which the kernel carries between points, cover it: 1 piece of `S375x128` tiling it (Lib/Ring.lean `Piece.tiledL`). -/
theorem scover2_C_0 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) (y : S375x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 S375x128.size (by sl_kernel_rfl) y

/-- What case C leaves in scratch `arg10`: its pieces read back over junk. -/
def sout2_C_0 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) : Vec F S375x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- Case C's pieces for scratch `arg11`, which the kernel carries between points, cover it: 1 piece of `S375x128` tiling it (Lib/Ring.lean `Piece.tiledL`). -/
theorem scover2_C_1 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) (y : S375x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 S375x128.size (by sl_kernel_rfl) y

/-- What case C leaves in scratch `arg11`: its pieces read back over junk. -/
def sout2_C_1 (c : Dev nD) (i : grid2.Coords) (arg1 : Memref sig .tc .vmem S7x375x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S1x128 .f32) (harg8 : arg8.IsWhole) (arg9 : Memref sig .tc .vmem S1x375 .f32) (harg9 : arg9.IsWhole) (arg10 : Memref sig .tc .vmem S375x128 .f32) (harg10 : arg10.IsWhole) (arg11 : Memref sig .tc .vmem S375x128 .f32) (harg11 : arg11.IsWhole) (hc0 : ¬cond2_0 i) (hc1 : cond2_1 i)
    (x0 : Vec F S7x375x384 .f32) (x1 : Vec F S128x384 .f32) (x2 : Vec F S1x384 .f32) (x3 : Vec F S128x384 .f32) (x4 : Vec F S1x384 .f32) (x5 : Vec F S128x384 .f32) (x6 : Vec F S1x384 .f32) (x7 : Vec F S1x128 .f32) (xs0 : Vec F S375x128 .f32) (xs1 : Vec F S375x128 .f32) : Vec F S375x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1x375 .f32 × Vec F S375x128 .f32 × Vec F S375x128 .f32
  | 0, hn => (out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩))
  | n + 1, hn =>
    if h0 : (n + 1) % 7 = 0 then
      if h1 : (n + 1) % 7 = 6 then
        False.elim (by have hN : n + 1 < 7 := lt_of_lt_of_eq hn (show cfg2.N = 7 from N_2); omega)
      else
        (out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩))
    else
      if h1 : (n + 1) % 7 = 6 then
        (out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2)
      else
        (out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2)

/-- `outsAt2` at a point of case A: that case's contents. -/
theorem outsAt2_A (c : Dev nD) (t : Fin cfg2.N) (h0 : t.val % 7 = 0) (h1 : ¬t.val % 7 = 6) :
    outsAt2 V c t.val t.isLt = (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 7 = 0) (h1 : ¬t.val % 7 = 6) :
    outsAt2 V c t.val t.isLt = (out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 7 = 0) (h1 : t.val % 7 = 6) :
    outsAt2 V c t.val t.isLt = (out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2.1) ∗ owns (c : Thread nD τ) scM2_1 fullShare ((outsAt2 V c n hn).2.2) ∗ Pipeline.scopedRestBut spec2 c [cc2_scratch0, cc2_scratch1]) ∗ (∃ r, prngReg c r))

/-- Before the first grid point nothing is asked of the carried states. -/
theorem PhiS_zero (c : Dev nD) (n : ℕ) (h : n ≤ cfg2.N) (hz : n = 0) : PhiS V c n h = Pipeline.ΦA spec2 c := by
  subst hz; rfl

/-- After point `n` (before point `n + 1`): the carried scratch at that point's contents. -/
theorem PhiS_succ (c : Dev nD) (n : ℕ) (hn : n < cfg2.N) :
    PhiS V c (n + 1) hn = iprop(iprop(owns (c : Thread nD τ) scM2_0 fullShare ((outsAt2 V c n hn).2.1) ∗ owns (c : Thread nD τ) scM2_1 fullShare ((outsAt2 V c n hn).2.2) ∗ Pipeline.scopedRestBut spec2 c [cc2_scratch0, cc2_scratch1]) ∗ (∃ r, prngReg c r)) := rfl

/-- Before a point that is not the first: the carried scratch at what the point before left. -/
theorem PhiS_pos (c : Dev nD) (n : ℕ) (h : n ≤ cfg2.N) (hz : n ≠ 0) :
    PhiS V c n h = iprop(iprop(owns (c : Thread nD τ) scM2_0 fullShare ((outsAt2 V c (n - 1) (by omega)).2.1) ∗ owns (c : Thread nD τ) scM2_1 fullShare ((outsAt2 V c (n - 1) (by omega)).2.2) ∗ Pipeline.scopedRestBut spec2 c [cc2_scratch0, cc2_scratch1]) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt2`; the invariant the class's
    (`PhiS`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS_castSucc (c : Dev nD) (t : Fin cfg2.N) :
    (dat2 V c).Φ t.castSucc = PhiS V c t.val (Nat.le_of_lt t.isLt) := by
  dsimp only [dat2]; exact Pipeline.Dat.Φ_castSucc (PhiS V c) t

/-- What the body leaves, window by window (the proof data's `match` reduced by `dsimp`). -/
theorem after2_0 (c : Dev nD) (t : Fin cfg2.N) : (dat2 V c).after 0 t = iblk2 V c 0 t := by dsimp only [dat2]
/-- What window 1 holds after the body ran at a grid point. -/
theorem after2_1 (c : Dev nD) (t : Fin cfg2.N) : (dat2 V c).after 1 t = iblk2 V c 1 t := by dsimp only [dat2]
/-- What window 2 holds after the body ran at a grid point. -/
theorem after2_2 (c : Dev nD) (t : Fin cfg2.N) : (dat2 V c).after 2 t = iblk2 V c 2 t := by dsimp only [dat2]
/-- What window 3 holds after the body ran at a grid point. -/
theorem after2_3 (c : Dev nD) (t : Fin cfg2.N) : (dat2 V c).after 3 t = iblk2 V c 3 t := by dsimp only [dat2]
/-- What window 4 holds after the body ran at a grid point. -/
theorem after2_4 (c : Dev nD) (t : Fin cfg2.N) : (dat2 V c).after 4 t = iblk2 V c 4 t := by dsimp only [dat2]
/-- What window 5 holds after the body ran at a grid point. -/
theorem after2_5 (c : Dev nD) (t : Fin cfg2.N) : (dat2 V c).after 5 t = iblk2 V c 5 t := by dsimp only [dat2]
/-- What window 6 holds after the body ran at a grid point. -/
theorem after2_6 (c : Dev nD) (t : Fin cfg2.N) : (dat2 V c).after 6 t = iblk2 V c 6 t := by dsimp only [dat2]
/-- What window 7 holds after the body ran at a grid point. -/
theorem after2_7 (c : Dev nD) (t : Fin cfg2.N) : (dat2 V c).after 7 t = iblk2 V c 7 t := by dsimp only [dat2]
/-- What window 8 holds after the body ran at a grid point. -/
theorem after2_8 (c : Dev nD) (t : Fin cfg2.N) : (dat2 V c).after 8 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- What window 1 holds when the body starts at a grid point: its block. -/
theorem before2_1 (c : Dev nD) (t : Fin cfg2.N) (d) : (dat2 V c).before 1 t d = iblk2 V c 1 t :=
  before2_1_of V (dat2 V c) (A_eq2 V c 1) (after2_1 V c) t d
/-- What window 2 holds when the body starts at a grid point: its block. -/
theorem before2_2 (c : Dev nD) (t : Fin cfg2.N) (d) : (dat2 V c).before 2 t d = iblk2 V c 2 t :=
  before2_2_of V (dat2 V c) (A_eq2 V c 2) (after2_2 V c) t d
/-- What window 3 holds when the body starts at a grid point: its block. -/
theorem before2_3 (c : Dev nD) (t : Fin cfg2.N) (d) : (dat2 V c).before 3 t d = iblk2 V c 3 t :=
  before2_3_of V (dat2 V c) (A_eq2 V c 3) (after2_3 V c) t d
/-- What window 4 holds when the body starts at a grid point: its block. -/
theorem before2_4 (c : Dev nD) (t : Fin cfg2.N) (d) : (dat2 V c).before 4 t d = iblk2 V c 4 t :=
  before2_4_of V (dat2 V c) (A_eq2 V c 4) (after2_4 V c) t d
/-- What window 5 holds when the body starts at a grid point: its block. -/
theorem before2_5 (c : Dev nD) (t : Fin cfg2.N) (d) : (dat2 V c).before 5 t d = iblk2 V c 5 t :=
  before2_5_of V (dat2 V c) (A_eq2 V c 5) (after2_5 V c) t d
/-- What window 6 holds when the body starts at a grid point: its block. -/
theorem before2_6 (c : Dev nD) (t : Fin cfg2.N) (d) : (dat2 V c).before 6 t d = iblk2 V c 6 t :=
  before2_6_of V (dat2 V c) (A_eq2 V c 6) (after2_6 V c) t d
/-- What window 7 holds when the body starts at a grid point: its block. -/
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 9600000 in
/-- The body at any point: the inputs' memrefs hold their blocks (`before2_W`); the closed forms say which case the point is in (`by_cases`), an output the case reads before covering holds what the point before left (`before2_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS V c (t.val + 1) t.isLt from rfl, PhiS_succ]
  have hN : t.val < 7 := lt_of_lt_of_eq t.isLt (show cfg2.N = 7 from N_2)
  by_cases h0 : t.val % 7 = 0
  · by_cases h1 : t.val % 7 = 6
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7 t], after2_7]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      by_cases hz : t.val = 0
      · rw [PhiS_castSucc V c t, PhiS_zero V c _ _ hz, PhiA2_eq]
        rw [outsAt2_A V c t h0 h1]
        unfold sout2_A_0 sout2_A_1; (try dsimp only)
        iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR2 Hg]
        · isplitl [HS0 HS1 HR2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _ _ _)
            iexact HR2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · exfalso; have hN : t.val < 7 := lt_of_lt_of_eq t.isLt (show cfg2.N = 7 from N_2); omega
  · by_cases h1 : t.val % 7 = 6
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7 t], after2_7]
      rw [show (dat2 V c).leavesExact 8 t = owns (c : Thread nD τ) (ms2_8 t) fullShare ((dat2 V c).after 8 t) from by
      unfold Dat.leavesExact; rw [liveAt2_8_C t (fun h => h0 ((hcond2_0 t).mp h)) ((hcond2_1 t).mpr h1)], after2_8]
      by_cases hz : t.val = 0
      · exfalso; have hN : t.val < 7 := lt_of_lt_of_eq t.isLt (show cfg2.N = 7 from N_2); omega
      · rw [PhiS_castSucc V c t, PhiS_pos V c _ _ hz]
        rw [outsAt2_C V c t h0 h1]
        unfold out2_C_8 sout2_C_0 sout2_C_1; (try dsimp only)
        iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        iintro ⟨H0, H1, H2, H3, H4, H5, H6, H7, ⟨%e8, H8⟩, ⟨%es0, HS0⟩, ⟨%es1, HS1⟩⟩
        isplitl [HS0 HS1 HR2 Hg]
        · isplitl [HS0 HS1 HR2]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _ _ _)
            iexact HR2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7 t], after2_7]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      by_cases hz : t.val = 0
      · exfalso; have hN : t.val < 7 := lt_of_lt_of_eq t.isLt (show cfg2.N = 7 from N_2); omega
      · rw [PhiS_castSucc V c t, PhiS_pos V c _ _ hz]
        rw [outsAt2_B V c t h0 h1]
        unfold sout2_B_0 sout2_B_1; (try dsimp only)
        iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR2 Hg]
        · isplitl [HS0 HS1 HR2]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _ _ _)
            iexact HR2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HS1, HR2⟩, Hg⟩
  isplitl [HS0 HS1 HR2]
  · isplitl [HS0]
    · iexists _; iexact HS0
    isplitl [HS1]; · iexists _; iexact HS1
    iexact HR2
  iexact Hg

/-- The same after the last point. -/
theorem hout2 (c : Dev nD) : (dat2 V c).Φ (Fin.last cfg2.N) ⊢ Pipeline.ΦA spec2 c :=
  Phi_out V c _ (by rw [Fin.val_last]; have : cfg2.N = 7 := N_2; omega)

end Cert.Kernel.Hand

end
-- ==== Proof.Kernel.Head.lean ====
/- The head call, a single point. Its blocks, what its body stores, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 3 of @main: custom_call 3, `cc3_head` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A rectangle that the body reads or writes. -/
abbrev r3_0 : Rect S15x25 := Rect.unit (s := S15x25) ![0, 0] S15x25.size inb_S15x25_S15x25_0_0
/-- A rectangle that the body reads or writes. -/
abbrev r3_1 : Rect S15x5 := Rect.unit (s := S15x5) ![0, 0] S15x5.size inb_S15x5_S15x5_0_0

/-! ## What the body leaves in each output window's buffer -/

/-- Window 1's staging buffer after the body, from the input windows' blocks: its 1 store as pieces, LAST
    FIRST (Lib/Pipeline/FrameBody.lean `View.canon`; the payloads are the skeleton's). -/
def out3_1 (x0 : Vec F S15x25 .f32) : Vec F S15x5 .f32 :=
  View.canon [⟨r3_1, k3_pay1 (View.ld x0 r3_0)⟩]

/-- Its stores tile the buffer (checked by evaluation), so they cover it. -/
theorem cover3_1 (p0 : Vec F S15x5 .f32) (y : S15x5.Idx) :
    ∃ pc ∈ ([⟨r3_1, p0⟩] : List (View.Piece (Elt F) S15x5 .f32)), y ∈ pc.1.set :=
  View.cover_of_tiled [⟨r3_1, p0⟩] S15x5.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (arg0 : Memref sig .tc .vmem S15x25 .f32) (harg0 : arg0.IsWhole) (arg1 : Memref sig .tc .vmem S15x5 .f32) (harg1 : arg1.IsWhole)
    (x0 : Vec F S15x25 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3_head arg0 harg0 arg1 harg1) K := by
  simp only [cc3_head_eq_skeleton]; unfold cc3_head_skel
  simp only [k3_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
/-- What window 1 holds after the body ran at a grid point. -/
theorem after3_1 (c : Dev nD) (t : Fin cfg3.N) : (dat3 V c).after 1 t = out3_1 (iblk3 V c 0 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.Kernel.Hand

end
-- ==== Proof.Kernel.Run.lean ====
/- The whole program: its host stretches and its four calls in order, from the launch to the return. -/
module

public import proofs.«01_k».proof.Proof.Kernel.Encoder
public import proofs.«01_k».proof.Proof.Kernel.Attention
public import proofs.«01_k».proof.Proof.Kernel.Gru
public import proofs.«01_k».proof.Proof.Kernel.Head

@[expose] public section

-- rectangles of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_c]
/-- Each operation of `hostOps0` writes a reference of that list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v3]
/-- Each operation of `hostOps0_1` writes a reference of that list. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_cst, main_v37, main_v38, main_v39, main_v40, main_v41, main_v42, main_v43, main_v44, main_v45, main_cst_0, main_v46, main_v47, main_v48, main_v49, main_v50, main_v51, main_v52, main_v53, main_v54, main_cst_1, main_v55, main_v56, main_v57, main_v58, main_v59, main_v60, main_v61, main_v62, main_v63, main_cst_2, main_v64, main_v65, main_v66, main_v67, main_v68, main_v69, main_v70, main_v71, main_v72, main_v73, main_v74, main_v75, main_v76, main_v77]
/-- Each operation of `hostOps0_2` writes a reference of that list. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v80, main_v81, main_v82, main_v83, main_v84, main_v85, main_v86]
/-- Each operation of `hostOps2` writes a reference of that list. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v88]
/-- Each operation of `hostOps3` writes a reference of that list. -/
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At boundary 0 each argument holds what it was launched with. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At boundary 1 each argument holds what it was launched with. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- At boundary 2 each argument holds what it was launched with. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- At boundary 3 each argument holds what it was launched with. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
/-- At boundary 4 each array of the call just run holds what its pipeline leaves. -/
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- At boundary 4 a buffer that is none of the call's arrays is as before. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- At boundary 4 each argument holds what it was launched with. -/
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
/-- The buffers that are none of call 0's arrays are as at its entry. -/
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
/-- At boundary 5 each array of the call just run holds what its pipeline leaves. -/
theorem W5_arr (c : Dev nD) (w : Fin cfg1.W) :
    W5 m ρ c (Proc.devRef .tc (Pipeline.arrRef spec1 w)) = (dat1 (V4 m ρ) c).arrAt w cfg1.N := by
  unfold W5; exact (dat1 (V4 m ρ) c).withArrays_arrAt launch₀1.sharedIn _ (A_eq1 (V4 m ρ) c) w
/-- At boundary 5 a buffer that is none of the call's arrays is as before. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- At boundary 5 each argument holds what it was launched with. -/
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V4 m ρ) c).arrAt w cfg1.N = V5 m ρ c (Pipeline.arrRef spec1 w) :=
  (W5_arr m ρ c w).symm
/-- The buffers that are none of call 1's arrays are as at its entry. -/
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2` (region 2's entry). -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
/-- At boundary 6 each argument holds what it was launched with. -/
theorem W6_args (c : Dev nD) : ∀ a ∈ argRefs, W6 m ρ c (Proc.devRef .tc a) = m ((c : Thread nD τ).loc a) :=
  fun a ha => (W6_of m ρ c a (hostOps2_args a ha)).trans (W5_args m ρ c a ha)
/-- The same read at the TensorCore's references (what region 2's proof data take). -/
abbrev V6 : (c : Dev nD) → (b : Ref sig .tc) → Buf (Elt F) ((c : Thread nD τ).loc b) := fun c b => W6 m ρ c b
/-- At region 2's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec2 c (W6 m ρ c) fun w => (dat2 (V6 m ρ) c).arrAt w cfg2.N
/-- At boundary 7 each array of the call just run holds what its pipeline leaves. -/
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
/-- At boundary 7 a buffer that is none of the call's arrays is as before. -/
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- At boundary 7 each argument holds what it was launched with. -/
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V6 m ρ) c).arrAt w cfg2.N = V7 m ρ c (Pipeline.arrRef spec2 w) :=
  (W7_arr m ρ c w).symm
/-- The buffers that are none of call 2's arrays are as at its entry. -/
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After `hostOps3` (region 3's entry). -/
abbrev W8 : Dev nD → Valuation τ sig (Elt F) := fun c => StableHlo.after hostOps3 (W7 m ρ c)
/-- A reference `hostOps3` does not write keeps its contents across it. -/
theorem W8_of (c : Dev nD) (r : Ref sig .tc) (h : r ∉ hostOps3_W) : W8 m ρ c (Proc.devRef .tc r) = W7 m ρ c (Proc.devRef .tc r) :=
  StableHlo.after_of_writes_sub hostOps3 _ hostOps3_writes h
/-- At boundary 8 each argument holds what it was launched with. -/
theorem W8_args (c : Dev nD) : ∀ a ∈ argRefs, W8 m ρ c (Proc.devRef .tc a) = m ((c : Thread nD τ).loc a) :=
  fun a ha => (W8_of m ρ c a (hostOps3_args a ha)).trans (W7_args m ρ c a ha)
/-- The same read at the TensorCore's references (what region 3's proof data take). -/
abbrev V8 : (c : Dev nD) → (b : Ref sig .tc) → Buf (Elt F) ((c : Thread nD τ).loc b) := fun c b => W8 m ρ c b
/-- At region 3's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec3 c (W8 m ρ c) fun w => (dat3 (V8 m ρ) c).arrAt w cfg3.N
/-- At boundary 9 each array of the call just run holds what its pipeline leaves. -/
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
/-- At boundary 9 a buffer that is none of the call's arrays is as before. -/
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- A reference that is none of region 3's OUTPUT arrays keeps its entry contents across it: an input window's
    array is never written back (`Dat.arrAt_in`, `A_eq3`); any other buffer is left as is. -/
theorem W9_of (c : Dev nD) (r : Ref sig .tc) (h : ∀ w : Fin cfg3.W, Pipeline.arrRef spec3 w = r → (cfg3.win w).isOut = false) :
    W9 m ρ c (Proc.devRef .tc r) = W8 m ρ c (Proc.devRef .tc r) := by
  by_cases hw : ∃ w : Fin cfg3.W, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- At boundary 9 each argument holds what it was launched with. -/
theorem W9_args (c : Dev nD) : ∀ a ∈ argRefs, W9 m ρ c (Proc.devRef .tc a) = m ((c : Thread nD τ).loc a) :=
  fun a ha => (W9_of m ρ c a (argsIn3 a ha)).trans (W8_args m ρ c a ha)
/-- The same read at the TensorCore's references (region 3's exit contents). -/
abbrev V9 : (c : Dev nD) → (b : Ref sig .tc) → Buf (Elt F) ((c : Thread nD τ).loc b) := fun c b => W9 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V8 m ρ) c).arrAt w cfg3.N = V9 m ρ c (Pipeline.arrRef spec3 w) :=
  (W9_arr m ρ c w).symm
/-- The buffers that are none of call 3's arrays are as at its entry. -/
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
  | ⟨3, _⟩ => fun c => dat3 (V8 m ρ) c
/-- No loop variants are needed. -/
abbrev 𝒱₀ : Variants := Variants.none
/-- No core owes another anything: no level is assigned. -/
abbrev L : GSem nD τ sig → Finset Unit := fun _ => ∅
/-- Every semaphore at level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have e : iprop(Pipeline.scopedRest spec2 c ∗ ∃ r, prngReg c r) ⊢ (pdats m ρ 2 c).Φ 0 := hin2 (V6 m ρ) c
    iintro ⟨Hp, -, Hr⟩
    iapply e
    isplitl [Hr]; · iexact Hr
    iexact Hp
  hout c := by
    rw [Pipeline.ownSems0_none]
    have e : (pdats m ρ 2 c).Φ (Fin.last _) ⊢ iprop(Pipeline.scopedRest spec2 c ∗ ∃ r, prngReg c r) := hout2 (V6 m ρ) c
    iintro H
    ihave H := e $$ H
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W8`, left at `W9`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) (A_eq3 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ),
    .host (hseg hostOps3 hostOps3_sub hostOps3_fresh (W7 m ρ)),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters, every weakly fair execution of the program terminates, nothing faulting; at the
    end every buffer outside the calls' own scopes holds what the last boundary's contents say, and every semaphore
    counter is zero. -/
theorem run : θ_run defs (onTc (τ := τ) (main (F := F))) ⟨m, fun _ => 0, ρ⟩ (fun r => (∀ c : Dev nD,
      ∀ b ∈ Pipeline.ucRefs τ sig, r.2.mem ((c : Thread nD τ).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- No argument array lies in a call's own scope. -/
theorem args_unscoped : ∀ a ∈ argRefs, ¬ (Proc.devRef .tc a : DevRef τ sig).isScoped := ListAll.forall_mem_of_all_decide (by decide +kernel)

/-- A memory that holds the last boundary's contents holds each argument as launched. -/
theorem kept {μ : (ℓ : Loc nD τ sig) → Buf (Elt F) ℓ} (h : ∀ c : Dev nD, ∀ b ∈ Pipeline.ucRefs τ sig, μ ((c : Thread nD τ).1, b) = W9 m ρ c b)
    (c : Dev nD) (a : Ref sig .tc) (ha : a ∈ argRefs) : μ ((c.tc : Thread nD τ).loc a) = m ((c.tc : Thread nD τ).loc a) :=
  (h c _ (mem_uc a (args_unscoped a ha))).trans (W9_args m ρ c a ha)

/-- Core `c`'s arguments in the memory `μ` are those of the memory `m`. -/
def Kept (m μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)
  ∧ μ ((c.tc : Thread nD τ).loc main_arg15) = m ((c.tc : Thread nD τ).loc main_arg15)
  ∧ μ ((c.tc : Thread nD τ).loc main_arg16) = m ((c.tc : Thread nD τ).loc main_arg16)
  ∧ μ ((c.tc : Thread nD τ).loc main_arg17) = m ((c.tc : Thread nD τ).loc main_arg17)
  ∧ μ ((c.tc : Thread nD τ).loc main_arg18) = m ((c.tc : Thread nD τ).loc main_arg18)
  ∧ μ ((c.tc : Thread nD τ).loc main_arg19) = m ((c.tc : Thread nD τ).loc main_arg19)
  ∧ μ ((c.tc : Thread nD τ).loc main_arg20) = m ((c.tc : Thread nD τ).loc main_arg20)
  ∧ μ ((c.tc : Thread nD τ).loc main_arg21) = m ((c.tc : Thread nD τ).loc main_arg21)
  ∧ μ ((c.tc : Thread nD τ).loc main_arg22) = m ((c.tc : Thread nD τ).loc main_arg22)
  ∧ μ ((c.tc : Thread nD τ).loc main_arg23) = m ((c.tc : Thread nD τ).loc main_arg23)
  ∧ μ ((c.tc : Thread nD τ).loc main_arg24) = m ((c.tc : Thread nD τ).loc main_arg24)
  ∧ μ ((c.tc : Thread nD τ).loc main_arg25) = m ((c.tc : Thread nD τ).loc main_arg25)
  ∧ μ ((c.tc : Thread nD τ).loc main_arg26) = m ((c.tc : Thread nD τ).loc main_arg26)
  ∧ μ ((c.tc : Thread nD τ).loc main_arg27) = m ((c.tc : Thread nD τ).loc main_arg27)
  ∧ μ ((c.tc : Thread nD τ).loc main_arg28) = m ((c.tc : Thread nD τ).loc main_arg28)
  ∧ μ ((c.tc : Thread nD τ).loc main_arg29) = m ((c.tc : Thread nD τ).loc main_arg29)

/-- A memory that holds the last boundary's contents keeps the arguments. -/
theorem kept_all {μ : (ℓ : Loc nD τ sig) → Buf (Elt F) ℓ} (h : ∀ c : Dev nD, ∀ b ∈ Pipeline.ucRefs τ sig, μ ((c : Thread nD τ).1, b) = W9 m ρ c b)
    (c : Dev nD) : Kept m μ c := by
  repeat' apply And.intro
  all_goals exact kept m ρ h c _ (by decide)

/-- The frame: every execution terminates, nothing faulting, the arguments end as launched and every counter at zero. -/
theorem frame : θ_run defs (onTc (τ := τ) (main (F := F))) ⟨m, fun _ => 0, ρ⟩ (fun r => (∀ c : Dev nD, Kept m r.2.mem c) ∧ r.2.sem = fun _ => 0) :=
  (θ_run defs _ _).mono (fun r h => ⟨kept_all m ρ h.1, h.2⟩) (run m ρ)

end Cert.Kernel.Hand

end
-- ==== Proof.Same.lean ====
/- The two printed programs of the kernel are one: no rewrite was applied, so what is proved of the one holds of the other. -/
module

public import proofs.«01_k».proof.Defs
public import proofs.«01_k».proof.Proof.Gen.Kernel
public import proofs.«01_k».proof.Proof.Gen.KernelIdeal

@[expose] public section

-- whole programs are compared, line by line
set_option maxHeartbeats 4000000
set_option maxRecDepth 20000

noncomputable section

namespace Cert.Same

open Idealize.ShloMosaic Idealize.SL.Sem

variable {F : FTy → Type} [FloatOps F]

/-- The encoder's body is the same in both. -/
theorem encoder : ∀ x0 x1 x2 x3 x4 x5 x6 x7 x8 x9 x10 x11 x12 x13 x14 x15 x16 x17 x18 x19 x20 x21 x22 x23 x24 x25 x26 x27 x28 x29 x30 x31 x32 x33 x34,
    Cert.KernelIdeal.cc0_encoder (F := F) x0 x1 x2 x3 x4 x5 x6 x7 x8 x9 x10 x11 x12 x13 x14 x15 x16 x17 x18 x19 x20 x21 x22 x23 x24 x25 x26 x27 x28 x29 x30 x31 x32 x33 x34 =
    Cert.Kernel.cc0_encoder (F := F) x0 x1 x2 x3 x4 x5 x6 x7 x8 x9 x10 x11 x12 x13 x14 x15 x16 x17 x18 x19 x20 x21 x22 x23 x24 x25 x26 x27 x28 x29 x30 x31 x32 x33 x34 := by
  intros; rfl

/-- The attention's body is the same in both. -/
theorem attention : ∀ x0 x1 x2 x3 x4 x5 x6 x7 x8 x9 x10,
    Cert.KernelIdeal.cc1_attention (F := F) x0 x1 x2 x3 x4 x5 x6 x7 x8 x9 x10 =
    Cert.Kernel.cc1_attention (F := F) x0 x1 x2 x3 x4 x5 x6 x7 x8 x9 x10 := by
  intros; rfl

/-- The GRU's body is the same in both. -/
theorem gru : ∀ x0 x1 x2 x3 x4 x5 x6 x7 x8 x9 x10 x11 x12 x13 x14 x15 x16 x17 x18 x19 x20 x21 x22,
    Cert.KernelIdeal.cc2_gru (F := F) x0 x1 x2 x3 x4 x5 x6 x7 x8 x9 x10 x11 x12 x13 x14 x15 x16 x17 x18 x19 x20 x21 x22 =
    Cert.Kernel.cc2_gru (F := F) x0 x1 x2 x3 x4 x5 x6 x7 x8 x9 x10 x11 x12 x13 x14 x15 x16 x17 x18 x19 x20 x21 x22 := by
  intros; rfl

/-- The head's body is the same in both. -/
theorem head : ∀ x0 x1 x2 x3,
    Cert.KernelIdeal.cc3_head (F := F) x0 x1 x2 x3 =
    Cert.Kernel.cc3_head (F := F) x0 x1 x2 x3 := by
  intros; rfl

/-- The tables of bodies are the same. -/
theorem bodies : Cert.KernelIdeal.defs₀ (F := F) = Cert.Kernel.defs₀ (F := F) := by
  refine congrArg Defs.onTc (funext fun l => funext fun x => ?_)
  match l, x with
  | 0, (t, s) => exact encoder _ _ _ _ _ _ _ _ _ _ _ _ _ _ _ _ _ _ _ _ _ _ _ _ _ _ _ _ _ _ _ _ _ _ _
  | 1, (t, s) => exact attention _ _ _ _ _ _ _ _ _ _ _
  | 2, (t, s) => exact gru _ _ _ _ _ _ _ _ _ _ _ _ _ _ _ _ _ _ _ _ _ _ _
  | 3, (t, s) => exact head _ _ _ _

/-- The programs' definitions, the four calls with their pipelines, are the same. -/
theorem calls : Cert.KernelIdeal.defs (F := F) = Cert.Kernel.defs (F := F) := by
  have h := congrArg (fun d => Pipeline.defs Cert.KernelIdeal.pcfgs d) (bodies (F := F))
  exact h

/-- The first part of the host code is the same. -/
theorem part0 : Cert.KernelIdeal.main_part0 (F := F) = Cert.Kernel.main_part0 (F := F) := rfl

/-- The second part of the host code is the same. -/
theorem part1 : Cert.KernelIdeal.main_part1 (F := F) = Cert.Kernel.main_part1 (F := F) := rfl

/-- The host code is the same. -/
theorem host : Cert.KernelIdeal.main (F := F) = Cert.Kernel.main (F := F) := by
  funext d; unfold Cert.KernelIdeal.main Cert.Kernel.main; rw [part0, part1]; rfl

/-- What every execution of the one program does, every execution of the other does. -/
theorem run (s) (Q : _ → Prop) (h : θ_run (Cert.Kernel.defs (F := F)) (onTc (τ := Cert.Kernel.τ) (Cert.Kernel.main (F := F))) s Q) :
    θ_run (Cert.KernelIdeal.defs (F := F)) (onTc (τ := Cert.KernelIdeal.τ) (Cert.KernelIdeal.main (F := F))) s Q := by
  have e := congrArg₂ (fun d p => (θ_run d (onTc (τ := Cert.Kernel.τ) p)) s Q) (calls (F := F)) (host (F := F))
  exact e.mpr h

end Cert.Same

end
-- ==== Proof.Val.Spec.lean ====
/- The mathematics of one image in the encoder, over the extended reals. -/
module

public import Idealize.ShloMosaic.Lib.Pointwise

@[expose] public section

set_option maxRecDepth 16384
set_option maxHeartbeats 8000000

noncomputable section

namespace Cert.Spec

open Idealize.ShloMosaic
open Idealize.ShloMosaic Idealize.ShloMosaic.TcCoe
open Idealize.SL.Sem

/-- A feature map of `C` channels: its value at a row, a column and a channel. -/
abbrev Feat (C : ℕ) := ℕ → ℕ → Fin C → EReal

/-- A map of `H` rows and columns inside a border of one zero on each side. -/
def pd {C : ℕ} (H : ℕ) (f : Feat C) : Feat C := fun y x c =>
  if 1 ≤ y ∧ y ≤ H ∧ 1 ≤ x ∧ x ≤ H then f (y - 1) (x - 1) c else 0

/-- One tap of a 3x3 convolution: the padded map at an offset, contracted over the channels with the tap's weights. -/
def tap {C O : ℕ} (P : Feat C) (w : ℕ → ℕ → Fin C → Fin O → EReal) (dy dx : ℕ) : Feat O := fun y x o =>
  ∑ c : Fin C, P (y + dy) (x + dx) c * w dy dx c o

/-- A 3x3 convolution of a padded map, as the sum of its nine taps. -/
def conv {C O : ℕ} (P : Feat C) (w : ℕ → ℕ → Fin C → Fin O → EReal) : Feat O := fun y x o =>
  tap P w 0 0 y x o + tap P w 0 1 y x o + tap P w 0 2 y x o + tap P w 1 0 y x o + tap P w 1 1 y x o + tap P w 1 2 y x o
    + tap P w 2 0 y x o + tap P w 2 1 y x o + tap P w 2 2 y x o

/-- A channel's scale and shift, then ReLU. -/
def act {O : ℕ} (f : Feat O) (s t : Fin O → EReal) : Feat O := fun y x o => max (f y x o * s o + t o) 0

/-- The 2x2 max mpool. -/
def mpool {O : ℕ} (f : Feat O) : Feat O := fun y x o =>
  max (max (f (2 * y) (2 * x) o) (f (2 * y + 1) (2 * x) o)) (max (f (2 * y) (2 * x + 1) o) (f (2 * y + 1) (2 * x + 1) o))

/-- The batch norm's constant, the reciprocal root of one and its epsilon, as the value of its word. -/
def bnc : EReal := FloatOps.ofBits (F := Ideal) .f32 0x3F7FFFAC#32

/-- A convolution's bias, the batch norm's scale and shift, then ReLU. -/
def actR {O : ℕ} (f : Feat O) (b g be : Fin O → EReal) : Feat O := fun y x o => max ((f y x o + b o) * (g o * bnc) + be o) 0

/-- The taps' weights of a 3x3 convolution from its array of weights. -/
def wOf {C O : ℕ} (W : (⟨4, ![O, C, 3, 3]⟩ : Shape).Idx → EReal) : ℕ → ℕ → Fin C → Fin O → EReal := fun dy dx c o =>
  W (ix4 o c (Fin.ofNat 3 dy) (Fin.ofNat 3 dx))

/-- A map at every second row and column, by an offset: what a convolution with stride two reads. -/
def conv2 {C O : ℕ} (P : Feat C) (w : ℕ → ℕ → Fin C → Fin O → EReal) : Feat O := fun y x o => conv P w (2 * y) (2 * x) o

/-- The pool's maxima in the other order. -/
theorem mpool_swap {O : ℕ} (f : Feat O) (y x : ℕ) (o : Fin O) : mpool f y x o =
    max (max (f (2 * y) (2 * x) o) (f (2 * y) (2 * x + 1) o)) (max (f (2 * y + 1) (2 * x) o) (f (2 * y + 1) (2 * x + 1) o)) := by
  unfold mpool
  rw [max_assoc, max_assoc]
  exact congrArg _ (max_left_comm _ _ _)

/-- Sums of equal terms are equal. -/
theorem add_cong {a b c d : EReal} (h : a = c) (k : b = d) : a + b = c + d := by rw [h, k]
/-- Products of equal factors are equal, in the other order. -/
theorem mul_cong' {a b c d : EReal} (h : a = d) (k : b = c) : a * b = c * d := by rw [h, k, mul_comm]
/-- Products of equal factors are equal. -/
theorem mul_cong {a b c d : EReal} (h : a = c) (k : b = d) : a * b = c * d := by rw [h, k]
/-- The larger of equal pairs is the same. -/
theorem max_cong {a b c d : EReal} (h : a = c) (k : b = d) : max a b = max c d := by rw [h, k]
/-- A map at equal places has equal values. -/
theorem feat_cong {C : ℕ} (P : Feat C) {y y' x x' : ℕ} {c c' : Fin C} (h : y = y') (k : x = x') (l : c = c') : P y x c = P y' x' c' := by rw [h, k, l]

end Cert.Spec

end
-- ==== Proof.Val.Spec2.lean ====
/- The mathematics of the whole problem over the extended reals, as the kernel arranges it and as the problem states it. -/
module

public import proofs.«01_k».proof.Proof.Val.Spec

@[expose] public section

set_option maxRecDepth 16384
set_option maxHeartbeats 8000000

noncomputable section

namespace Cert.Spec

open Idealize.ShloMosaic
open Idealize.ShloMosaic Idealize.ShloMosaic.TcCoe
open Idealize.SL.Sem

/-- The thirty argument arrays, as functions of their indices. -/
structure Args where
  a0 : (⟨5, ![5, 5, 1, 224, 224]⟩ : Shape).Idx → EReal
  a1 : (⟨4, ![15, 1, 224, 224]⟩ : Shape).Idx → EReal
  a2 : (⟨4, ![32, 1, 3, 3]⟩ : Shape).Idx → EReal
  a3 : (⟨1, ![32]⟩ : Shape).Idx → EReal
  a4 : (⟨4, ![64, 32, 3, 3]⟩ : Shape).Idx → EReal
  a5 : (⟨1, ![64]⟩ : Shape).Idx → EReal
  a6 : (⟨4, ![128, 64, 3, 3]⟩ : Shape).Idx → EReal
  a7 : (⟨1, ![128]⟩ : Shape).Idx → EReal
  a8 : (⟨4, ![256, 128, 3, 3]⟩ : Shape).Idx → EReal
  a9 : (⟨1, ![256]⟩ : Shape).Idx → EReal
  a10 : (⟨1, ![32]⟩ : Shape).Idx → EReal
  a11 : (⟨1, ![32]⟩ : Shape).Idx → EReal
  a12 : (⟨1, ![64]⟩ : Shape).Idx → EReal
  a13 : (⟨1, ![64]⟩ : Shape).Idx → EReal
  a14 : (⟨1, ![128]⟩ : Shape).Idx → EReal
  a15 : (⟨1, ![128]⟩ : Shape).Idx → EReal
  a16 : (⟨1, ![256]⟩ : Shape).Idx → EReal
  a17 : (⟨1, ![256]⟩ : Shape).Idx → EReal
  a18 : (⟨2, ![64, 256]⟩ : Shape).Idx → EReal
  a19 : (⟨1, ![64]⟩ : Shape).Idx → EReal
  a20 : (⟨2, ![384, 512]⟩ : Shape).Idx → EReal
  a21 : (⟨2, ![384, 128]⟩ : Shape).Idx → EReal
  a22 : (⟨1, ![384]⟩ : Shape).Idx → EReal
  a23 : (⟨1, ![384]⟩ : Shape).Idx → EReal
  a24 : (⟨2, ![384, 128]⟩ : Shape).Idx → EReal
  a25 : (⟨2, ![384, 128]⟩ : Shape).Idx → EReal
  a26 : (⟨1, ![384]⟩ : Shape).Idx → EReal
  a27 : (⟨1, ![384]⟩ : Shape).Idx → EReal
  a28 : (⟨2, ![1, 128]⟩ : Shape).Idx → EReal
  a29 : (⟨1, ![1]⟩ : Shape).Idx → EReal

variable (A : Args)

/-- An image by its number: the support set's twenty-five, then the fifteen queries. -/
def img (i : ℕ) : Feat 1 := fun y x _ =>
  if i < 25 then A.a0 (ix5 (Fin.ofNat 5 (i / 5)) (Fin.ofNat 5 (i % 5)) 0 (Fin.ofNat 224 y) (Fin.ofNat 224 x))
  else A.a1 (ix4 (Fin.ofNat 15 (i - 25)) 0 (Fin.ofNat 224 y) (Fin.ofNat 224 x))

/-- A batch norm's scale: its weight by its constant. -/
def scl {O : ℕ} (g : (⟨1, ![O]⟩ : Shape).Idx → EReal) : Fin O → EReal := fun o => g (ix1 o) * bnc

/-- A convolution's bias and a batch norm's offset as one shift. -/
def sft {O : ℕ} (b g be : (⟨1, ![O]⟩ : Shape).Idx → EReal) : Fin O → EReal := fun o => b (ix1 o) * scl g o + be (ix1 o)

/-- An image's feature map after the first block, with the bias and the batch norm folded into one scale and shift. -/
def K1 (i : ℕ) : Feat 32 := mpool (act (conv2 (pd 224 (img A i)) (wOf A.a2)) (scl A.a10) (sft A.a3 A.a10 A.a11))
/-- After the second block, likewise. -/
def K2 (i : ℕ) : Feat 64 := mpool (act (conv (pd 56 (K1 A i)) (wOf A.a4)) (scl A.a12) (sft A.a5 A.a12 A.a13))
/-- After the third block, likewise. -/
def K3 (i : ℕ) : Feat 128 := mpool (act (conv (pd 28 (K2 A i)) (wOf A.a6)) (scl A.a14) (sft A.a7 A.a14 A.a15))
/-- After the fourth block, likewise. -/
def K4 (i : ℕ) : Feat 256 := mpool (act (conv (pd 14 (K3 A i)) (wOf A.a8)) (scl A.a16) (sft A.a9 A.a16 A.a17))

/-- An image's feature map after the first block, the bias added and the batch norm applied one after the other. -/
def R1 (i : ℕ) : Feat 32 := mpool (actR (conv2 (pd 224 (img A i)) (wOf A.a2)) (fun o => A.a3 (ix1 o)) (fun o => A.a10 (ix1 o)) (fun o => A.a11 (ix1 o)))
/-- After the second block, likewise. -/
def R2 (i : ℕ) : Feat 64 := mpool (actR (conv (pd 56 (R1 A i)) (wOf A.a4)) (fun o => A.a5 (ix1 o)) (fun o => A.a12 (ix1 o)) (fun o => A.a13 (ix1 o)))
/-- After the third block, likewise. -/
def R3 (i : ℕ) : Feat 128 := mpool (actR (conv (pd 28 (R2 A i)) (wOf A.a6)) (fun o => A.a7 (ix1 o)) (fun o => A.a14 (ix1 o)) (fun o => A.a15 (ix1 o)))
/-- After the fourth block, likewise. -/
def R4 (i : ℕ) : Feat 256 := mpool (actR (conv (pd 14 (R3 A i)) (wOf A.a8)) (fun o => A.a9 (ix1 o)) (fun o => A.a16 (ix1 o)) (fun o => A.a17 (ix1 o)))

variable (E : ℕ → Feat 256)

/-- The features of image `i` at position `s` of its forty-nine. -/
def ft (i s : ℕ) (f : Fin 256) : EReal := E i (s / 7) (s % 7) f

/-- The features' linear map the attention compares. -/
def attp (i s : ℕ) (c : Fin 64) : EReal := (∑ f : Fin 256, ft E i s f * A.a18 (ix2 c f)) + A.a19 (ix1 c)

/-- The score of image `i`'s position `t` against image `j`'s position `s`. -/
def sco (i j t s : ℕ) : EReal := ∑ c : Fin 64, Ideal.tanh (attp A E i t c * attp A E j s c)

/-- The features projected by the first half of the first layer's input weights. -/
def prA (i s : ℕ) (g : Fin 384) : EReal := ∑ f : Fin 256, ft E i s f * A.a20 (ix2 g (f.castLE (by norm_num)))

/-- The features projected by the second half of the first layer's input weights, and its bias. -/
def prB (i s : ℕ) (g : Fin 384) : EReal := (∑ f : Fin 256, ft E i s f * A.a20 (ix2 g (f.natAdd 256))) + A.a22 (ix1 g)

/-- The first layer's input gates at step `t` of pair `r`, the projection taken before the attention's average and the
    average's division last. -/
def giK (t r : ℕ) (g : Fin 384) : EReal :=
  Ideal.div (∑ s : Fin 49, Ideal.exp (sco A E (25 + r / 25) (r % 25) t s) * prA A E (r % 25) s g)
    (∑ s : Fin 49, Ideal.exp (sco A E (25 + r / 25) (r % 25) t s) * 1) + prB A E (25 + r / 25) t g

/-- The greatest of finitely many values (and of bottom). -/
def top {n : ℕ} (f : Fin n → EReal) : EReal := Finset.univ.sup f

/-- A softmax's weight. -/
def smx {n : ℕ} (f : Fin n → EReal) (s : Fin n) : EReal :=
  Ideal.div (Ideal.exp (f s - top f)) (∑ s' : Fin n, Ideal.exp (f s' - top f))

/-- The attended features of pair `r` at position `t`. -/
def atd (t r : ℕ) (f : Fin 256) : EReal :=
  ∑ s : Fin 49, smx (fun s : Fin 49 => sco A E (25 + r / 25) (r % 25) t s) s * ft E (r % 25) s f

/-- The recurrent network's input: the attended features, then the query's. -/
def xs (t r : ℕ) (k : Fin 512) : EReal :=
  if h : k.val < 256 then atd A E t r ⟨k.val, h⟩ else ft E (25 + r / 25) t ⟨k.val - 256, by omega⟩

/-- The first layer's input gates from that input. -/
def giR (t r : ℕ) (g : Fin 384) : EReal := (∑ k : Fin 512, xs A E t r k * A.a20 (ix2 g k)) + A.a22 (ix1 g)

/-- The logistic function, as it is spelt out. -/
def sg (x : EReal) : EReal := Ideal.div 1 (1 + Ideal.exp (-x))

/-- One entry of a gated unit's new state from its gates' two halves. -/
def cell (gi gh : Fin 384 → EReal) (h : EReal) (j : Fin 128) : EReal :=
  (1 - sg (gi ⟨128 + j.val, by omega⟩ + gh ⟨128 + j.val, by omega⟩))
      * Ideal.tanh (gi ⟨256 + j.val, by omega⟩ + sg (gi ⟨j.val, by omega⟩ + gh ⟨j.val, by omega⟩) * gh ⟨256 + j.val, by omega⟩)
    + sg (gi ⟨128 + j.val, by omega⟩ + gh ⟨128 + j.val, by omega⟩) * h

/-- A linear map into the gates. -/
def lin (x : Fin 128 → EReal) (W : (⟨2, ![384, 128]⟩ : Shape).Idx → EReal) (b : (⟨1, ![384]⟩ : Shape).Idx → EReal) (g : Fin 384) : EReal :=
  (∑ k : Fin 128, x k * W (ix2 g k)) + b (ix1 g)

/-- The first layer's new state. -/
def nxt0 (gi : Fin 384 → EReal) (h : Fin 128 → EReal) (j : Fin 128) : EReal := cell gi (lin h A.a21 A.a23) (h j) j
/-- The second layer's new state, from the first's. -/
def nxt1 (x h : Fin 128 → EReal) (j : Fin 128) : EReal := cell (lin x A.a24 A.a26) (lin h A.a25 A.a27) (h j) j

/-- The two layers' states after `n` steps of pair `r`, from the input gates. -/
def hid (G : ℕ → ℕ → Fin 384 → EReal) (r : ℕ) : ℕ → (Fin 128 → EReal) × (Fin 128 → EReal)
  | 0 => (fun _ => 0, fun _ => 0)
  | n + 1 => (nxt0 A (G n r) (hid G r n).1, nxt1 A (nxt0 A (G n r) (hid G r n).1) (hid G r n).2)

/-- A pair's logit without its bias. -/
def lgt (G : ℕ → ℕ → Fin 384 → EReal) (r : ℕ) : EReal := ∑ j : Fin 128, (hid A G r 49).2 j * A.a28 (ix2 0 j)

/-- A log-softmax. -/
def lsm {n : ℕ} (S : Fin n → EReal) (c : Fin n) : EReal := S c - top S - Ideal.log (∑ c' : Fin n, Ideal.exp (S c' - top S))

/-- A class's logit: the sum over its shots, by a product with a table of zeros and ones. -/
def clsK (q : ℕ) (c : Fin 5) : EReal :=
  ∑ u : Fin 25, lgt A (giK A (K4 A)) (q * 25 + u.val) * (if u.val / 5 = c.val then 1 else 0)

/-- A class's logit: the sum over its shots, each with the bias. -/
def clsR (q : ℕ) (c : Fin 5) : EReal :=
  ∑ k : Fin 5, (lgt A (giR A (R4 A)) (q * 25 + c.val * 5 + k.val) + A.a29 (ix1 0))

/-- The kernel's result. -/
def resK (q : ℕ) (c : Fin 5) : EReal := lsm (clsK A q) c
/-- The problem's result. -/
def resR (q : ℕ) (c : Fin 5) : EReal := lsm (clsR A q) c

end Cert.Spec

end
-- ==== Proof.Val.KHostX.lean ====
/- The images as the host code hands them to the encoder call. -/
module

public import proofs.«01_k».proof.Proof.Gen.Kernel.Regions
public import proofs.«01_k».proof.Proof.Val.Spec2

@[expose] public section

set_option maxRecDepth 16384
set_option maxHeartbeats 8000000

noncomputable section

namespace Cert.Kernel.Val

open Cert.Kernel Cert.Kernel.Gen Cert.Spec Idealize.ShloMosaic.StableHlo
open Idealize.ShloMosaic Idealize.ShloMosaic.TcCoe
open Idealize.SL.Sem

variable (V : Valuation τ sig (Elt Ideal))

/-- The two arrays of images as one. -/
def cat2 (x : Vec Ideal S25x224x224 .f32) (y : Vec Ideal S15x224x224 .f32) : Vec Ideal S40x224x224 .f32 :=
  concatenate S40x224x224 0 [⟨S25x224x224, x⟩, ⟨S15x224x224, y⟩] concatenates_S25x224x224_S15x224x224_S40x224x224_d0

/-- The images after the reshapes, the concatenation and the padding. -/
theorem v3_at (A : Args) (h0 : V (Proc.devRef .tc main_arg0) = A.a0) (h1 : V (Proc.devRef .tc main_arg1) = A.a1) (i : Fin 40) (y x : Fin 226) :
    (after hostOps0_1 (after hostOps0 V) (Proc.devRef .tc main_v3) : Vec Ideal S40x226x226 .f32) (ix3 i y x) = pd 224 (img A i.val) y.val x.val 0 := by
  have e : after hostOps0_1 (after hostOps0 V) (Proc.devRef .tc main_v3) = pad S40x226x226 ![0, 1, 1] ![0, 1, 1] ![0, 0, 0]
      (cat2 (shapeCast S25x224x224 (V (Proc.devRef .tc main_arg0) : Vec Ideal S5x5x1x224x224 .f32) shapeCasts_S5x5x1x224x224_S25x224x224)
        (shapeCast S15x224x224 (V (Proc.devRef .tc main_arg1) : Vec Ideal S15x1x224x224 .f32) shapeCasts_S15x1x224x224_S15x224x224))
      (sitofp .f32 (constantI S_ 32 0#32) : FVec Ideal S_ .f32) pads_S40x224x224_S40x226x226_000_110_110 h_S_ := by
    after_results_simp
    rfl
  rw [e, h0, h1]
  pointwise [cat2]
  unfold pd img
  by_cases hb : 1 ≤ y.val ∧ y.val ≤ 224 ∧ 1 ≤ x.val ∧ x.val ≤ 224
  · rw [dif_pos (by omega), if_pos hb]
    by_cases hi : i.val < 25
    · rw [dif_pos hi, if_pos hi]
      refine congrArg A.a0 ?_
      ext k; fin_cases k <;> simp [Fin.ofNat] <;> omega
    · rw [dif_neg hi, if_neg hi]
      refine congrArg A.a1 ?_
      ext k; fin_cases k <;> simp [Fin.ofNat] <;> omega
  · rw [dif_neg (by omega), if_neg hb]
    change (((0#32 : BitVec 32).toInt : ℝ) : EReal) = 0
    simp

/-- Nine arrays stacked along the second axis. -/
def cat9 (x0 x1 x2 x3 x4 x5 x6 x7 x8 : Vec Ideal S40x1x112x112 .f32) : Vec Ideal S40x9x112x112 .f32 :=
  concatenate S40x9x112x112 1 [⟨S40x1x112x112, x0⟩, ⟨S40x1x112x112, x1⟩, ⟨S40x1x112x112, x2⟩, ⟨S40x1x112x112, x3⟩, ⟨S40x1x112x112, x4⟩, ⟨S40x1x112x112, x5⟩, ⟨S40x1x112x112, x6⟩, ⟨S40x1x112x112, x7⟩, ⟨S40x1x112x112, x8⟩] concatenates_S40x1x112x112_S40x1x112x112_S40x1x112x112_S40x1x112x112_S40x1x112x112_S40x1x112x112_S40x1x112x112_S40x1x112x112_S40x1x112x112_S40x9x112x112_d1

/-- The operations before the stacking. -/
def preOps : List (HloOp τ sig (Elt Ideal)) := hostOps0_2.take 29
/-- The stacking and the operations after it. -/
def postOps : List (HloOp τ sig (Elt Ideal)) := hostOps0_2.drop 29

/-- Tap 0 of the first convolution. -/
theorem tap0_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v24) : Vec Ideal S40x1x112x112 .f32) (ix4 i z y x) = f i.val (2 * y.val + 0) (2 * x.val + 0) 0 := by
  unfold preOps
  simp only [List.take_succ_cons, List.take_zero]
  after_results_simp
  pointwise
  simp only [hP]
  refine feat_cong _ ?_ ?_ rfl <;> omega

/-- Tap 1 of the first convolution. -/
theorem tap1_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v25) : Vec Ideal S40x1x112x112 .f32) (ix4 i z y x) = f i.val (2 * y.val + 0) (2 * x.val + 1) 0 := by
  unfold preOps
  simp only [List.take_succ_cons, List.take_zero]
  after_results_simp
  pointwise
  simp only [hP]
  refine feat_cong _ ?_ ?_ rfl <;> omega

/-- Tap 2 of the first convolution. -/
theorem tap2_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v26) : Vec Ideal S40x1x112x112 .f32) (ix4 i z y x) = f i.val (2 * y.val + 0) (2 * x.val + 2) 0 := by
  unfold preOps
  simp only [List.take_succ_cons, List.take_zero]
  after_results_simp
  pointwise
  simp only [hP]
  refine feat_cong _ ?_ ?_ rfl <;> omega

/-- Tap 3 of the first convolution. -/
theorem tap3_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v27) : Vec Ideal S40x1x112x112 .f32) (ix4 i z y x) = f i.val (2 * y.val + 1) (2 * x.val + 0) 0 := by
  unfold preOps
  simp only [List.take_succ_cons, List.take_zero]
  after_results_simp
  pointwise
  simp only [hP]
  refine feat_cong _ ?_ ?_ rfl <;> omega

/-- Tap 4 of the first convolution. -/
theorem tap4_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v28) : Vec Ideal S40x1x112x112 .f32) (ix4 i z y x) = f i.val (2 * y.val + 1) (2 * x.val + 1) 0 := by
  unfold preOps
  simp only [List.take_succ_cons, List.take_zero]
  after_results_simp
  pointwise
  simp only [hP]
  refine feat_cong _ ?_ ?_ rfl <;> omega

/-- Tap 5 of the first convolution. -/
theorem tap5_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v29) : Vec Ideal S40x1x112x112 .f32) (ix4 i z y x) = f i.val (2 * y.val + 1) (2 * x.val + 2) 0 := by
  unfold preOps
  simp only [List.take_succ_cons, List.take_zero]
  after_results_simp
  pointwise
  simp only [hP]
  refine feat_cong _ ?_ ?_ rfl <;> omega

/-- Tap 6 of the first convolution. -/
theorem tap6_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v30) : Vec Ideal S40x1x112x112 .f32) (ix4 i z y x) = f i.val (2 * y.val + 2) (2 * x.val + 0) 0 := by
  unfold preOps
  simp only [List.take_succ_cons, List.take_zero]
  after_results_simp
  pointwise
  simp only [hP]
  refine feat_cong _ ?_ ?_ rfl <;> omega

/-- Tap 7 of the first convolution. -/
theorem tap7_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v31) : Vec Ideal S40x1x112x112 .f32) (ix4 i z y x) = f i.val (2 * y.val + 2) (2 * x.val + 1) 0 := by
  unfold preOps
  simp only [List.take_succ_cons, List.take_zero]
  after_results_simp
  pointwise
  simp only [hP]
  refine feat_cong _ ?_ ?_ rfl <;> omega

/-- Tap 8 of the first convolution. -/
theorem tap8_at (f : ℕ → Feat 1) (hP : ∀ (i : Fin 40) (y x : Fin 226), V (Proc.devRef .tc main_v3) (ix3 i y x) = f i.val y.val x.val 0)
    (i : Fin 40) (z : Fin 1) (y x : Fin 112) :
    (after preOps V (Proc.devRef .tc main_v32) : Vec Ideal S40x1x112x112 .f32) (ix4 i z y x) = f i.val (2 * y.val + 2) (2 * x.val + 2) 0 := by
  unfold preOps
  simp only [List.take_succ_cons, List.take_zero]
  after_results_simp
  pointwise
  simp only [hP]
  refine feat_cong _ ?_ ?_ rfl <;> omega

/-- The first convolution's taps, gathered by the host code. -/
theorem x9_at (f : ℕ → Feat 1) (hP : ∀ (i : Fin 40) (y x : Fin 226), V (Proc.devRef .tc main_v3) (ix3 i y x) = f i.val y.val x.val 0)
    (i : Fin 40) (k : Fin 9) (p : Fin 12544) :
    (after hostOps0_2 V (Proc.devRef .tc main_v34) : Vec Ideal S40x9x12544 .f32) (ix3 i k p)
      = f i.val (2 * (p.val / 112) + k.val / 3) (2 * (p.val % 112) + k.val % 3) 0 := by
  have e : after hostOps0_2 V = after postOps (after preOps V) := by
    rw [← after_append]
    exact congrArg (fun l => after l V) (List.take_append_drop 29 _).symm
  rw [e]
  have h0 := tap0_at V f hP
  have h1 := tap1_at V f hP
  have h2 := tap2_at V f hP
  have h3 := tap3_at V f hP
  have h4 := tap4_at V f hP
  have h5 := tap5_at V f hP
  have h6 := tap6_at V f hP
  have h7 := tap7_at V f hP
  have h8 := tap8_at V f hP
  generalize after preOps V = F at *
  have e2 : after postOps F (Proc.devRef .tc main_v34) = shapeCast S40x9x12544 (cat9 (F (Proc.devRef .tc main_v24)) (F (Proc.devRef .tc main_v25)) (F (Proc.devRef .tc main_v26)) (F (Proc.devRef .tc main_v27)) (F (Proc.devRef .tc main_v28)) (F (Proc.devRef .tc main_v29)) (F (Proc.devRef .tc main_v30)) (F (Proc.devRef .tc main_v31)) (F (Proc.devRef .tc main_v32))) shapeCasts_S40x9x112x112_S40x9x12544 := by
    unfold postOps
    simp only [List.drop_succ_cons, List.drop_zero]
    after_results_simp
    rfl
  rw [e2]
  pointwise [cat9]
  simp only [h0, h1, h2, h3, h4, h5, h6, h7, h8]
  split_ifs <;> refine feat_cong _ ?_ ?_ rfl <;> omega

end Cert.Kernel.Val

end
-- ==== Proof.Val.KHostW.lean ====
/- The encoder call's weights as the host code arranges them. -/
module

public import proofs.«01_k».proof.Proof.Gen.Kernel.Regions
public import proofs.«01_k».proof.Proof.Val.Spec2

@[expose] public section

set_option maxRecDepth 16384
set_option maxHeartbeats 8000000

noncomputable section

namespace Cert.Kernel.Val

open Cert.Kernel Cert.Kernel.Gen Cert.Spec Idealize.ShloMosaic.StableHlo
open Idealize.ShloMosaic Idealize.ShloMosaic.TcCoe
open Idealize.SL.Sem

variable (V : Valuation τ sig (Elt Ideal))

/-- Block 2's weights as the call takes them. -/
theorem w2_at (W : (⟨4, ![64, 32, 3, 3]⟩ : Shape).Idx → EReal) (h : V (Proc.devRef .tc main_arg4) = W) (t : Fin 9) (c : Fin 32) (o : Fin 64) :
    (after hostOps0_2 V (Proc.devRef .tc main_v45) : Vec Ideal S9x32x64 .f32) (ix3 t c o) = wOf W (t.val / 3) (t.val % 3) c o := by
  after_results_simp
  pointwise
  rw [h]
  unfold wOf
  refine congrArg W ?_
  ext k; fin_cases k <;> simp [Fin.ofNat] <;> omega

/-- Block 3's weights as the call takes them. -/
theorem w3_at (W : (⟨4, ![128, 64, 3, 3]⟩ : Shape).Idx → EReal) (h : V (Proc.devRef .tc main_arg6) = W) (t : Fin 9) (c : Fin 64) (o : Fin 128) :
    (after hostOps0_2 V (Proc.devRef .tc main_v54) : Vec Ideal S9x64x128 .f32) (ix3 t c o) = wOf W (t.val / 3) (t.val % 3) c o := by
  after_results_simp
  pointwise
  rw [h]
  unfold wOf
  refine congrArg W ?_
  ext k; fin_cases k <;> simp [Fin.ofNat] <;> omega

/-- Block 4's weights as the call takes them. -/
theorem w4_at (W : (⟨4, ![256, 128, 3, 3]⟩ : Shape).Idx → EReal) (h : V (Proc.devRef .tc main_arg8) = W) (t : Fin 9) (c : Fin 128) (o : Fin 256) :
    (after hostOps0_2 V (Proc.devRef .tc main_v63) : Vec Ideal S9x128x256 .f32) (ix3 t c o) = wOf W (t.val / 3) (t.val % 3) c o := by
  after_results_simp
  pointwise
  rw [h]
  unfold wOf
  refine congrArg W ?_
  ext k; fin_cases k <;> simp [Fin.ofNat] <;> omega

/-- Block 1's scale as the call takes it. -/
theorem s1_at (g : (⟨1, ![32]⟩ : Shape).Idx → EReal) (h : V (Proc.devRef .tc main_arg10) = g) (o : Fin 32) :
    (after hostOps0_2 V (Proc.devRef .tc main_v43) : Vec Ideal S2x32 .f32) (ix2 0 o) = scl g o := by
  after_results_simp
  pointwise
  rw [h]
  first | rfl | simp [scl, bnc]

/-- Block 1's shift as the call takes it. -/
theorem t1_at (b g be : (⟨1, ![32]⟩ : Shape).Idx → EReal) (hb : V (Proc.devRef .tc main_arg3) = b) (h : V (Proc.devRef .tc main_arg10) = g)
    (he : V (Proc.devRef .tc main_arg11) = be) (o : Fin 32) :
    (after hostOps0_2 V (Proc.devRef .tc main_v43) : Vec Ideal S2x32 .f32) (ix2 1 o) = sft b g be o := by
  after_results_simp
  pointwise
  rw [h, hb, he]
  first | rfl | simp [sft, scl, bnc]

/-- Block 2's scale as the call takes it. -/
theorem s2_at (g : (⟨1, ![64]⟩ : Shape).Idx → EReal) (h : V (Proc.devRef .tc main_arg12) = g) (o : Fin 64) :
    (after hostOps0_2 V (Proc.devRef .tc main_v52) : Vec Ideal S2x64 .f32) (ix2 0 o) = scl g o := by
  after_results_simp
  pointwise
  rw [h]
  first | rfl | simp [scl, bnc]

/-- Block 2's shift as the call takes it. -/
theorem t2_at (b g be : (⟨1, ![64]⟩ : Shape).Idx → EReal) (hb : V (Proc.devRef .tc main_arg5) = b) (h : V (Proc.devRef .tc main_arg12) = g)
    (he : V (Proc.devRef .tc main_arg13) = be) (o : Fin 64) :
    (after hostOps0_2 V (Proc.devRef .tc main_v52) : Vec Ideal S2x64 .f32) (ix2 1 o) = sft b g be o := by
  after_results_simp
  pointwise
  rw [h, hb, he]
  first | rfl | simp [sft, scl, bnc]

/-- Block 3's scale as the call takes it. -/
theorem s3_at (g : (⟨1, ![128]⟩ : Shape).Idx → EReal) (h : V (Proc.devRef .tc main_arg14) = g) (o : Fin 128) :
    (after hostOps0_2 V (Proc.devRef .tc main_v61) : Vec Ideal S2x128 .f32) (ix2 0 o) = scl g o := by
  after_results_simp
  pointwise
  rw [h]
  first | rfl | simp [scl, bnc]

/-- Block 3's shift as the call takes it. -/
theorem t3_at (b g be : (⟨1, ![128]⟩ : Shape).Idx → EReal) (hb : V (Proc.devRef .tc main_arg7) = b) (h : V (Proc.devRef .tc main_arg14) = g)
    (he : V (Proc.devRef .tc main_arg15) = be) (o : Fin 128) :
    (after hostOps0_2 V (Proc.devRef .tc main_v61) : Vec Ideal S2x128 .f32) (ix2 1 o) = sft b g be o := by
  after_results_simp
  pointwise
  rw [h, hb, he]
  first | rfl | simp [sft, scl, bnc]

/-- Block 4's scale as the call takes it. -/
theorem s4_at (g : (⟨1, ![256]⟩ : Shape).Idx → EReal) (h : V (Proc.devRef .tc main_arg16) = g) (o : Fin 256) :
    (after hostOps0_2 V (Proc.devRef .tc main_v70) : Vec Ideal S2x256 .f32) (ix2 0 o) = scl g o := by
  after_results_simp
  pointwise
  rw [h]
  first | rfl | simp [scl, bnc]

/-- Block 4's shift as the call takes it. -/
theorem t4_at (b g be : (⟨1, ![256]⟩ : Shape).Idx → EReal) (hb : V (Proc.devRef .tc main_arg9) = b) (h : V (Proc.devRef .tc main_arg16) = g)
    (he : V (Proc.devRef .tc main_arg17) = be) (o : Fin 256) :
    (after hostOps0_2 V (Proc.devRef .tc main_v70) : Vec Ideal S2x256 .f32) (ix2 1 o) = sft b g be o := by
  after_results_simp
  pointwise
  rw [h, hb, he]
  first | rfl | simp [sft, scl, bnc]

/-- The first block's weights as the call takes them. -/
theorem w1_at (W : (⟨4, ![32, 1, 3, 3]⟩ : Shape).Idx → EReal) (h : V (Proc.devRef .tc main_arg2) = W) (k : Fin 9) (o : Fin 32) :
    (after hostOps0_2 V (Proc.devRef .tc main_v36) : Vec Ideal S9x32 .f32) (ix2 k o) = W (ix4 o 0 (Fin.ofNat 3 (k.val / 3)) (Fin.ofNat 3 (k.val % 3))) := by
  after_results_simp
  pointwise
  rw [h]
  all_goals (refine congrArg W ?_; ext k; fin_cases k <;> simp [Fin.ofNat] <;> omega)

/-- The attention's weights as the call takes them. -/
theorem aw_at (W : (⟨2, ![64, 256]⟩ : Shape).Idx → EReal) (h : V (Proc.devRef .tc main_arg18) = W) (f : Fin 256) (c : Fin 64) :
    (after hostOps0_2 V (Proc.devRef .tc main_v71) : Vec Ideal S256x64 .f32) (ix2 f c) = W (ix2 c f) := by
  after_results_simp
  pointwise
  rw [h]
  all_goals (refine congrArg W ?_; ext k; fin_cases k <;> simp [Fin.ofNat] <;> omega)

/-- The attention's bias as the call takes it. -/
theorem ab_at (W : (⟨1, ![64]⟩ : Shape).Idx → EReal) (h : V (Proc.devRef .tc main_arg19) = W) (z : Fin 1) (c : Fin 64) :
    (after hostOps0_2 V (Proc.devRef .tc main_v72) : Vec Ideal S1x64 .f32) (ix2 z c) = W (ix1 c) := by
  after_results_simp
  pointwise
  rw [h]
  all_goals (refine congrArg W ?_; ext k; fin_cases k <;> simp [Fin.ofNat] <;> omega)

/-- The first half of the first layer's input weights. -/
theorem wA_at (W : (⟨2, ![384, 512]⟩ : Shape).Idx → EReal) (h : V (Proc.devRef .tc main_arg20) = W) (f : Fin 256) (g : Fin 384) :
    (after hostOps0_2 V (Proc.devRef .tc main_v74) : Vec Ideal S256x384 .f32) (ix2 f g) = W (ix2 g (f.castLE (by norm_num))) := by
  after_results_simp
  pointwise
  rw [h]
  all_goals (refine congrArg W ?_; ext k; fin_cases k <;> simp [Fin.ofNat] <;> omega)

/-- The second half of the first layer's input weights. -/
theorem wB_at (W : (⟨2, ![384, 512]⟩ : Shape).Idx → EReal) (h : V (Proc.devRef .tc main_arg20) = W) (f : Fin 256) (g : Fin 384) :
    (after hostOps0_2 V (Proc.devRef .tc main_v76) : Vec Ideal S256x384 .f32) (ix2 f g) = W (ix2 g (f.natAdd 256)) := by
  after_results_simp
  pointwise
  rw [h]
  all_goals (refine congrArg W ?_; ext k; fin_cases k <;> simp [Fin.ofNat] <;> omega)

/-- The first layer's input bias. -/
theorem bi_at (W : (⟨1, ![384]⟩ : Shape).Idx → EReal) (h : V (Proc.devRef .tc main_arg22) = W) (z : Fin 1) (g : Fin 384) :
    (after hostOps0_2 V (Proc.devRef .tc main_v77) : Vec Ideal S1x384 .f32) (ix2 z g) = W (ix1 g) := by
  after_results_simp
  pointwise
  rw [h]
  all_goals (refine congrArg W ?_; ext k; fin_cases k <;> simp [Fin.ofNat] <;> omega)

end Cert.Kernel.Val

end
-- ==== Proof.Val.EncDef.lean ====
/- The four blocks of the encoder call, as the compositions of its stored values. -/
module

public import proofs.«01_k».proof.Proof.Gen.Kernel.Skeleton
public import proofs.«01_k».proof.Proof.Val.Spec

@[expose] public section

set_option maxRecDepth 16384
set_option maxHeartbeats 8000000

noncomputable section

namespace Cert.Kernel.Val

open Cert.Kernel Cert.Kernel.Gen Cert.Spec
open Idealize.ShloMosaic Idealize.ShloMosaic.TcCoe
open Idealize.SL.Sem

/-- The first block of the encoder's body: the convolution by one product, scale, ReLU, mpool, and the padding of the second. -/
def B1 (x0 : Vec Ideal S1x9x12544 .f32) (x1 : Vec Ideal S9x32 .f32) (x2 : Vec Ideal S2x32 .f32) : FVec Ideal S58x58x32 .f32 :=
  k0_pay2 x0 x1 (View.ld x2 (Rect.unit ![0,0] ![1,32] inb_S2x32_S1x32_0_0)) (View.ld x2 (Rect.unit ![1,0] ![1,32] inb_S2x32_S1x32_1_0))

/-- The second block of the encoder's body, and the padding of the third. -/
def B2 (v : FVec Ideal S58x58x32 .f32) (x3 : Vec Ideal S9x32x64 .f32) (x4 : Vec Ideal S2x64 .f32) : FVec Ideal S30x30x64 .f32 :=
  k0_pay7 v (k0_pay5 v (shapeCast S3136x32 (extractStridedSlice S56x56x32 ![0, 0, 0] v slices_S58x58x32_o0_0_0_S56x56x32) shapeCasts_S56x56x32_S3136x32)
    (k0_pay4 (View.ld x3 (Rect.unit ![0,0,0] ![1,32,64] inb_S9x32x64_S1x32x64_0_0_0))) (constant S3136x64 .f32 0x00000000#32) (View.ld x3 (Rect.unit ![1,0,0] ![1,32,64] inb_S9x32x64_S1x32x64_1_0_0)) (View.ld x3 (Rect.unit ![2,0,0] ![1,32,64] inb_S9x32x64_S1x32x64_2_0_0)) (View.ld x3 (Rect.unit ![3,0,0] ![1,32,64] inb_S9x32x64_S1x32x64_3_0_0)) (View.ld x3 (Rect.unit ![4,0,0] ![1,32,64] inb_S9x32x64_S1x32x64_4_0_0)) (View.ld x3 (Rect.unit ![5,0,0] ![1,32,64] inb_S9x32x64_S1x32x64_5_0_0)))
    (k0_pay6 v (View.ld x3 (Rect.unit ![6,0,0] ![1,32,64] inb_S9x32x64_S1x32x64_6_0_0))) (View.ld x3 (Rect.unit ![7,0,0] ![1,32,64] inb_S9x32x64_S1x32x64_7_0_0)) (View.ld x3 (Rect.unit ![8,0,0] ![1,32,64] inb_S9x32x64_S1x32x64_8_0_0)) (View.ld x4 (Rect.unit ![0,0] ![1,64] inb_S2x64_S1x64_0_0)) (View.ld x4 (Rect.unit ![1,0] ![1,64] inb_S2x64_S1x64_1_0))

/-- The third block of the encoder's body. -/
def B3 (v : FVec Ideal S30x30x64 .f32) (x5 : Vec Ideal S9x64x128 .f32) (x6 : Vec Ideal S2x128 .f32) : FVec Ideal S14x14x128 .f32 :=
  k0_pay10 v (k0_pay8 v (View.ld x5 (Rect.unit ![0,0,0] ![1,64,128] inb_S9x64x128_S1x64x128_0_0_0)) (View.ld x5 (Rect.unit ![1,0,0] ![1,64,128] inb_S9x64x128_S1x64x128_1_0_0)) (View.ld x5 (Rect.unit ![2,0,0] ![1,64,128] inb_S9x64x128_S1x64x128_2_0_0)) (View.ld x5 (Rect.unit ![3,0,0] ![1,64,128] inb_S9x64x128_S1x64x128_3_0_0)) (View.ld x5 (Rect.unit ![4,0,0] ![1,64,128] inb_S9x64x128_S1x64x128_4_0_0)) (View.ld x5 (Rect.unit ![5,0,0] ![1,64,128] inb_S9x64x128_S1x64x128_5_0_0))) (k0_pay9 v) (View.ld x5 (Rect.unit ![6,0,0] ![1,64,128] inb_S9x64x128_S1x64x128_6_0_0)) (View.ld x5 (Rect.unit ![7,0,0] ![1,64,128] inb_S9x64x128_S1x64x128_7_0_0)) (View.ld x5 (Rect.unit ![8,0,0] ![1,64,128] inb_S9x64x128_S1x64x128_8_0_0)) (View.ld x6 (Rect.unit ![0,0] ![1,128] inb_S2x128_S1x128_0_0)) (View.ld x6 (Rect.unit ![1,0] ![1,128] inb_S2x128_S1x128_1_0))

/-- The fourth block of the encoder's body. -/
def B4 (v : FVec Ideal S14x14x128 .f32) (x7 : Vec Ideal S9x128x256 .f32) (x8 : Vec Ideal S2x256 .f32) : FVec Ideal S14x7x256 .f32 :=
  k0_pay15 (k0_pay12 v k0_pay11) (k0_pay13 v k0_pay11 (View.ld x7 (Rect.unit ![0,0,0] ![1,128,256] inb_S9x128x256_S1x128x256_0_0_0)) (View.ld x7 (Rect.unit ![1,0,0] ![1,128,256] inb_S9x128x256_S1x128x256_1_0_0)) (View.ld x7 (Rect.unit ![2,0,0] ![1,128,256] inb_S9x128x256_S1x128x256_2_0_0)) (View.ld x7 (Rect.unit ![3,0,0] ![1,128,256] inb_S9x128x256_S1x128x256_3_0_0)) (View.ld x7 (Rect.unit ![4,0,0] ![1,128,256] inb_S9x128x256_S1x128x256_4_0_0))) (k0_pay14 v k0_pay11) (View.ld x7 (Rect.unit ![5,0,0] ![1,128,256] inb_S9x128x256_S1x128x256_5_0_0)) (View.ld x7 (Rect.unit ![6,0,0] ![1,128,256] inb_S9x128x256_S1x128x256_6_0_0)) (View.ld x7 (Rect.unit ![7,0,0] ![1,128,256] inb_S9x128x256_S1x128x256_7_0_0)) (View.ld x7 (Rect.unit ![8,0,0] ![1,128,256] inb_S9x128x256_S1x128x256_8_0_0)) (View.ld x8 (Rect.unit ![0,0] ![1,256] inb_S2x256_S1x256_0_0)) (View.ld x8 (Rect.unit ![1,0] ![1,256] inb_S2x256_S1x256_1_0))

end Cert.Kernel.Val

end
-- ==== Proof.Val.KEncA.lean ====
/- What the encoder call's body leaves at a point, from its blocks. -/
module

public import proofs.«01_k».proof.Proof.Kernel.Encoder
public import proofs.«01_k».proof.Proof.Val.Spec2
public import Idealize.ShloMosaic.Lib.Pointwise
public import Idealize.ShloMosaic.Lib.Pipeline.ValueKit
public import proofs.«01_k».proof.Proof.Val.EncDef

@[expose] public section

set_option maxRecDepth 16384
set_option maxHeartbeats 8000000

noncomputable section

namespace Cert.Kernel.Val

open Cert.Kernel Cert.Kernel.Gen Cert.Kernel.Hand Cert.Spec
open Idealize.ShloMosaic Idealize.ShloMosaic.TcCoe
open Idealize.SL.Sem

variable (V : (c : Dev nD) → (b : Ref sig .tc) → Buf (Elt Ideal) ((c : Thread nD τ).loc b)) (c : Dev nD)

/-- Every window's block index at a grid point. -/
theorem idx0 : ∀ t : Fin cfg0.N, win0_0.index t = ![t.val, 0, 0] ∧ win0_1.index t = ![0, 0] ∧ win0_2.index t = ![0, 0] ∧ win0_3.index t = ![0, 0, 0] ∧ win0_4.index t = ![0, 0] ∧ win0_5.index t = ![0, 0, 0] ∧ win0_6.index t = ![0, 0] ∧ win0_7.index t = ![0, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0, 0] ∧ win0_15.index t = ![t.val, 0, 0] ∧ win0_16.index t = ![t.val, 0, 0] :=
  (by decide +kernel : ∀ t : Fin grid0.N, _)

/-- The taps' block at a point is one image's. -/
theorem ib0_0 (t : Fin cfg0.N) (k : Fin 9) (p : Fin 12544) :
    (iblk0 V c 0 t : Vec Ideal S1x9x12544 .f32) (ix3 0 k p) = (V c main_v34 : Vec Ideal S40x9x12544 .f32) (ix3 ⟨t.val, t.isLt⟩ k p) := by
  blk_ext! [iblk0, idx0 t]

/-- Window 1's block is its whole array. -/
theorem ib0_1 (t : Fin cfg0.N) : iblk0 V c 1 t = V c main_v36 := by
  blk_ext! [iblk0, idx0 t]

/-- Window 2's block is its whole array. -/
theorem ib0_2 (t : Fin cfg0.N) : iblk0 V c 2 t = V c main_v43 := by
  blk_ext! [iblk0, idx0 t]

/-- Window 3's block is its whole array. -/
theorem ib0_3 (t : Fin cfg0.N) : iblk0 V c 3 t = V c main_v45 := by
  blk_ext! [iblk0, idx0 t]

/-- Window 4's block is its whole array. -/
theorem ib0_4 (t : Fin cfg0.N) : iblk0 V c 4 t = V c main_v52 := by
  blk_ext! [iblk0, idx0 t]

/-- Window 5's block is its whole array. -/
theorem ib0_5 (t : Fin cfg0.N) : iblk0 V c 5 t = V c main_v54 := by
  blk_ext! [iblk0, idx0 t]

/-- Window 6's block is its whole array. -/
theorem ib0_6 (t : Fin cfg0.N) : iblk0 V c 6 t = V c main_v61 := by
  blk_ext! [iblk0, idx0 t]

/-- Window 7's block is its whole array. -/
theorem ib0_7 (t : Fin cfg0.N) : iblk0 V c 7 t = V c main_v63 := by
  blk_ext! [iblk0, idx0 t]

/-- Window 8's block is its whole array. -/
theorem ib0_8 (t : Fin cfg0.N) : iblk0 V c 8 t = V c main_v70 := by
  blk_ext! [iblk0, idx0 t]

/-- Window 9's block is its whole array. -/
theorem ib0_9 (t : Fin cfg0.N) : iblk0 V c 9 t = V c main_v71 := by
  blk_ext! [iblk0, idx0 t]

/-- Window 10's block is its whole array. -/
theorem ib0_10 (t : Fin cfg0.N) : iblk0 V c 10 t = V c main_v72 := by
  blk_ext! [iblk0, idx0 t]

/-- Window 11's block is its whole array. -/
theorem ib0_11 (t : Fin cfg0.N) : iblk0 V c 11 t = V c main_v74 := by
  blk_ext! [iblk0, idx0 t]

/-- Window 12's block is its whole array. -/
theorem ib0_12 (t : Fin cfg0.N) : iblk0 V c 12 t = V c main_v76 := by
  blk_ext! [iblk0, idx0 t]

/-- Window 13's block is its whole array. -/
theorem ib0_13 (t : Fin cfg0.N) : iblk0 V c 13 t = V c main_v77 := by
  blk_ext! [iblk0, idx0 t]

/-- The last block's map, from the call's blocks at a point. -/
def fmap (t : Fin cfg0.N) : FVec Ideal S14x7x256 .f32 := (B4 (B3 (B2 (B1 (iblk0 V c 0 t) (iblk0 V c 1 t) (iblk0 V c 2 t)) (iblk0 V c 3 t) (iblk0 V c 4 t)) (iblk0 V c 5 t) (iblk0 V c 6 t)) (iblk0 V c 7 t) (iblk0 V c 8 t))

/-- What the body leaves in the attention features' block. -/
theorem o14 (t : Fin cfg0.N) (y) : (dat0 V c).after 14 t y = k0_pay17 (fmap V c t) (iblk0 V c 9 t) (iblk0 V c 10 t) y := by
  rw [after0_14]
  unfold outsAt0
  dsimp only
  unfold out0_A_14
  frame_out
  rfl

/-- What the body leaves in the query projection's block. -/
theorem o16 (t : Fin cfg0.N) (y) : (dat0 V c).after 16 t y = k0_pay1 (k0_pay20 (fmap V c t) (iblk0 V c 12 t) (iblk0 V c 13 t)) y := by
  rw [after0_16]
  unfold outsAt0
  dsimp only
  unfold out0_A_16
  frame_out
  rfl

end Cert.Kernel.Val

end
-- ==== Proof.Val.EncK1.lean ====
/- Block 1 of the encoder call at an index. -/
module

public import proofs.«01_k».proof.Proof.Gen.Kernel.Skeleton
public import proofs.«01_k».proof.Proof.Val.EncDef

@[expose] public section

set_option maxRecDepth 16384
set_option maxHeartbeats 8000000

noncomputable section

namespace Cert.Kernel.Val

open Cert.Kernel Cert.Kernel.Gen Cert.Spec
open Idealize.ShloMosaic Idealize.ShloMosaic.TcCoe
open Idealize.SL.Sem

/-- The first block at an index: the pooled map inside its zero border, rows and columns exchanged. -/
theorem B1_at (x0 : Vec Ideal S1x9x12544 .f32) (x1 : Vec Ideal S9x32 .f32) (x2 : Vec Ideal S2x32 .f32) (P : Feat 9)
    (hP : ∀ k p, x0 (ix3 0 k p) = P (p.val / 112) (p.val % 112) k) (a b : Fin 58) (o : Fin 32) :
    B1 x0 x1 x2 (ix3 a b o) = pd 56 (mpool (act (fun y x o => ∑ k : Fin 9, P y x k * x1 (ix2 k o)) (fun o => x2 (ix2 0 o)) (fun o => x2 (ix2 1 o)))) b.val a.val o := by
  unfold pd mpool act
  pointwise [B1, k0_pay2]
  simp only [hP]
  split_ifs <;> try omega
  all_goals (try (rw [show (((0#32 : BitVec 32).toInt : ℝ) : EReal) = 0 from by simp]))
  repeat' first
    | rfl
    | omega
    | (refine max_cong ?_ ?_)
    | (refine add_cong ?_ ?_)
    | (refine mul_cong ?_ ?_)
    | (refine Finset.sum_congr rfl fun _ _ => ?_)
    | (refine feat_cong _ ?_ ?_ ?_)

end Cert.Kernel.Val

end
-- ==== Proof.Val.EncK2.lean ====
/- Block 2 of the encoder call at an index. -/
module

public import proofs.«01_k».proof.Proof.Gen.Kernel.Skeleton
public import proofs.«01_k».proof.Proof.Val.EncDef

@[expose] public section

set_option maxRecDepth 16384
set_option maxHeartbeats 8000000

noncomputable section

namespace Cert.Kernel.Val

open Cert.Kernel Cert.Kernel.Gen Cert.Spec
open Idealize.ShloMosaic Idealize.ShloMosaic.TcCoe
open Idealize.SL.Sem

/-- The second block at an index: the pooled map inside its zero border, rows and columns as usual again. -/
theorem B2_at (v : FVec Ideal S58x58x32 .f32) (x3 : Vec Ideal S9x32x64 .f32) (x4 : Vec Ideal S2x64 .f32) (P : Feat 32)
    (w : ℕ → ℕ → Fin 32 → Fin 64 → EReal) (hw : ∀ t c o, x3 (ix3 t c o) = w (t.val / 3) (t.val % 3) c o)
    (hP : ∀ a b c, v (ix3 a b c) = P b.val a.val c) (a b : Fin 30) (o : Fin 64) :
    B2 v x3 x4 (ix3 a b o) = pd 28 (mpool (act (conv P w) (fun o => x4 (ix2 0 o)) (fun o => x4 (ix2 1 o)))) a.val b.val o := by
  unfold pd act conv tap
  simp only [mpool_swap]
  pointwise [B2, k0_pay7, k0_pay5, k0_pay4, k0_pay6]
  simp only [hP, hw]
  split_ifs <;> try omega
  all_goals (try (rw [show (((0#32 : BitVec 32).toInt : ℝ) : EReal) = 0 from by simp]))
  repeat' first
    | (refine max_cong ?_ ?_)
    | (refine add_cong ?_ ?_)
    | (refine Finset.sum_congr rfl fun _ _ => ?_)
    | (refine mul_cong ?_ ?_)
    | (refine feat_cong _ ?_ ?_ rfl)
    | omega
    | rfl

end Cert.Kernel.Val

end
-- ==== Proof.Val.EncK3.lean ====
/- Block 3 of the encoder call at an index. -/
module

public import proofs.«01_k».proof.Proof.Gen.Kernel.Skeleton
public import proofs.«01_k».proof.Proof.Val.EncDef

@[expose] public section

set_option maxRecDepth 16384
set_option maxHeartbeats 8000000

noncomputable section

namespace Cert.Kernel.Val

open Cert.Kernel Cert.Kernel.Gen Cert.Spec
open Idealize.ShloMosaic Idealize.ShloMosaic.TcCoe
open Idealize.SL.Sem

/-- The third block at an index: the pooled map, rows and columns exchanged. -/
theorem B3_at (v : FVec Ideal S30x30x64 .f32) (x5 : Vec Ideal S9x64x128 .f32) (x6 : Vec Ideal S2x128 .f32) (P : Feat 64)
    (w : ℕ → ℕ → Fin 64 → Fin 128 → EReal) (hw : ∀ t c o, x5 (ix3 t c o) = w (t.val / 3) (t.val % 3) c o)
    (hP : ∀ a b c, v (ix3 a b c) = P a.val b.val c) (a b : Fin 14) (o : Fin 128) :
    B3 v x5 x6 (ix3 a b o) = mpool (act (conv P w) (fun o => x6 (ix2 0 o)) (fun o => x6 (ix2 1 o))) b.val a.val o := by
  unfold mpool act conv tap
  pointwise [B3, k0_pay10, k0_pay8, k0_pay9]
  simp only [hP, hw]
  repeat' first
    | rfl
    | omega
    | (refine max_cong ?_ ?_)
    | (refine add_cong ?_ ?_)
    | (refine mul_cong ?_ ?_)
    | (refine Finset.sum_congr rfl fun _ _ => ?_)
    | (refine feat_cong _ ?_ ?_ ?_)

end Cert.Kernel.Val

end
-- ==== Proof.Val.EncK4.lean ====
/- Block 4 of the encoder call at an index. -/
module

public import proofs.«01_k».proof.Proof.Gen.Kernel.Skeleton
public import proofs.«01_k».proof.Proof.Val.EncDef

@[expose] public section

set_option maxRecDepth 16384
set_option maxHeartbeats 8000000

noncomputable section

namespace Cert.Kernel.Val

open Cert.Kernel Cert.Kernel.Gen Cert.Spec
open Idealize.ShloMosaic Idealize.ShloMosaic.TcCoe
open Idealize.SL.Sem

/-- The padding of the fourth block's input at an index. -/
theorem B4pad_at (v : FVec Ideal S14x14x128 .f32) (f : Feat 128)
    (hP : ∀ a b c, v (ix3 a b c) = f b.val a.val c) (a b : Fin 16) (o : Fin 128) :
    k0_pay12 (F := Ideal) v k0_pay11 (ix3 a b o) = pd 14 f b.val a.val o := by
  unfold pd
  pointwise [k0_pay12, k0_pay11]
  simp only [hP]
  split_ifs <;> try omega
  all_goals (try (rw [show (((0#32 : BitVec 32).toInt : ℝ) : EReal) = 0 from by simp]))
  all_goals (try rfl)

/-- The fourth block's half pooled map at an index. -/
theorem B4h_at (v : FVec Ideal S14x14x128 .f32) (x7 : Vec Ideal S9x128x256 .f32) (x8 : Vec Ideal S2x256 .f32) (P : Feat 128)
    (w : ℕ → ℕ → Fin 128 → Fin 256 → EReal) (hw : ∀ t c o, x7 (ix3 t c o) = w (t.val / 3) (t.val % 3) c o)
    (hP : ∀ a b c, k0_pay12 (F := Ideal) v k0_pay11 (ix3 a b c) = P b.val a.val c) (y : Fin 14) (x : Fin 7) (o : Fin 256) :
    B4 v x7 x8 (ix3 y x o) = max (act (conv P w) (fun o => x8 (ix2 0 o)) (fun o => x8 (ix2 1 o)) y.val (2 * x.val) o)
      (act (conv P w) (fun o => x8 (ix2 0 o)) (fun o => x8 (ix2 1 o)) y.val (2 * x.val + 1) o) := by
  unfold act conv tap
  pointwise [B4, k0_pay15, k0_pay13, k0_pay14]
  simp only [hP, hw]
  repeat' first
    | (refine max_cong ?_ ?_)
    | (refine add_cong ?_ ?_)
    | (refine Finset.sum_congr rfl fun _ _ => ?_)
    | (refine mul_cong ?_ ?_)
    | (refine feat_cong _ ?_ ?_ rfl)
    | omega
    | rfl

/-- The second half of the fourth block's pooling at an index. -/
theorem pay16_at (X : FVec Ideal S14x7x256 .f32) (s : Fin 49) (o : Fin 256) :
    k0_pay16 X (ix2 s o) = max (X (ix3 ⟨2 * (s.val / 7), by omega⟩ ⟨s.val % 7, by omega⟩ o)) (X (ix3 ⟨2 * (s.val / 7) + 1, by omega⟩ ⟨s.val % 7, by omega⟩ o)) := by
  pointwise [k0_pay16]
  refine max_cong (congrArg X ?_) (congrArg X ?_)
  all_goals (congr 1 <;> first | rfl | (apply Fin.ext; dsimp only; omega))

/-- The fourth block at an index: the feature map, its rows and columns along one axis. -/
theorem B4_at (v : FVec Ideal S14x14x128 .f32) (x7 : Vec Ideal S9x128x256 .f32) (x8 : Vec Ideal S2x256 .f32) (P : Feat 128)
    (w : ℕ → ℕ → Fin 128 → Fin 256 → EReal) (hw : ∀ t c o, x7 (ix3 t c o) = w (t.val / 3) (t.val % 3) c o)
    (hP : ∀ a b c, k0_pay12 (F := Ideal) v k0_pay11 (ix3 a b c) = P b.val a.val c) (s : Fin 49) (o : Fin 256) :
    k0_pay16 (B4 v x7 x8) (ix2 s o) = mpool (act (conv P w) (fun o => x8 (ix2 0 o)) (fun o => x8 (ix2 1 o))) (s.val / 7) (s.val % 7) o := by
  rw [mpool_swap, pay16_at, B4h_at v x7 x8 P w hw hP, B4h_at v x7 x8 P w hw hP]
  all_goals (try unfold mpool)
  all_goals (try rfl)

end Cert.Kernel.Val

end
-- ==== Proof.Val.KEncB.lean ====
/- The encoder call's arrays from the arguments. -/
module

public import proofs.«01_k».proof.Proof.Kernel.Encoder
public import proofs.«01_k».proof.Proof.Val.KEncA
public import proofs.«01_k».proof.Proof.Val.EncK1
public import proofs.«01_k».proof.Proof.Val.EncK2
public import proofs.«01_k».proof.Proof.Val.EncK3
public import proofs.«01_k».proof.Proof.Val.EncK4
public import proofs.«01_k».proof.Proof.Val.Spec2
public import Idealize.ShloMosaic.Lib.Pointwise
public import Idealize.ShloMosaic.Lib.Pipeline.ValueKit

@[expose] public section

set_option maxRecDepth 16384
set_option maxHeartbeats 8000000

noncomputable section

namespace Cert.Kernel.Val

open Cert.Kernel Cert.Kernel.Gen Cert.Kernel.Hand Cert.Spec
open Idealize.ShloMosaic Idealize.ShloMosaic.TcCoe
open Idealize.SL.Sem

variable (V : (c : Dev nD) → (b : Ref sig .tc) → Buf (Elt Ideal) ((c : Thread nD τ).loc b)) (c : Dev nD)

/-- What the host code leaves in the encoder call's operands, from the arguments. -/
structure EncIn (A : Args) : Prop where
  h34 : ∀ i k p, (V c main_v34 : Vec Ideal S40x9x12544 .f32) (ix3 i k p) = pd 224 (img A i.val) (2 * (p.val / 112) + k.val / 3) (2 * (p.val % 112) + k.val % 3) 0
  h36 : ∀ k o, (V c main_v36 : Vec Ideal S9x32 .f32) (ix2 k o) = A.a2 (ix4 o 0 (Fin.ofNat 3 (k.val / 3)) (Fin.ofNat 3 (k.val % 3)))
  h43s : ∀ o, (V c main_v43 : Vec Ideal S2x32 .f32) (ix2 0 o) = scl A.a10 o
  h43t : ∀ o, (V c main_v43 : Vec Ideal S2x32 .f32) (ix2 1 o) = sft A.a3 A.a10 A.a11 o
  h45 : ∀ t k o, (V c main_v45 : Vec Ideal S9x32x64 .f32) (ix3 t k o) = wOf A.a4 (t.val / 3) (t.val % 3) k o
  h52s : ∀ o, (V c main_v52 : Vec Ideal S2x64 .f32) (ix2 0 o) = scl A.a12 o
  h52t : ∀ o, (V c main_v52 : Vec Ideal S2x64 .f32) (ix2 1 o) = sft A.a5 A.a12 A.a13 o
  h54 : ∀ t k o, (V c main_v54 : Vec Ideal S9x64x128 .f32) (ix3 t k o) = wOf A.a6 (t.val / 3) (t.val % 3) k o
  h61s : ∀ o, (V c main_v61 : Vec Ideal S2x128 .f32) (ix2 0 o) = scl A.a14 o
  h61t : ∀ o, (V c main_v61 : Vec Ideal S2x128 .f32) (ix2 1 o) = sft A.a7 A.a14 A.a15 o
  h63 : ∀ t k o, (V c main_v63 : Vec Ideal S9x128x256 .f32) (ix3 t k o) = wOf A.a8 (t.val / 3) (t.val % 3) k o
  h70s : ∀ o, (V c main_v70 : Vec Ideal S2x256 .f32) (ix2 0 o) = scl A.a16 o
  h70t : ∀ o, (V c main_v70 : Vec Ideal S2x256 .f32) (ix2 1 o) = sft A.a9 A.a16 A.a17 o
  h71 : ∀ f k, (V c main_v71 : Vec Ideal S256x64 .f32) (ix2 f k) = A.a18 (ix2 k f)
  h72 : ∀ k, (V c main_v72 : Vec Ideal S1x64 .f32) (ix2 0 k) = A.a19 (ix1 k)
  h74 : ∀ f g, (V c main_v74 : Vec Ideal S256x384 .f32) (ix2 f g) = A.a20 (ix2 g (f.castLE (by norm_num)))
  h76 : ∀ f g, (V c main_v76 : Vec Ideal S256x384 .f32) (ix2 f g) = A.a20 (ix2 g (f.natAdd 256))
  h77 : ∀ g, (V c main_v77 : Vec Ideal S1x384 .f32) (ix2 0 g) = A.a22 (ix1 g)

variable {V c}

/-- The first block's map at a point. -/
theorem m1_at {A : Args} (H : EncIn V c A) (t : Fin cfg0.N) (a b : Fin 58) (o : Fin 32) :
    B1 (iblk0 V c 0 t) (iblk0 V c 1 t) (iblk0 V c 2 t) (ix3 a b o) = pd 56 (K1 A t.val) b.val a.val o := by
  refine (B1_at _ _ _ (fun y x k => pd 224 (img A t.val) (2 * y + k.val / 3) (2 * x + k.val % 3) 0) (fun k p => ?_) a b o).trans ?_
  · exact (ib0_0 V c t k p).trans (H.h34 _ k p)
  · unfold K1
    congr 3
    · funext y x o
      rw [ib0_1]
      simp only [H.h36]
      unfold conv2 conv tap wOf
      simp only [Fin.sum_univ_succ, Fin.sum_univ_zero, add_zero, Finset.univ_unique, Finset.sum_singleton, Finset.univ_eq_empty, Finset.sum_empty]
      simp only [← add_assoc]
      rfl
    · funext o; rw [ib0_2]; exact H.h43s o
    · funext o; rw [ib0_2]; exact H.h43t o

/-- The second block's map at a point. -/
theorem m2_at {A : Args} (H : EncIn V c A) (t : Fin cfg0.N) (a b : Fin 30) (o : Fin 64) :
    B2 (B1 (iblk0 V c 0 t) (iblk0 V c 1 t) (iblk0 V c 2 t)) (iblk0 V c 3 t) (iblk0 V c 4 t) (ix3 a b o) = pd 28 (K2 A t.val) a.val b.val o := by
  refine (B2_at _ _ _ (pd 56 (K1 A t.val)) (wOf A.a4) (fun t' k o => ?_) (fun a b k => m1_at H t a b k) a b o).trans ?_
  · rw [ib0_3]; exact H.h45 t' k o
  · unfold K2
    congr 3
    · funext o; rw [ib0_4]; exact H.h52s o
    · funext o; rw [ib0_4]; exact H.h52t o

/-- The third block's map at a point. -/
theorem m3_at {A : Args} (H : EncIn V c A) (t : Fin cfg0.N) (a b : Fin 14) (o : Fin 128) :
    B3 (B2 (B1 (iblk0 V c 0 t) (iblk0 V c 1 t) (iblk0 V c 2 t)) (iblk0 V c 3 t) (iblk0 V c 4 t)) (iblk0 V c 5 t) (iblk0 V c 6 t) (ix3 a b o)
      = K3 A t.val b.val a.val o := by
  refine (B3_at _ _ _ (pd 28 (K2 A t.val)) (wOf A.a6) (fun t' k o => ?_) (fun a b k => m2_at H t a b k) a b o).trans ?_
  · rw [ib0_5]; exact H.h54 t' k o
  · unfold K3
    congr 2
    · funext o; rw [ib0_6]; exact H.h61s o
    · funext o; rw [ib0_6]; exact H.h61t o

/-- The features at a point. -/
theorem fm_at {A : Args} (H : EncIn V c A) (t : Fin cfg0.N) (s : Fin 49) (f : Fin 256) :
    k0_pay16 (fmap V c t) (ix2 s f) = ft (K4 A) t.val s.val f := by
  unfold fmap
  refine (B4_at _ _ _ (pd 14 (K3 A t.val)) (wOf A.a8) (fun t' k o => ?_) (fun a b k => ?_) s f).trans ?_
  · rw [ib0_7]; exact H.h63 t' k o
  · exact B4pad_at _ (K3 A t.val) (fun a b k => m3_at H t a b k) a b k
  · unfold ft K4
    congr 2
    · funext o; rw [ib0_8]; exact H.h70s o
    · funext o; rw [ib0_8]; exact H.h70t o

variable (V c)

/-- Two pieces side by side: the first one's columns. -/
theorem two_a (p : Vec Ideal S1x49x1 .f32) (q : Vec Ideal S1x49x384 .f32) (s : Fin 49) (g : Fin 384) :
    (View.canon (Val := Elt Ideal) [⟨Rect.unit ![0, 0, 384] ![1, 49, 1] inb_S1x49x385_S1x49x1_0_0_384, p⟩, ⟨Rect.unit ![0, 0, 0] ![1, 49, 384] inb_S1x49x385_S1x49x384_0_0_0, q⟩]
      (ix3 0 s (g.castLE (by norm_num))) : Elt Ideal .f32) = q (ix3 0 s g) := by
  canon_tiles x h using View.cover_of_tiledBy _ ![1, 49, 1] (by sl_kernel_rfl) _
  · exfalso
    have h2' : g.val = 384 + (x 2).val := h2
    have := g.isLt
    omega
  · congr 1
    funext a
    match a with
    | ⟨0, _⟩ => exact Fin.ext (by have : (x 0).val < 1 := (x 0).isLt; show (x 0).val = 0; omega)
    | ⟨1, _⟩ => exact Fin.ext h1.symm
    | ⟨2, _⟩ => exact Fin.ext h2.symm

/-- Two pieces side by side: the second one's column. -/
theorem two_b (p : Vec Ideal S1x49x1 .f32) (q : Vec Ideal S1x49x384 .f32) (s : Fin 49) :
    (View.canon (Val := Elt Ideal) [⟨Rect.unit ![0, 0, 384] ![1, 49, 1] inb_S1x49x385_S1x49x1_0_0_384, p⟩, ⟨Rect.unit ![0, 0, 0] ![1, 49, 384] inb_S1x49x385_S1x49x384_0_0_0, q⟩]
      (ix3 0 s ⟨384, by norm_num⟩) : Elt Ideal .f32) = p (ix3 0 s 0) := by
  canon_tiles x h using View.cover_of_tiledBy _ ![1, 49, 1] (by sl_kernel_rfl) _
  · congr 1
    funext a
    match a with
    | ⟨0, _⟩ => exact Fin.ext (by have : (x 0).val < 1 := (x 0).isLt; show (x 0).val = 0; omega)
    | ⟨1, _⟩ => exact Fin.ext h1.symm
    | ⟨2, _⟩ => exact Fin.ext (by have : (x 2).val < 1 := (x 2).isLt; show (x 2).val = 0; omega)
  · exfalso
    have h2' : 384 = (x 2).val := h2
    have : (x 2).val < 384 := (x 2).isLt
    omega

/-- What the body leaves in the projection's block: the projection's columns. -/
theorem o15a (t : Fin cfg0.N) (s : Fin 49) (g : Fin 384) :
    (dat0 V c).after 15 t (ix3 0 s (g.castLE (by norm_num)) : S1x49x385.Idx) = k0_pay18 (fmap V c t) (iblk0 V c 11 t) (ix3 0 s g) := by
  rw [after0_15]
  unfold outsAt0
  dsimp only
  unfold out0_A_15
  frame_out
  exact two_a _ _ s g

/-- What the body leaves in the projection's block: the column of ones. -/
theorem o15b (t : Fin cfg0.N) (s : Fin 49) :
    (dat0 V c).after 15 t (ix3 0 s ⟨384, by norm_num⟩ : S1x49x385.Idx) = (1 : EReal) := by
  rw [after0_15]
  unfold outsAt0
  dsimp only
  unfold out0_A_15
  frame_out
  refine (two_b _ _ s).trans ?_
  pointwise [k0_pay19]

/-- The attention features' payload at an index. -/
theorem p17_at (v : FVec Ideal S14x7x256 .f32) (w : Vec Ideal S256x64 .f32) (b : Vec Ideal S1x64 .f32) (s : Fin 49) (k : Fin 64) :
    k0_pay17 v w b (ix3 0 s k) = (∑ f : Fin 256, k0_pay16 v (ix2 s f) * w (ix2 f k)) + b (ix2 0 k) := by
  unfold k0_pay17
  generalize k0_pay16 v = X
  pointwise
  all_goals (try rfl)

/-- The projection's payload at an index. -/
theorem p18_at (v : FVec Ideal S14x7x256 .f32) (w : Vec Ideal S256x384 .f32) (s : Fin 49) (k : Fin 384) :
    k0_pay18 v w (ix3 0 s k) = (∑ f : Fin 256, k0_pay16 v (ix2 s f) * w (ix2 f k)) := by
  unfold k0_pay18
  generalize k0_pay16 v = X
  pointwise
  all_goals (try rfl)

/-- The query projection's payload at an index. -/
theorem p20_at (v : FVec Ideal S14x7x256 .f32) (w : Vec Ideal S256x384 .f32) (b : Vec Ideal S1x384 .f32) (s : Fin 49) (k : Fin 384) :
    k0_pay1 (k0_pay20 v w b) (ix3 0 s k) = (∑ f : Fin 256, k0_pay16 v (ix2 s f) * w (ix2 f k)) + b (ix2 0 k) := by
  unfold k0_pay20 k0_pay1
  generalize k0_pay16 v = X
  pointwise
  all_goals (try rfl)

/-- The attention features of every image, as an array. -/
def out0_14 (A : Args) : Vec Ideal S40x49x64 .f32 := fun i => attp A (K4 A) (i 0).val (i 1).val (i 2)

/-- The attention features of every image. -/
theorem arr0_14 {A : Args} (H : EncIn V c A) : (dat0 V c).arrAt 14 cfg0.N = out0_14 A := by
  refine (dat0 V c).arrAt_eq_of_covers 14 _ (by decide +kernel) fun t hf y => ?_
  blk_simp
  obtain ⟨z, s, k, rfl⟩ : ∃ (z : Fin 1) (s : Fin 49) (k : Fin 64), y = ix3 z s k := ⟨y 0, y 1, y 2, by funext a; fin_cases a <;> rfl⟩
  obtain rfl : z = 0 := Subsingleton.elim _ _
  have e0 : ((win0_14.blk t).view.emb (ix3 0 s k) 0).val = t.val := by blk_simp [idx0 t]; all_goals (try simp [ix3])
  have e1 : ((win0_14.blk t).view.emb (ix3 0 s k) 1).val = s.val := by blk_simp [idx0 t]; all_goals (try simp [ix3])
  have e2 : ((win0_14.blk t).view.emb (ix3 0 s k)) 2 = k := Fin.ext (by blk_simp [idx0 t]; all_goals (try simp [ix3]))
  have hg : ∀ (a b : ℕ) (k' : Fin 64), a = t.val → b = s.val → k' = k → (dat0 V c).after 14 t (ix3 0 s k : S1x49x64.Idx) = attp A (K4 A) a b k' := by
    rintro a b k' rfl rfl rfl
    refine (o14 V c t _).trans ?_
    rw [p17_at]
    simp only [fm_at H]
    rw [ib0_9, ib0_10]
    simp only [H.h71, H.h72]
    rfl
  exact hg _ _ _ e0 e1 e2

/-- The query projection of every image, as an array. -/
def out0_16 (A : Args) : Vec Ideal S40x49x384 .f32 := fun i => prB A (K4 A) (i 0).val (i 1).val (i 2)

/-- The query projection of every image. -/
theorem arr0_16 {A : Args} (H : EncIn V c A) : (dat0 V c).arrAt 16 cfg0.N = out0_16 A := by
  refine (dat0 V c).arrAt_eq_of_covers 16 _ (by decide +kernel) fun t hf y => ?_
  blk_simp
  obtain ⟨z, s, k, rfl⟩ : ∃ (z : Fin 1) (s : Fin 49) (k : Fin 384), y = ix3 z s k := ⟨y 0, y 1, y 2, by funext a; fin_cases a <;> rfl⟩
  obtain rfl : z = 0 := Subsingleton.elim _ _
  have e0 : ((win0_16.blk t).view.emb (ix3 0 s k) 0).val = t.val := by blk_simp [idx0 t]; all_goals (try simp [ix3])
  have e1 : ((win0_16.blk t).view.emb (ix3 0 s k) 1).val = s.val := by blk_simp [idx0 t]; all_goals (try simp [ix3])
  have e2 : ((win0_16.blk t).view.emb (ix3 0 s k)) 2 = k := Fin.ext (by blk_simp [idx0 t]; all_goals (try simp [ix3]))
  have hg : ∀ (a b : ℕ) (k' : Fin 384), a = t.val → b = s.val → k' = k → (dat0 V c).after 16 t (ix3 0 s k : S1x49x384.Idx) = prB A (K4 A) a b k' := by
    rintro a b k' rfl rfl rfl
    refine (o16 V c t _).trans ?_
    rw [p20_at]
    simp only [fm_at H]
    rw [ib0_12, ib0_13]
    simp only [H.h76, H.h77]
    rfl
  exact hg _ _ _ e0 e1 e2

/-- The support projection of every image, with a column of ones. -/
def prA1 (A : Args) (i s : ℕ) (g : Fin 385) : EReal := if h : g.val < 384 then prA A (K4 A) i s ⟨g.val, h⟩ else 1

/-- The support projection of every image, as an array. -/
def out0_15 (A : Args) : Vec Ideal S40x49x385 .f32 := fun i => prA1 A (i 0).val (i 1).val (i 2)

/-- The support projection of every image. -/
theorem arr0_15 {A : Args} (H : EncIn V c A) : (dat0 V c).arrAt 15 cfg0.N = out0_15 A := by
  refine (dat0 V c).arrAt_eq_of_covers 15 _ (by decide +kernel) fun t hf y => ?_
  blk_simp
  obtain ⟨z, s, k, rfl⟩ : ∃ (z : Fin 1) (s : Fin 49) (k : Fin 385), y = ix3 z s k := ⟨y 0, y 1, y 2, by funext a; fin_cases a <;> rfl⟩
  obtain rfl : z = 0 := Subsingleton.elim _ _
  have e0 : ((win0_15.blk t).view.emb (ix3 0 s k) 0).val = t.val := by blk_simp [idx0 t]; all_goals (try simp [ix3])
  have e1 : ((win0_15.blk t).view.emb (ix3 0 s k) 1).val = s.val := by blk_simp [idx0 t]; all_goals (try simp [ix3])
  have e2 : ((win0_15.blk t).view.emb (ix3 0 s k)) 2 = k := Fin.ext (by blk_simp [idx0 t]; all_goals (try simp [ix3]))
  have hg : ∀ (a b : ℕ) (k' : Fin 385), a = t.val → b = s.val → k' = k → (dat0 V c).after 15 t (ix3 0 s k : S1x49x385.Idx) = prA1 A a b k' := by
    rintro a b k' rfl rfl rfl
    unfold prA1
    split_ifs with hk
    · refine (o15a V c t s ⟨_, hk⟩).trans ?_
      rw [p18_at]
      simp only [fm_at H]
      rw [ib0_11]
      simp only [H.h74]
      rfl
    · obtain rfl : k' = ⟨384, by norm_num⟩ := Fin.ext (by have := k'.isLt; show k'.val = 384; omega)
      exact o15b V c t s
  exact hg _ _ _ e0 e1 e2

end Cert.Kernel.Val

end
-- ==== Proof.Val.KAtt.lean ====
/- The attention call's result block at an index. -/
module

public import proofs.«01_k».proof.Proof.Kernel.Attention
public import proofs.«01_k».proof.Proof.Val.Spec2
public import Idealize.ShloMosaic.Lib.Pointwise
public import Idealize.ShloMosaic.Lib.Pipeline.ValueKit

@[expose] public section

set_option maxRecDepth 16384
set_option maxHeartbeats 8000000

noncomputable section

namespace Cert.Kernel.Val

open Cert.Kernel Cert.Kernel.Gen Cert.Kernel.Hand Cert.Spec
open Idealize.ShloMosaic Idealize.ShloMosaic.TcCoe
open Idealize.SL.Sem

/-- One support image's gates from the blocks: the query's attention features, its projection, the support's features and
    its projection with the column of ones. -/
def attv (wq : Fin 49 → Fin 64 → EReal) (wh : Fin 49 → Fin 64 → EReal) (pa : Fin 49 → Fin 385 → EReal) (pb : Fin 49 → Fin 384 → EReal)
    (t : Fin 49) (g : Fin 384) : EReal :=
  Ideal.div (∑ s : Fin 49, Ideal.exp (∑ k : Fin 64, Ideal.tanh (wq t k * wh s k)) * pa s (g.castLE (by norm_num)))
    (∑ s : Fin 49, Ideal.exp (∑ k : Fin 64, Ideal.tanh (wq t k * wh s k)) * pa s ⟨384, by norm_num⟩) + pb t g

/-- Piece 0 of the body's result at an index. -/
theorem pc0 (x0 : Vec Ideal S1x49x64 .f32) (x1 : Vec Ideal S5x49x64 .f32) (x2 : Vec Ideal S5x49x385 .f32) (x3 : Vec Ideal S1x49x384 .f32) (t : Fin 49) (g : Fin 384) :
    (k1_pay4 (View.ld x0 r1_0) (View.ld x3 r1_1) (View.ld x1 r1_2) (View.ld x2 r1_3) : Vec Ideal S49x1x1x384 .f32) (ix4 t 0 0 g) = attv (fun t f => x0 (ix3 0 t f)) (fun s f => x1 (ix3 0 s f)) (fun s g => x2 (ix3 0 s g)) (fun t g => x3 (ix3 0 t g)) t g := by
  unfold attv
  pointwise [k1_pay4, k1_pay2, k1_pay3, r1_0, r1_1, r1_2, r1_3]
  rfl

/-- Piece 1 of the body's result at an index. -/
theorem pc1 (x0 : Vec Ideal S1x49x64 .f32) (x1 : Vec Ideal S5x49x64 .f32) (x2 : Vec Ideal S5x49x385 .f32) (x3 : Vec Ideal S1x49x384 .f32) (t : Fin 49) (g : Fin 384) :
    (k1_pay6 (k1_pay13 x0 x1 x2 x3) (k1_pay5 (View.ld x0 r1_0) (View.ld x1 r1_5)) (View.ld x2 r1_6) : Vec Ideal S49x1x1x384 .f32) (ix4 t 0 0 g) = attv (fun t f => x0 (ix3 0 t f)) (fun s f => x1 (ix3 1 s f)) (fun s g => x2 (ix3 1 s g)) (fun t g => x3 (ix3 0 t g)) t g := by
  unfold attv
  pointwise [k1_pay6, k1_pay5, k1_pay12, k1_pay13, k1_pay2, k1_pay3, r1_0, r1_1, r1_5, r1_6]
  rfl

/-- Piece 2 of the body's result at an index. -/
theorem pc2 (x0 : Vec Ideal S1x49x64 .f32) (x1 : Vec Ideal S5x49x64 .f32) (x2 : Vec Ideal S5x49x385 .f32) (x3 : Vec Ideal S1x49x384 .f32) (t : Fin 49) (g : Fin 384) :
    (k1_pay7 (k1_pay12 x0 x1 x2 x3) (k1_pay13 x0 x1 x2 x3) (View.ld x1 r1_8) (View.ld x2 r1_9) : Vec Ideal S49x1x1x384 .f32) (ix4 t 0 0 g) = attv (fun t f => x0 (ix3 0 t f)) (fun s f => x1 (ix3 2 s f)) (fun s g => x2 (ix3 2 s g)) (fun t g => x3 (ix3 0 t g)) t g := by
  unfold attv
  pointwise [k1_pay7, k1_pay12, k1_pay13, k1_pay2, k1_pay3, r1_0, r1_1, r1_8, r1_9]
  rfl

/-- Piece 3 of the body's result at an index. -/
theorem pc3 (x0 : Vec Ideal S1x49x64 .f32) (x1 : Vec Ideal S5x49x64 .f32) (x2 : Vec Ideal S5x49x385 .f32) (x3 : Vec Ideal S1x49x384 .f32) (t : Fin 49) (g : Fin 384) :
    (k1_pay10 (k1_pay13 x0 x1 x2 x3) (k1_pay8 (View.ld x1 r1_11)) (k1_pay9 (k1_pay12 x0 x1 x2 x3)) (View.ld x2 r1_12) : Vec Ideal S49x1x1x384 .f32) (ix4 t 0 0 g) = attv (fun t f => x0 (ix3 0 t f)) (fun s f => x1 (ix3 3 s f)) (fun s g => x2 (ix3 3 s g)) (fun t g => x3 (ix3 0 t g)) t g := by
  unfold attv
  pointwise [k1_pay8, k1_pay9, k1_pay10, k1_pay12, k1_pay13, k1_pay2, k1_pay3, r1_0, r1_1, r1_11, r1_12]
  rfl

/-- Piece 4 of the body's result at an index. -/
theorem pc4 (x0 : Vec Ideal S1x49x64 .f32) (x1 : Vec Ideal S5x49x64 .f32) (x2 : Vec Ideal S5x49x385 .f32) (x3 : Vec Ideal S1x49x384 .f32) (t : Fin 49) (g : Fin 384) :
    (k1_pay1 (k1_pay11 (k1_pay12 x0 x1 x2 x3) (k1_pay13 x0 x1 x2 x3) (View.ld x1 r1_14) (View.ld x2 r1_15)) : Vec Ideal S49x1x1x384 .f32) (ix4 t 0 0 g) = attv (fun t f => x0 (ix3 0 t f)) (fun s f => x1 (ix3 4 s f)) (fun s g => x2 (ix3 4 s g)) (fun t g => x3 (ix3 0 t g)) t g := by
  unfold attv
  pointwise [k1_pay1, k1_pay11, k1_pay12, k1_pay13, k1_pay2, k1_pay3, r1_0, r1_1, r1_14, r1_15]
  rfl

/-- An index of one piece from its two long coordinates. -/
theorem ix4_eq {t : Fin 49} {g : Fin 384} (x : S49x1x1x384.Idx) (h0 : t.val = (x 0).val) (h3 : g.val = (x 3).val) : x = ix4 t 0 0 g := by
  funext a
  match a with
  | ⟨0, _⟩ => exact Fin.ext h0.symm
  | ⟨1, _⟩ => exact Fin.ext (by have : (x 1).val < 1 := (x 1).isLt; show (x 1).val = 0; omega)
  | ⟨2, _⟩ => exact Fin.ext (by have : (x 2).val < 1 := (x 2).isLt; show (x 2).val = 0; omega)
  | ⟨3, _⟩ => exact Fin.ext h3.symm

/-- The body's result block at an index. -/
theorem out14_at (x0 : Vec Ideal S1x49x64 .f32) (x1 : Vec Ideal S5x49x64 .f32) (x2 : Vec Ideal S5x49x385 .f32) (x3 : Vec Ideal S1x49x384 .f32) (t : Fin 49) (k : Fin 5) (g : Fin 384) :
    out1_4 x0 x1 x2 x3 (ix4 t k 0 g) = attv (fun t f => x0 (ix3 0 t f)) (fun s f => x1 (ix3 k s f)) (fun s g => x2 (ix3 k s g)) (fun t g => x3 (ix3 0 t g)) t g := by
  unfold out1_4
  canon_tiles x h
  · have hx : x = ix4 t 0 0 g := ix4_eq x h0 h3
    have hk : k = 4 := Fin.ext (by have h1' : k.val = 4 + (x 1).val := h1; show k.val = 4; omega)
    subst hk; rw [hx]; exact pc4 x0 x1 x2 x3 t g
  · have hx : x = ix4 t 0 0 g := ix4_eq x h0 h3
    have hk : k = 3 := Fin.ext (by have h1' : k.val = 3 + (x 1).val := h1; show k.val = 3; omega)
    subst hk; rw [hx]; exact pc3 x0 x1 x2 x3 t g
  · have hx : x = ix4 t 0 0 g := ix4_eq x h0 h3
    have hk : k = 2 := Fin.ext (by have h1' : k.val = 2 + (x 1).val := h1; show k.val = 2; omega)
    subst hk; rw [hx]; exact pc2 x0 x1 x2 x3 t g
  · have hx : x = ix4 t 0 0 g := ix4_eq x h0 h3
    have hk : k = 1 := Fin.ext (by have h1' : k.val = 1 + (x 1).val := h1; show k.val = 1; omega)
    subst hk; rw [hx]; exact pc1 x0 x1 x2 x3 t g
  · have hx : x = ix4 t 0 0 g := ix4_eq x h0 h3
    have hk : k = 0 := Fin.ext (by have h1' : k.val = (x 1).val := h1; show k.val = 0; omega)
    subst hk; rw [hx]; exact pc0 x0 x1 x2 x3 t g

variable (V : (c : Dev nD) → (b : Ref sig .tc) → Buf (Elt Ideal) ((c : Thread nD τ).loc b)) (c : Dev nD)

/-- Every window's block index at a grid point of the attention call. -/
theorem idx1 : ∀ t : Fin cfg1.N, win1_0.index t = ![25 + t.val / 5, 0, 0] ∧ win1_1.index t = ![t.val % 5, 0, 0] ∧ win1_2.index t = ![t.val % 5, 0, 0] ∧ win1_3.index t = ![25 + t.val / 5, 0, 0] ∧ win1_4.index t = ![0, t.val, 0, 0] :=
  (by decide +kernel : ∀ t : Fin grid1.N, _)

/-- The points of the attention call. -/
theorem lt75 (t : Fin cfg1.N) : t.val < 75 := t.isLt

/-- The query's features' block at a point. -/
theorem ib1_0 (t : Fin cfg1.N) (s : Fin 49) (f : Fin 64) : (iblk1 V c 0 t : Vec Ideal S1x49x64 .f32) (ix3 0 s f) =
    (V c main_v78_0 : Vec Ideal S40x49x64 .f32) (ix3 ⟨25 + t.val / 5, by have := lt75 t; omega⟩ s f) := by
  blk_ext! [iblk1, idx1 t]

/-- The supports' features' block at a point. -/
theorem ib1_1 (t : Fin cfg1.N) (k : Fin 5) (s : Fin 49) (f : Fin 64) : (iblk1 V c 1 t : Vec Ideal S5x49x64 .f32) (ix3 k s f) =
    (V c main_v78_0 : Vec Ideal S40x49x64 .f32) (ix3 ⟨5 * (t.val % 5) + k.val, by have := k.isLt; omega⟩ s f) := by
  blk_ext! [iblk1, idx1 t]

/-- The supports' projections' block at a point. -/
theorem ib1_2 (t : Fin cfg1.N) (k : Fin 5) (s : Fin 49) (g : Fin 385) : (iblk1 V c 2 t : Vec Ideal S5x49x385 .f32) (ix3 k s g) =
    (V c main_v78_1 : Vec Ideal S40x49x385 .f32) (ix3 ⟨5 * (t.val % 5) + k.val, by have := k.isLt; omega⟩ s g) := by
  blk_ext! [iblk1, idx1 t]

/-- The query's projections' block at a point. -/
theorem ib1_3 (t : Fin cfg1.N) (s : Fin 49) (g : Fin 384) : (iblk1 V c 3 t : Vec Ideal S1x49x384 .f32) (ix3 0 s g) =
    (V c main_v78_2 : Vec Ideal S40x49x384 .f32) (ix3 ⟨25 + t.val / 5, by have := lt75 t; omega⟩ s g) := by
  blk_ext! [iblk1, idx1 t]

/-- One pair's gates, from the encoder's three arrays. -/
def gate1 (a : Vec Ideal S40x49x64 .f32) (b : Vec Ideal S40x49x385 .f32) (d : Vec Ideal S40x49x384 .f32) (r : Fin 375) (t : Fin 49) (g : Fin 384) : EReal :=
  attv (fun t f => a (ix3 ⟨25 + r.val / 25, by omega⟩ t f)) (fun s f => a (ix3 ⟨r.val % 25, by omega⟩ s f))
    (fun s g => b (ix3 ⟨r.val % 25, by omega⟩ s g)) (fun t g => d (ix3 ⟨25 + r.val / 25, by omega⟩ t g)) t g

/-- The gates of every pair, from the encoder's three arrays. -/
def gates (a : Vec Ideal S40x49x64 .f32) (b : Vec Ideal S40x49x385 .f32) (d : Vec Ideal S40x49x384 .f32) : Vec Ideal S49x375x1x384 .f32 :=
  fun i => gate1 a b d (i 1) (i 0) (i 3)

/-- One pair's gates from the blocks' rows. -/
theorem gate1_eq (a : Vec Ideal S40x49x64 .f32) (b : Vec Ideal S40x49x385 .f32) (d : Vec Ideal S40x49x384 .f32) (r : Fin 375) (t : Fin 49) (g : Fin 384)
    (q s : Fin 40) (hq : q.val = 25 + r.val / 25) (hs : s.val = r.val % 25) :
    attv (fun t f => a (ix3 q t f)) (fun s' f => a (ix3 s s' f)) (fun s' g => b (ix3 s s' g)) (fun t g => d (ix3 q t g)) t g = gate1 a b d r t g := by
  have e : q = ⟨25 + r.val / 25, by omega⟩ := Fin.ext hq
  have e' : s = ⟨r.val % 25, by omega⟩ := Fin.ext hs
  rw [e, e']
  rfl

/-- The attention call's result array. -/
theorem arr1 : (dat1 V c).arrAt 4 cfg1.N = gates (V c main_v78_0) (V c main_v78_1) (V c main_v78_2) := by
  refine (dat1 V c).arrAt_eq_of_covers 4 _ (by decide +kernel) fun t hf y => ?_
  blk_simp
  rw [after1_4]
  obtain ⟨s, k, z, g, rfl⟩ : ∃ (s : Fin 49) (k : Fin 5) (z : Fin 1) (g : Fin 384), y = ix4 s k z g := ⟨y 0, y 1, y 2, y 3, by funext a; fin_cases a <;> rfl⟩
  obtain rfl : z = 0 := Subsingleton.elim _ _
  refine (out14_at _ _ _ _ s k g).trans ?_
  simp only [ib1_0, ib1_1, ib1_2, ib1_3]
  have ht := lt75 t
  unfold gates
  have e0 : ((win1_4.blk t).view.emb (ix4 s k 0 g)) 0 = s := Fin.ext (by blk_simp [idx1 t]; all_goals (try simp [ix4]))
  have e1 : ((win1_4.blk t).view.emb (ix4 s k 0 g)) 1 = (⟨5 * t.val + k.val, by omega⟩ : Fin 375) := Fin.ext (by blk_simp [idx1 t]; simp [ix4]; try omega)
  have e3 : ((win1_4.blk t).view.emb (ix4 s k 0 g)) 3 = g := Fin.ext (by blk_simp [idx1 t]; all_goals (try simp [ix4]))
  have hg : ∀ (r : Fin 375) (t' : Fin 49) (g' : Fin 384), r = ⟨5 * t.val + k.val, by omega⟩ → t' = s → g' = g →
      attv (fun t_1 f => (V c main_v78_0 : Vec Ideal S40x49x64 .f32) (ix3 ⟨25 + t.val / 5, by omega⟩ t_1 f))
        (fun s f => (V c main_v78_0 : Vec Ideal S40x49x64 .f32) (ix3 ⟨5 * (t.val % 5) + k.val, by omega⟩ s f))
        (fun s g => (V c main_v78_1 : Vec Ideal S40x49x385 .f32) (ix3 ⟨5 * (t.val % 5) + k.val, by omega⟩ s g))
        (fun t_1 g => (V c main_v78_2 : Vec Ideal S40x49x384 .f32) (ix3 ⟨25 + t.val / 5, by omega⟩ t_1 g)) s g =
      gate1 (V c main_v78_0) (V c main_v78_1) (V c main_v78_2) r t' g' := by
    rintro r t' g' rfl rfl rfl
    exact gate1_eq _ _ _ _ _ _ _ _ (by show 25 + t.val / 5 = 25 + (5 * t.val + k.val) / 25; omega) (by show 5 * (t.val % 5) + k.val = (5 * t.val + k.val) % 25; omega)
  exact hg _ _ _ e1 e0 e3

end Cert.Kernel.Val

end
-- ==== Proof.Val.KGruL.lean ====
/- The recurrent call's two steps at an index. -/
module

public import proofs.«01_k».proof.Proof.Gen.Kernel.Skeleton
public import proofs.«01_k».proof.Proof.Val.Spec2
public import Idealize.ShloMosaic.Lib.Pointwise
public import Idealize.ShloMosaic.Lib.Pipeline.ValueKit

@[expose] public section

set_option maxRecDepth 16384
set_option maxHeartbeats 8000000

noncomputable section

namespace Cert.Kernel.Val

open Cert.Kernel Cert.Kernel.Gen Cert.Spec
open Idealize.ShloMosaic Idealize.ShloMosaic.TcCoe
open Idealize.SL.Sem

/-- The first layer's step, as the body's first computation of it. -/
def L0 (h : FVec Ideal S375x128 .f32) (g : Vec Ideal S1x375x384 .f32) (w : Vec Ideal S128x384 .f32) (b : Vec Ideal S1x384 .f32) : FVec Ideal S375x128 .f32 :=
  k2_pay7 h g w b

/-- The second layer's step, as the body's first computation of it, from the first layer's new state. -/
def L1 (h x : FVec Ideal S375x128 .f32) (wi : Vec Ideal S128x384 .f32) (bi : Vec Ideal S1x384 .f32) (wh : Vec Ideal S128x384 .f32) (bh : Vec Ideal S1x384 .f32) :
    FVec Ideal S375x128 .f32 :=
  k2_pay10 h (matmul (φ₁ := .f32) (φ₂ := .f32) dot_S375x128_S128x384_S375x384_1_0_0_1_n_n none x (shapeCast S128x384 wi shapeCasts_S128x384_S128x384) (constant S375x384 .f32 0x00000000#32))
    (k2_pay9 bi) wh bh

/-- The first layer's step at an index. -/
theorem L0_at (h : FVec Ideal S375x128 .f32) (g : Vec Ideal S1x375x384 .f32) (w : Vec Ideal S128x384 .f32) (b : Vec Ideal S1x384 .f32) (r : Fin 375) (j : Fin 128) :
    L0 h g w b (ix2 r j) = cell (fun k => g (ix3 0 r k)) (fun k => (∑ l : Fin 128, h (ix2 r l) * w (ix2 l k)) + b (ix2 0 k)) (h (ix2 r j)) j := by
  unfold cell sg
  pointwise [L0, k2_pay7]
  rfl

/-- The second layer's step at an index. -/
theorem L1_at (h x : FVec Ideal S375x128 .f32) (wi : Vec Ideal S128x384 .f32) (bi : Vec Ideal S1x384 .f32) (wh : Vec Ideal S128x384 .f32) (bh : Vec Ideal S1x384 .f32)
    (r : Fin 375) (j : Fin 128) :
    L1 h x wi bi wh bh (ix2 r j) = cell (fun k => (∑ l : Fin 128, x (ix2 r l) * wi (ix2 l k)) + bi (ix2 0 k))
      (fun k => (∑ l : Fin 128, h (ix2 r l) * wh (ix2 l k)) + bh (ix2 0 k)) (h (ix2 r j)) j := by
  unfold cell sg
  pointwise [L1, k2_pay9, k2_pay10]
  rfl

/-- A state against a weight, from zero. -/
def Q (h : FVec Ideal S375x128 .f32) (w : Vec Ideal S128x384 .f32) : FVec Ideal S375x384 .f32 :=
  matmul (φ₁ := .f32) (φ₂ := .f32) dot_S375x128_S128x384_S375x384_1_0_0_1_n_n none h (shapeCast S128x384 w shapeCasts_S128x384_S128x384) (constant S375x384 .f32 0x00000000#32)

/-- One group of the body's computations is one step: `e7`. -/
theorem e7 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay7 h g w b = L0 h g w b := rfl

/-- One group of the body's computations is one step: `e10`. -/
theorem e10 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay10 m (k2_pay8 h g w b wi) (k2_pay9 bi) wh bh = L1 m (L0 h g w b) wi bi wh bh := rfl

/-- One group of the body's computations is one step: `e16`. -/
theorem e16 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay16 h (k2_pay13 h g w b) (k2_pay14 g) (k2_pay15 h g w b) = L0 h g w b := rfl

/-- One group of the body's computations is one step: `e17`. -/
theorem e17 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay17 h m (k2_pay13 h g w b) (k2_pay14 g) (k2_pay15 h g w b) wi bi wh bh = L1 m (L0 h g w b) wi bi wh bh := rfl

/-- One group of the body's computations is one step: `e20`. -/
theorem e20 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay20 h (k2_pay18 g) (k2_pay19 w) b = L0 h g w b := rfl

/-- One group of the body's computations is one step: `e26`. -/
theorem e26 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay26 m (k2_pay22 m wh bh) (k2_pay23 h m (k2_pay18 g) (k2_pay19 w) b wi bi wh bh) (k2_pay24 h m (k2_pay18 g) (k2_pay19 w) b wi bi wh bh) (k2_pay25 h (k2_pay18 g) (k2_pay19 w) b wi bi) = L1 m (L0 h g w b) wi bi wh bh := rfl

/-- One group of the body's computations is one step: `e27`. -/
theorem e27 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay27 h g w b = L0 h g w b := rfl

/-- One group of the body's computations is one step: `e29`. -/
theorem e29 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay29 m (k2_pay28 h g w b wi bi) wh bh = L1 m (L0 h g w b) wi bi wh bh := rfl

/-- One group of the body's computations is one step: `e34`. -/
theorem e34 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay34 h (k2_pay32 h g w b) (k2_pay33 h g w b) (FloatOps.ofBits (F := Ideal) .f32 0x3F800000#32) = L0 h g w b := rfl

/-- One group of the body's computations is one step: `e35`. -/
theorem e35 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay35 h m (k2_pay32 h g w b) (k2_pay33 h g w b) (FloatOps.ofBits (F := Ideal) .f32 0x3F800000#32) wi bi wh bh = L1 m (L0 h g w b) wi bi wh bh := rfl

/-- One group of the body's computations is one step: `e37`. -/
theorem e37 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay37 h (k2_pay32 h g w b) (k2_pay33 h g w b) (FloatOps.ofBits (F := Ideal) .f32 0x3F800000#32) wi = Q (L0 h g w b) wi := rfl

/-- One group of the body's computations is one step: `e38`. -/
theorem e38 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay38 h (k2_pay36 g) (Q h w) b = L0 h g w b := rfl

/-- One group of the body's computations is one step: `e43`. -/
theorem e43 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay43 m (k2_pay41 h m (k2_pay36 g) (Q h w) b wi bi wh bh) (k2_pay42 h m (k2_pay36 g) (Q h w) b wi bi wh bh) = L1 m (L0 h g w b) wi bi wh bh := rfl

/-- One group of the body's computations is one step: `e44`. -/
theorem e44 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay44 h g w b = L0 h g w b := rfl

/-- One group of the body's computations is one step: `e1`. -/
theorem e1 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay1 m (k2_pay45 h g w b wi bi) (k2_pay46 wh) (constant S375x384 .f32 0x00000000#32) bh = L1 m (L0 h g w b) wi bi wh bh := rfl

/-- The stored first state is the state. -/
theorem e2 (h : FVec Ideal S375x128 .f32) : k2_pay2 h = h := by
  unfold k2_pay2
  exact shapeCast_id _ _

/-- The stored second state is the state. -/
theorem e3 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) : k2_pay3 m (k2_pay45 h g w b wi bi) (k2_pay46 wh) (constant S375x384 .f32 0x00000000#32) bh = L1 m (L0 h g w b) wi bi wh bh := by
  unfold k2_pay3
  exact shapeCast_id _ _

/-- The result's store. -/
theorem e4 (h m : FVec Ideal S375x128 .f32) (g : Vec Ideal S1x375x384 .f32) (w : Vec Ideal S128x384 .f32) (b : Vec Ideal S1x384 .f32) (wi : Vec Ideal S128x384 .f32) (bi : Vec Ideal S1x384 .f32) (wh : Vec Ideal S128x384 .f32) (bh : Vec Ideal S1x384 .f32) (tw : Vec Ideal S1x128 .f32) : k2_pay4 m (k2_pay45 h g w b wi bi) (k2_pay46 wh) (constant S375x384 .f32 0x00000000#32) bh tw =
    matmul (φ₁ := .f32) (φ₂ := .f32) dot_S1x128_S375x128_S1x375_1_1_0_0_n_n none tw (L1 m (L0 h g w b) wi bi wh bh) (constant S1x375 .f32 0x00000000#32) := rfl

end Cert.Kernel.Val

end
-- ==== Proof.Val.KGruS.lean ====
/- The recurrent call's states after a point. -/
module

public import proofs.«01_k».proof.Proof.Kernel.Gru
public import proofs.«01_k».proof.Proof.Val.KGruL
public import Idealize.ShloMosaic.Lib.Pipeline.ReadBack
public import proofs.«01_k».proof.Proof.Val.Spec2
public import Idealize.ShloMosaic.Lib.Pointwise
public import Idealize.ShloMosaic.Lib.Pipeline.ValueKit

@[expose] public section

set_option maxRecDepth 16384
set_option maxHeartbeats 8000000

noncomputable section

namespace Cert.Kernel.Val

open Cert.Kernel Cert.Kernel.Gen Cert.Kernel.Hand Cert.Spec
open Idealize.ShloMosaic Idealize.ShloMosaic.TcCoe
open Idealize.SL.Sem

variable (V : (c : Dev nD) → (b : Ref sig .tc) → Buf (Elt Ideal) ((c : Thread nD τ).loc b)) (c : Dev nD)

/-- The two states after the seven steps of a point, from the states before. -/
def seven (t : Fin cfg2.N) (S0 S1 : FVec Ideal S375x128 .f32) : FVec Ideal S375x128 .f32 × FVec Ideal S375x128 .f32 :=
  let A1 := L0 S0 (View.ld (iblk2 V c 0 t) (Rect.unit ![0, 0, 0] ![1, 375, 384] inb_S7x375x384_S1x375x384_0_0_0)) (iblk2 V c 1 t) (iblk2 V c 2 t)
  let B1 := L1 S1 A1 (iblk2 V c 3 t) (iblk2 V c 4 t) (iblk2 V c 5 t) (iblk2 V c 6 t)
  let A2 := L0 A1 (View.ld (iblk2 V c 0 t) (Rect.unit ![1, 0, 0] ![1, 375, 384] inb_S7x375x384_S1x375x384_1_0_0)) (iblk2 V c 1 t) (iblk2 V c 2 t)
  let B2 := L1 B1 A2 (iblk2 V c 3 t) (iblk2 V c 4 t) (iblk2 V c 5 t) (iblk2 V c 6 t)
  let A3 := L0 A2 (View.ld (iblk2 V c 0 t) (Rect.unit ![2, 0, 0] ![1, 375, 384] inb_S7x375x384_S1x375x384_2_0_0)) (iblk2 V c 1 t) (iblk2 V c 2 t)
  let B3 := L1 B2 A3 (iblk2 V c 3 t) (iblk2 V c 4 t) (iblk2 V c 5 t) (iblk2 V c 6 t)
  let A4 := L0 A3 (View.ld (iblk2 V c 0 t) (Rect.unit ![3, 0, 0] ![1, 375, 384] inb_S7x375x384_S1x375x384_3_0_0)) (iblk2 V c 1 t) (iblk2 V c 2 t)
  let B4 := L1 B3 A4 (iblk2 V c 3 t) (iblk2 V c 4 t) (iblk2 V c 5 t) (iblk2 V c 6 t)
  let A5 := L0 A4 (View.ld (iblk2 V c 0 t) (Rect.unit ![4, 0, 0] ![1, 375, 384] inb_S7x375x384_S1x375x384_4_0_0)) (iblk2 V c 1 t) (iblk2 V c 2 t)
  let B5 := L1 B4 A5 (iblk2 V c 3 t) (iblk2 V c 4 t) (iblk2 V c 5 t) (iblk2 V c 6 t)
  let A6 := L0 A5 (View.ld (iblk2 V c 0 t) (Rect.unit ![5, 0, 0] ![1, 375, 384] inb_S7x375x384_S1x375x384_5_0_0)) (iblk2 V c 1 t) (iblk2 V c 2 t)
  let B6 := L1 B5 A6 (iblk2 V c 3 t) (iblk2 V c 4 t) (iblk2 V c 5 t) (iblk2 V c 6 t)
  let A7 := L0 A6 (View.ld (iblk2 V c 0 t) (Rect.unit ![6, 0, 0] ![1, 375, 384] inb_S7x375x384_S1x375x384_6_0_0)) (iblk2 V c 1 t) (iblk2 V c 2 t)
  let B7 := L1 B6 A7 (iblk2 V c 3 t) (iblk2 V c 4 t) (iblk2 V c 5 t) (iblk2 V c 6 t)
  (A7, B7)

/-- Scratch 0 after a point, case A. -/
theorem stA0 (t : Fin cfg2.N) (h0 : t.val % 7 = 0) (h1 : ¬t.val % 7 = 6) : (outsAt2 V c t.val t.isLt).2.1 = (seven V c t k2_pay5 k2_pay6).1 := by
  funext y
  rw [outsAt2_A V c t h0 h1]
  dsimp only
  unfold sout2_A_0
  frame_out
  simp only [e7, e10, e16, e17, e20, e26, e27, e29, e34, e35, e37, e38, e43, e44, e1, e2, e3, e4]
  rfl

/-- Scratch 1 after a point, case A. -/
theorem stA1 (t : Fin cfg2.N) (h0 : t.val % 7 = 0) (h1 : ¬t.val % 7 = 6) : (outsAt2 V c t.val t.isLt).2.2 = (seven V c t k2_pay5 k2_pay6).2 := by
  funext y
  rw [outsAt2_A V c t h0 h1]
  dsimp only
  unfold sout2_A_1
  frame_out
  simp only [e7, e10, e16, e17, e20, e26, e27, e29, e34, e35, e37, e38, e43, e44, e1, e2, e3, e4]
  rfl

/-- Scratch 0 after a point, case B. -/
theorem stB0 (t : Fin cfg2.N) (h0 : ¬t.val % 7 = 0) (h1 : ¬t.val % 7 = 6) : (outsAt2 V c t.val t.isLt).2.1 = (seven V c t (outsAt2 V c (t.val - 1) (by omega)).2.1 (outsAt2 V c (t.val - 1) (by omega)).2.2).1 := by
  funext y
  rw [outsAt2_B V c t h0 h1]
  dsimp only
  unfold sout2_B_0
  frame_out
  simp only [read_unread_whole, Memref.IsWhole.read_unread]
  simp only [e7, e10, e16, e17, e20, e26, e27, e29, e34, e35, e37, e38, e43, e44, e1, e2, e3, e4]
  rfl

/-- Scratch 1 after a point, case B. -/
theorem stB1 (t : Fin cfg2.N) (h0 : ¬t.val % 7 = 0) (h1 : ¬t.val % 7 = 6) : (outsAt2 V c t.val t.isLt).2.2 = (seven V c t (outsAt2 V c (t.val - 1) (by omega)).2.1 (outsAt2 V c (t.val - 1) (by omega)).2.2).2 := by
  funext y
  rw [outsAt2_B V c t h0 h1]
  dsimp only
  unfold sout2_B_1
  frame_out
  simp only [read_unread_whole, Memref.IsWhole.read_unread]
  simp only [e7, e10, e16, e17, e20, e26, e27, e29, e34, e35, e37, e38, e43, e44, e1, e2, e3, e4]
  rfl

/-- Scratch 0 after a point, case C. -/
theorem stC0 (t : Fin cfg2.N) (h0 : ¬t.val % 7 = 0) (h1 : t.val % 7 = 6) : (outsAt2 V c t.val t.isLt).2.1 = (seven V c t (outsAt2 V c (t.val - 1) (by omega)).2.1 (outsAt2 V c (t.val - 1) (by omega)).2.2).1 := by
  funext y
  rw [outsAt2_C V c t h0 h1]
  dsimp only
  unfold sout2_C_0
  frame_out
  simp only [read_unread_whole, Memref.IsWhole.read_unread]
  simp only [e7, e10, e16, e17, e20, e26, e27, e29, e34, e35, e37, e38, e43, e44, e1, e2, e3, e4]
  rfl

/-- Scratch 1 after a point, case C. -/
theorem stC1 (t : Fin cfg2.N) (h0 : ¬t.val % 7 = 0) (h1 : t.val % 7 = 6) : (outsAt2 V c t.val t.isLt).2.2 = (seven V c t (outsAt2 V c (t.val - 1) (by omega)).2.1 (outsAt2 V c (t.val - 1) (by omega)).2.2).2 := by
  funext y
  rw [outsAt2_C V c t h0 h1]
  dsimp only
  unfold sout2_C_1
  frame_out
  simp only [read_unread_whole, Memref.IsWhole.read_unread]
  simp only [e7, e10, e16, e17, e20, e26, e27, e29, e34, e35, e37, e38, e43, e44, e1, e2, e3, e4]
  rfl

/-- The result's block at the last point. -/
theorem stC8 (t : Fin cfg2.N) (h0 : ¬t.val % 7 = 0) (h1 : t.val % 7 = 6) (y : S1x375.Idx) : (outsAt2 V c t.val t.isLt).1 y =
    matmul (φ₁ := .f32) (φ₂ := .f32) dot_S1x128_S375x128_S1x375_1_1_0_0_n_n none (iblk2 V c 7 t : FVec Ideal S1x128 .f32) (seven V c t (outsAt2 V c (t.val - 1) (by omega)).2.1 (outsAt2 V c (t.val - 1) (by omega)).2.2).2 (constant S1x375 .f32 0x00000000#32) y := by
  rw [outsAt2_C V c t h0 h1]
  dsimp only
  unfold out2_C_8
  frame_out
  simp only [read_unread_whole, Memref.IsWhole.read_unread]
  simp only [e7, e10, e16, e17, e20, e26, e27, e29, e34, e35, e37, e38, e43, e44, e1, e2, e3, e4]
  rfl

end Cert.Kernel.Val

end
-- ==== Proof.Val.KGruI.lean ====
/- The recurrent call's result from the arguments and the input gates. -/
module

public import proofs.«01_k».proof.Proof.Kernel.Gru
public import proofs.«01_k».proof.Proof.Val.KGruL
public import proofs.«01_k».proof.Proof.Val.KGruS
public import proofs.«01_k».proof.Proof.Val.Spec2
public import Idealize.ShloMosaic.Lib.Pointwise
public import Idealize.ShloMosaic.Lib.Pipeline.ValueKit

@[expose] public section

set_option maxRecDepth 16384
set_option maxHeartbeats 8000000

noncomputable section

namespace Cert.Kernel.Val

open Cert.Kernel Cert.Kernel.Gen Cert.Kernel.Hand Cert.Spec
open Idealize.ShloMosaic Idealize.ShloMosaic.TcCoe
open Idealize.SL.Sem

variable (V : (c : Dev nD) → (b : Ref sig .tc) → Buf (Elt Ideal) ((c : Thread nD τ).loc b)) (c : Dev nD)

/-- What the recurrent call's operands hold, from the arguments and the input gates. -/
structure GruIn (A : Args) (G : ℕ → ℕ → Fin 384 → EReal) : Prop where
  h80 : ∀ t r g, (V c main_v80 : Vec Ideal S49x375x384 .f32) (ix3 t r g) = G t.val r.val g
  h81 : ∀ l k, (V c main_v81 : Vec Ideal S128x384 .f32) (ix2 l k) = A.a21 (ix2 k l)
  h84 : ∀ k, (V c main_v84 : Vec Ideal S1x384 .f32) (ix2 0 k) = A.a23 (ix1 k)
  h82 : ∀ l k, (V c main_v82 : Vec Ideal S128x384 .f32) (ix2 l k) = A.a24 (ix2 k l)
  h85 : ∀ k, (V c main_v85 : Vec Ideal S1x384 .f32) (ix2 0 k) = A.a26 (ix1 k)
  h83 : ∀ l k, (V c main_v83 : Vec Ideal S128x384 .f32) (ix2 l k) = A.a25 (ix2 k l)
  h86 : ∀ k, (V c main_v86 : Vec Ideal S1x384 .f32) (ix2 0 k) = A.a27 (ix1 k)
  h28 : ∀ j, (V c main_arg28 : Vec Ideal S1x128 .f32) (ix2 0 j) = A.a28 (ix2 0 j)

/-- Every window's block index at a grid point of the recurrent call. -/
theorem idx2 : ∀ t : Fin cfg2.N, win2_0.index t = ![t.val, 0, 0] ∧ win2_1.index t = ![0, 0] ∧ win2_2.index t = ![0, 0] ∧ win2_3.index t = ![0, 0] ∧ win2_4.index t = ![0, 0] ∧ win2_5.index t = ![0, 0] ∧ win2_6.index t = ![0, 0] ∧ win2_7.index t = ![0, 0] ∧ win2_8.index t = ![0, 0] :=
  (by decide +kernel : ∀ t : Fin grid2.N, _)

/-- The points of the recurrent call. -/
theorem lt7 (t : Fin cfg2.N) : t.val < 7 := t.isLt

/-- The gates' block at a point is seven steps'. -/
theorem ib2_0 (t : Fin cfg2.N) (k : Fin 7) (r : Fin 375) (g : Fin 384) : (iblk2 V c 0 t : Vec Ideal S7x375x384 .f32) (ix3 k r g) =
    (V c main_v80 : Vec Ideal S49x375x384 .f32) (ix3 ⟨7 * t.val + k.val, by have := lt7 t; omega⟩ r g) := by
  blk_ext! [iblk2, idx2 t]

/-- Window 1's block is its whole array. -/
theorem ib2_1 (t : Fin cfg2.N) : iblk2 V c 1 t = V c main_v81 := by
  blk_ext! [iblk2, idx2 t]

/-- Window 2's block is its whole array. -/
theorem ib2_2 (t : Fin cfg2.N) : iblk2 V c 2 t = V c main_v84 := by
  blk_ext! [iblk2, idx2 t]

/-- Window 3's block is its whole array. -/
theorem ib2_3 (t : Fin cfg2.N) : iblk2 V c 3 t = V c main_v82 := by
  blk_ext! [iblk2, idx2 t]

/-- Window 4's block is its whole array. -/
theorem ib2_4 (t : Fin cfg2.N) : iblk2 V c 4 t = V c main_v85 := by
  blk_ext! [iblk2, idx2 t]

/-- Window 5's block is its whole array. -/
theorem ib2_5 (t : Fin cfg2.N) : iblk2 V c 5 t = V c main_v83 := by
  blk_ext! [iblk2, idx2 t]

/-- Window 6's block is its whole array. -/
theorem ib2_6 (t : Fin cfg2.N) : iblk2 V c 6 t = V c main_v86 := by
  blk_ext! [iblk2, idx2 t]

/-- Window 7's block is its whole array. -/
theorem ib2_7 (t : Fin cfg2.N) : iblk2 V c 7 t = V c main_arg28 := by
  blk_ext! [iblk2, idx2 t]

variable {V c}

/-- The two states hold `n` steps. -/
def St (A : Args) (G : ℕ → ℕ → Fin 384 → EReal) (n : ℕ) (S : FVec Ideal S375x128 .f32 × FVec Ideal S375x128 .f32) : Prop :=
  ∀ (r : Fin 375) (j : Fin 128), S.1 (ix2 r j) = (hid A G r.val n).1 j ∧ S.2 (ix2 r j) = (hid A G r.val n).2 j

/-- One step of both layers. -/
theorem st_step {A : Args} {G : ℕ → ℕ → Fin 384 → EReal} (H : GruIn V c A G) (t : Fin cfg2.N) (n : ℕ) (S0 S1 : FVec Ideal S375x128 .f32)
    (g : Vec Ideal S1x375x384 .f32) (h : St A G n (S0, S1)) (hg : ∀ r x, g (ix3 0 r x) = G n r.val x) :
    St A G (n + 1) (L0 S0 g (iblk2 V c 1 t) (iblk2 V c 2 t), L1 S1 (L0 S0 g (iblk2 V c 1 t) (iblk2 V c 2 t)) (iblk2 V c 3 t) (iblk2 V c 4 t) (iblk2 V c 5 t) (iblk2 V c 6 t)) := by
  rw [ib2_1, ib2_2, ib2_3, ib2_4, ib2_5, ib2_6]
  have h0 : ∀ (r : Fin 375) (j : Fin 128), L0 S0 g (V c main_v81) (V c main_v84) (ix2 r j) = (hid A G r.val (n + 1)).1 j := fun r j => by
    rw [L0_at]
    have h0' : ∀ r j, S0 (ix2 r j) = (hid A G r.val n).1 j := fun r j => (h r j).1
    simp only [hg, H.h81, H.h84, h0']
    rfl
  intro r j
  refine ⟨h0 r j, ?_⟩
  dsimp only
  rw [L1_at]
  simp only [h0, H.h82, H.h85, H.h83, H.h86]
  have h1 : ∀ r j, S1 (ix2 r j) = (hid A G r.val n).2 j := fun r j => (h r j).2
  simp only [h1]
  rfl

/-- Step 0's gates in a point's block. -/
theorem g0_at {A : Args} {G : ℕ → ℕ → Fin 384 → EReal} (H : GruIn V c A G) (t : Fin cfg2.N) (r : Fin 375) (x : Fin 384) :
    (View.ld (iblk2 V c 0 t) (Rect.unit ![0, 0, 0] ![1, 375, 384] inb_S7x375x384_S1x375x384_0_0_0) : Vec Ideal S1x375x384 .f32) (ix3 0 r x) = G (7 * t.val + 0) r.val x := by
  refine Eq.trans ?_ ((ib2_0 V c t 0 r x).trans (H.h80 _ r x))
  generalize (iblk2 V c 0 t : Vec Ideal S7x375x384 .f32) = Y
  pointwise

/-- Step 1's gates in a point's block. -/
theorem g1_at {A : Args} {G : ℕ → ℕ → Fin 384 → EReal} (H : GruIn V c A G) (t : Fin cfg2.N) (r : Fin 375) (x : Fin 384) :
    (View.ld (iblk2 V c 0 t) (Rect.unit ![1, 0, 0] ![1, 375, 384] inb_S7x375x384_S1x375x384_1_0_0) : Vec Ideal S1x375x384 .f32) (ix3 0 r x) = G (7 * t.val + 1) r.val x := by
  refine Eq.trans ?_ ((ib2_0 V c t 1 r x).trans (H.h80 _ r x))
  generalize (iblk2 V c 0 t : Vec Ideal S7x375x384 .f32) = Y
  pointwise

/-- Step 2's gates in a point's block. -/
theorem g2_at {A : Args} {G : ℕ → ℕ → Fin 384 → EReal} (H : GruIn V c A G) (t : Fin cfg2.N) (r : Fin 375) (x : Fin 384) :
    (View.ld (iblk2 V c 0 t) (Rect.unit ![2, 0, 0] ![1, 375, 384] inb_S7x375x384_S1x375x384_2_0_0) : Vec Ideal S1x375x384 .f32) (ix3 0 r x) = G (7 * t.val + 2) r.val x := by
  refine Eq.trans ?_ ((ib2_0 V c t 2 r x).trans (H.h80 _ r x))
  generalize (iblk2 V c 0 t : Vec Ideal S7x375x384 .f32) = Y
  pointwise

/-- Step 3's gates in a point's block. -/
theorem g3_at {A : Args} {G : ℕ → ℕ → Fin 384 → EReal} (H : GruIn V c A G) (t : Fin cfg2.N) (r : Fin 375) (x : Fin 384) :
    (View.ld (iblk2 V c 0 t) (Rect.unit ![3, 0, 0] ![1, 375, 384] inb_S7x375x384_S1x375x384_3_0_0) : Vec Ideal S1x375x384 .f32) (ix3 0 r x) = G (7 * t.val + 3) r.val x := by
  refine Eq.trans ?_ ((ib2_0 V c t 3 r x).trans (H.h80 _ r x))
  generalize (iblk2 V c 0 t : Vec Ideal S7x375x384 .f32) = Y
  pointwise

/-- Step 4's gates in a point's block. -/
theorem g4_at {A : Args} {G : ℕ → ℕ → Fin 384 → EReal} (H : GruIn V c A G) (t : Fin cfg2.N) (r : Fin 375) (x : Fin 384) :
    (View.ld (iblk2 V c 0 t) (Rect.unit ![4, 0, 0] ![1, 375, 384] inb_S7x375x384_S1x375x384_4_0_0) : Vec Ideal S1x375x384 .f32) (ix3 0 r x) = G (7 * t.val + 4) r.val x := by
  refine Eq.trans ?_ ((ib2_0 V c t 4 r x).trans (H.h80 _ r x))
  generalize (iblk2 V c 0 t : Vec Ideal S7x375x384 .f32) = Y
  pointwise

/-- Step 5's gates in a point's block. -/
theorem g5_at {A : Args} {G : ℕ → ℕ → Fin 384 → EReal} (H : GruIn V c A G) (t : Fin cfg2.N) (r : Fin 375) (x : Fin 384) :
    (View.ld (iblk2 V c 0 t) (Rect.unit ![5, 0, 0] ![1, 375, 384] inb_S7x375x384_S1x375x384_5_0_0) : Vec Ideal S1x375x384 .f32) (ix3 0 r x) = G (7 * t.val + 5) r.val x := by
  refine Eq.trans ?_ ((ib2_0 V c t 5 r x).trans (H.h80 _ r x))
  generalize (iblk2 V c 0 t : Vec Ideal S7x375x384 .f32) = Y
  pointwise

/-- Step 6's gates in a point's block. -/
theorem g6_at {A : Args} {G : ℕ → ℕ → Fin 384 → EReal} (H : GruIn V c A G) (t : Fin cfg2.N) (r : Fin 375) (x : Fin 384) :
    (View.ld (iblk2 V c 0 t) (Rect.unit ![6, 0, 0] ![1, 375, 384] inb_S7x375x384_S1x375x384_6_0_0) : Vec Ideal S1x375x384 .f32) (ix3 0 r x) = G (7 * t.val + 6) r.val x := by
  refine Eq.trans ?_ ((ib2_0 V c t 6 r x).trans (H.h80 _ r x))
  generalize (iblk2 V c 0 t : Vec Ideal S7x375x384 .f32) = Y
  pointwise

/-- A point's seven steps. -/
theorem seven_at {A : Args} {G : ℕ → ℕ → Fin 384 → EReal} (H : GruIn V c A G) (t : Fin cfg2.N) (S0 S1 : FVec Ideal S375x128 .f32)
    (h : St A G (7 * t.val) (S0, S1)) : St A G (7 * t.val + 7) (seven V c t S0 S1) := by
  unfold seven
  have s1 := st_step H t _ _ _ _ h (g0_at H t)
  have s2 := st_step H t _ _ _ _ s1 (g1_at H t)
  have s3 := st_step H t _ _ _ _ s2 (g2_at H t)
  have s4 := st_step H t _ _ _ _ s3 (g3_at H t)
  have s5 := st_step H t _ _ _ _ s4 (g4_at H t)
  have s6 := st_step H t _ _ _ _ s5 (g5_at H t)
  have s7 := st_step H t _ _ _ _ s6 (g6_at H t)
  exact s7

/-- The states before the first step. -/
theorem st_zero (A : Args) (G : ℕ → ℕ → Fin 384 → EReal) : St A G 0 (k2_pay5, k2_pay6) := by
  intro r j
  constructor
  · show k2_pay5 (F := Ideal) (ix2 r j) = 0
    pointwise [k2_pay5]
  · show k2_pay6 (F := Ideal) (ix2 r j) = 0
    pointwise [k2_pay6]

/-- The states before a point. -/
theorem st_pt {A : Args} {G : ℕ → ℕ → Fin 384 → EReal} (H : GruIn V c A G) : ∀ (n : ℕ) (hn : n < cfg2.N), St A G (7 * (n + 1)) (outsAt2 V c n hn).2
  | 0, hn => by
    have e : (outsAt2 V c 0 hn).2 = seven V c ⟨0, hn⟩ k2_pay5 k2_pay6 :=
      Prod.ext (stA0 V c ⟨0, hn⟩ (by show 0 % 7 = 0; rfl) (by show ¬ 0 % 7 = 6; decide)) (stA1 V c ⟨0, hn⟩ (by show 0 % 7 = 0; rfl) (by show ¬ 0 % 7 = 6; decide))
    rw [e]
    exact seven_at H ⟨0, hn⟩ _ _ (st_zero A G)
  | n + 1, hn => by
    have hn' : n + 1 < 7 := hn
    have ih := st_pt H n (by omega)
    have e : (outsAt2 V c (n + 1) hn).2 = seven V c ⟨n + 1, hn⟩ (outsAt2 V c n (by omega)).2.1 (outsAt2 V c n (by omega)).2.2 := by
      have h0 : ¬ (n + 1) % 7 = 0 := by omega
      by_cases h1 : (n + 1) % 7 = 6
      · exact Prod.ext (stC0 V c ⟨n + 1, hn⟩ h0 h1) (stC1 V c ⟨n + 1, hn⟩ h0 h1)
      · exact Prod.ext (stB0 V c ⟨n + 1, hn⟩ h0 h1) (stB1 V c ⟨n + 1, hn⟩ h0 h1)
    rw [e]
    exact seven_at H ⟨n + 1, hn⟩ _ _ ih

/-- The product with the last layer's weights at an index. -/
theorem out_mm (w : FVec Ideal S1x128 .f32) (h : FVec Ideal S375x128 .f32) (r : Fin 375) :
    matmul (φ₁ := .f32) (φ₂ := .f32) dot_S1x128_S375x128_S1x375_1_1_0_0_n_n none w h (constant S1x375 .f32 0x00000000#32) (ix2 0 r) =
      ∑ j : Fin 128, w (ix2 0 j) * h (ix2 r j) := by
  pointwise

/-- What the recurrent call leaves at the last point. -/
theorem out_last {A : Args} {G : ℕ → ℕ → Fin 384 → EReal} (H : GruIn V c A G) (t : Fin cfg2.N) (ht : t.val = 6) (r : Fin 375) :
    (outsAt2 V c t.val t.isLt).1 (ix2 0 r) = lgt A G r.val := by
  rw [stC8 V c t (by omega) (by omega)]
  refine (out_mm _ _ r).trans ?_
  unfold lgt
  have hS := st_pt H t.val t.isLt
  rw [Prod.ext (stC0 V c t (by omega) (by omega)) (stC1 V c t (by omega) (by omega)), show 7 * (t.val + 1) = 49 by omega] at hS
  refine Finset.sum_congr rfl fun j _ => ?_
  rw [ib2_7, H.h28, mul_comm]
  exact congrArg (· * _) (hS r j).2

/-- The recurrent call's result array. -/
theorem arr2 {A : Args} {G : ℕ → ℕ → Fin 384 → EReal} (H : GruIn V c A G) :
    (dat2 V c).arrAt 8 cfg2.N = (fun i : S1x375.Idx => lgt A G (i 1).val : Vec Ideal S1x375 .f32) := by
  refine (dat2 V c).arrAt_eq_of_after_last 8 ⟨6, by decide⟩ (by decide +kernel) _ fun j => ?_
  have key : (dat2 V c).after 8 ⟨6, by decide⟩ (ix2 0 (j 1) : S1x375.Idx) = lgt A G (j 1).val := by
    rw [after2_8]
    exact out_last H ⟨6, by decide⟩ rfl (j 1)
  refine Eq.trans ?_ key
  refine (cast_eq _ _).trans (congrArg _ ?_)
  funext a
  match a with
  | ⟨0, _⟩ => exact Fin.ext (by have : (j 0).val < 1 := (j 0).isLt; show (j 0).val = 0; omega)
  | ⟨1, _⟩ => rfl

end Cert.Kernel.Val

end
-- ==== Proof.Val.KHead.lean ====
/- The head call's result. -/
module

public import proofs.«01_k».proof.Proof.Kernel.Head
public import proofs.«01_k».proof.Proof.Val.Spec2
public import Idealize.ShloMosaic.Lib.Pointwise
public import Idealize.ShloMosaic.Lib.Pipeline.ValueKit

@[expose] public section

set_option maxRecDepth 16384
set_option maxHeartbeats 8000000

noncomputable section

namespace Cert.Kernel.Val

open Cert.Kernel Cert.Kernel.Gen Cert.Kernel.Hand Cert.Spec
open Idealize.ShloMosaic Idealize.ShloMosaic.TcCoe
open Idealize.SL.Sem

variable (V : (c : Dev nD) → (b : Ref sig .tc) → Buf (Elt Ideal) ((c : Thread nD τ).loc b)) (c : Dev nD)

/-- The shot's class, as the body computes it. -/
theorem shot_class : ∀ (u : Fin 25), (Scalar.select
                (IntOp.andi
                  (IntOp.cmpi CmpIPredicate.ne
                    (IntOp.subi (BitVec.setWidth 32 (IntOp.cmpi CmpIPredicate.sgt (BitVec.ofNat 32 u.val) 0#32))
                      (BitVec.setWidth 32 (IntOp.cmpi CmpIPredicate.slt (BitVec.ofNat 32 u.val) 0#32)))
                    (Scalar.subi (Scalar.extui (Scalar.cmpi CmpIPredicate.sgt 5#32 0#32))
                      (Scalar.extui (Scalar.cmpi CmpIPredicate.slt 5#32 0#32))))
                  (IntOp.cmpi CmpIPredicate.ne (IntOp.remsi ArithUnit.vector (BitVec.ofNat 32 u.val) 5#32) 0#32))
                (IntOp.subi (IntOp.divsi ArithUnit.vector (BitVec.ofNat 32 u.val) 5#32) 1#32)
                (IntOp.divsi ArithUnit.vector (BitVec.ofNat 32 u.val) 5#32)) = BitVec.ofNat 32 (u.val / 5) := by
  decide +kernel

/-- The table of zeros and ones. -/
theorem pick (u : Fin 25) (c : Fin 5) (a : EReal) : Scalar.select (IntOp.cmpi CmpIPredicate.eq (BitVec.ofNat 32 (u.val / 5)) (BitVec.ofNat 32 c.val)) a 0
    = a * (if u.val / 5 = c.val then 1 else 0) := by
  have h : ∀ (u : Fin 25) (c : Fin 5), IntOp.cmpi CmpIPredicate.eq (BitVec.ofNat 32 (u.val / 5)) (BitVec.ofNat 32 c.val) = if u.val / 5 = c.val then 1#1 else 0#1 := by
    decide +kernel
  rw [h]
  split_ifs
  · rw [mul_one]; rfl
  · rw [mul_zero]; rfl

/-- A maximum from bottom. -/
theorem fold_top {n : ℕ} (f : Fin n → EReal) : Finset.fold max (Ideal.ofBits FTy.f32 4286578688#32) f Finset.univ = top f := by
  rw [show Ideal.ofBits FTy.f32 4286578688#32 = ⊥ from (by simp [Ideal.ofBits, Ideal.ieee])]
  rfl

/-- The head's payload at an index. -/
theorem p3_at (v : Vec Ideal S15x25 .f32) (q : Fin 15) (c : Fin 5) :
    k3_pay1 v (ix2 q c) = lsm (fun c : Fin 5 => ∑ u : Fin 25, v (ix2 q u) * (if u.val / 5 = c.val then 1 else 0)) c := by
  unfold lsm
  pointwise [k3_pay1]
  simp only [shot_class, pick, fold_top]

/-- The points of the head call: one. -/
theorem idx3 : ∀ t : Fin cfg3.N, win3_0.index t = ![0, 0] ∧ win3_1.index t = ![0, 0] :=
  (by decide +kernel : ∀ t : Fin grid3.N, _)

/-- The head's operand is one whole block. -/
theorem ib3_0 (t : Fin cfg3.N) : iblk3 V c 0 t = V c main_v88 := by
  blk_ext! [iblk3, idx3 t]

/-- The head call's result. -/
def headOut (L : Vec Ideal S15x25 .f32) : Vec Ideal S15x5 .f32 := fun i =>
  lsm (fun c : Fin 5 => ∑ u : Fin 25, L (ix2 (i 0) u) * (if u.val / 5 = c.val then 1 else 0)) (i 1)

/-- The head call's result array. -/
theorem arr3 : (dat3 V c).arrAt 1 cfg3.N = headOut (V c main_v88) := by
  refine (dat3 V c).arrAt_eq_of_after_last 1 ⟨0, by decide⟩ (by decide +kernel) _ fun j => ?_
  have key : (dat3 V c).after 1 ⟨0, by decide⟩ (ix2 (j 0) (j 1) : S15x5.Idx) = headOut (V c main_v88) (ix2 (j 0) (j 1)) := by
    rw [after3_1]
    frame_out
    rw [ib3_0]
    exact p3_at _ _ _
  have ej : (ix2 (j 0) (j 1) : S15x5.Idx) = j := by
    funext a
    match a with
    | ⟨0, _⟩ => rfl
    | ⟨1, _⟩ => rfl
  refine Eq.trans ?_ (key.trans (congrArg (headOut (V c main_v88)) ej))
  refine (cast_eq _ _).trans (congrArg _ ?_)
  funext a
  match a with
  | ⟨0, _⟩ => rfl
  | ⟨1, _⟩ => rfl

end Cert.Kernel.Val

end
-- ==== Proof.Val.KFinal.lean ====
/- The kernel program's result array from its arguments. -/
module

public import proofs.«01_k».proof.Proof.Kernel.Run
public import proofs.«01_k».proof.Proof.Val.KHostX
public import proofs.«01_k».proof.Proof.Val.KHostW
public import proofs.«01_k».proof.Proof.Val.KEncB
public import proofs.«01_k».proof.Proof.Val.KAtt
public import proofs.«01_k».proof.Proof.Val.KGruI
public import proofs.«01_k».proof.Proof.Val.KHead
public import proofs.«01_k».proof.Proof.Val.Spec2
public import Idealize.ShloMosaic.Lib.Pointwise
public import Idealize.ShloMosaic.Lib.Pipeline.ValueKit

@[expose] public section

set_option maxRecDepth 16384
set_option maxHeartbeats 8000000

noncomputable section

namespace Cert.Kernel.Val

open Cert.Kernel Cert.Kernel.Gen Cert.Kernel.Hand Cert.Spec
open Idealize.ShloMosaic.StableHlo
open Idealize.ShloMosaic Idealize.ShloMosaic.TcCoe
open Idealize.SL.Sem

variable (m : (ℓ : Loc nD τ sig) → Buf (Elt Ideal) ℓ) (ρ : Dev nD → PrngReg) (c : Dev nD)

/-- The arguments as the launch's memory holds them. -/
def argsK : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)
  a22 := m ((c : Thread nD τ).loc main_arg22)
  a23 := m ((c : Thread nD τ).loc main_arg23)
  a24 := m ((c : Thread nD τ).loc main_arg24)
  a25 := m ((c : Thread nD τ).loc main_arg25)
  a26 := m ((c : Thread nD τ).loc main_arg26)
  a27 := m ((c : Thread nD τ).loc main_arg27)
  a28 := m ((c : Thread nD τ).loc main_arg28)
  a29 := m ((c : Thread nD τ).loc main_arg29)

/-- What the encoder call's operands hold. -/
theorem encIn : EncIn (V3 m ρ) c (argsK m c) where
  h34 := x9_at (W2 m ρ c) (fun i => pd 224 (img (argsK m c) i)) (v3_at (W0 m ρ c) (argsK m c) rfl rfl)
  h36 := w1_at (W2 m ρ c) (argsK m c).a2 (W2_args m ρ c main_arg2 (by decide))
  h43s := s1_at (W2 m ρ c) (argsK m c).a10 (W2_args m ρ c main_arg10 (by decide))
  h43t := t1_at (W2 m ρ c) (argsK m c).a3 (argsK m c).a10 (argsK m c).a11 (W2_args m ρ c main_arg3 (by decide)) (W2_args m ρ c main_arg10 (by decide)) (W2_args m ρ c main_arg11 (by decide))
  h45 := w2_at (W2 m ρ c) (argsK m c).a4 (W2_args m ρ c main_arg4 (by decide))
  h52s := s2_at (W2 m ρ c) (argsK m c).a12 (W2_args m ρ c main_arg12 (by decide))
  h52t := t2_at (W2 m ρ c) (argsK m c).a5 (argsK m c).a12 (argsK m c).a13 (W2_args m ρ c main_arg5 (by decide)) (W2_args m ρ c main_arg12 (by decide)) (W2_args m ρ c main_arg13 (by decide))
  h54 := w3_at (W2 m ρ c) (argsK m c).a6 (W2_args m ρ c main_arg6 (by decide))
  h61s := s3_at (W2 m ρ c) (argsK m c).a14 (W2_args m ρ c main_arg14 (by decide))
  h61t := t3_at (W2 m ρ c) (argsK m c).a7 (argsK m c).a14 (argsK m c).a15 (W2_args m ρ c main_arg7 (by decide)) (W2_args m ρ c main_arg14 (by decide)) (W2_args m ρ c main_arg15 (by decide))
  h63 := w4_at (W2 m ρ c) (argsK m c).a8 (W2_args m ρ c main_arg8 (by decide))
  h70s := s4_at (W2 m ρ c) (argsK m c).a16 (W2_args m ρ c main_arg16 (by decide))
  h70t := t4_at (W2 m ρ c) (argsK m c).a9 (argsK m c).a16 (argsK m c).a17 (W2_args m ρ c main_arg9 (by decide)) (W2_args m ρ c main_arg16 (by decide)) (W2_args m ρ c main_arg17 (by decide))
  h71 := aw_at (W2 m ρ c) (argsK m c).a18 (W2_args m ρ c main_arg18 (by decide))
  h72 := ab_at (W2 m ρ c) (argsK m c).a19 (W2_args m ρ c main_arg19 (by decide)) 0
  h74 := wA_at (W2 m ρ c) (argsK m c).a20 (W2_args m ρ c main_arg20 (by decide))
  h76 := wB_at (W2 m ρ c) (argsK m c).a20 (W2_args m ρ c main_arg20 (by decide))
  h77 := bi_at (W2 m ρ c) (argsK m c).a22 (W2_args m ρ c main_arg22 (by decide)) 0

/-- A pair's gates from the encoder's three arrays are the problem's, as the kernel arranges them. -/
theorem gate1_out (A : Args) (r : Fin 375) (t : Fin 49) (g : Fin 384) :
    gate1 (out0_14 A) (out0_15 A) (out0_16 A) r t g = giK A (K4 A) t.val r.val g := by
  have h1 : ∀ (i s : ℕ) (g : Fin 384), prA1 A i s (g.castLE (by norm_num)) = prA A (K4 A) i s g := fun i s g => by
    unfold prA1
    exact dif_pos g.isLt
  have h2 : ∀ (i s : ℕ), prA1 A i s ⟨384, by norm_num⟩ = 1 := fun i s => by
    unfold prA1
    exact dif_neg (by simp)
  show Ideal.div (∑ s : Fin 49, Ideal.exp (sco A (K4 A) (25 + r.val / 25) (r.val % 25) t.val s.val) * prA1 A (r.val % 25) s.val (g.castLE (by norm_num)))
    (∑ s : Fin 49, Ideal.exp (sco A (K4 A) (25 + r.val / 25) (r.val % 25) t.val s.val) * prA1 A (r.val % 25) s.val ⟨384, by norm_num⟩) + prB A (K4 A) (25 + r.val / 25) t.val g = _
  simp only [h1, h2]
  rfl

/-- The gates of every pair after the attention call. -/
theorem v79_eq : (W5 m ρ c (Proc.devRef .tc main_v79) : Vec Ideal S49x375x1x384 .f32) = gates (out0_14 (argsK m c)) (out0_15 (argsK m c)) (out0_16 (argsK m c)) := by
  refine (W5_arr m ρ c 4).trans ((arr1 (V4 m ρ) c).trans ?_)
  have e0 : V4 m ρ c main_v78_0 = out0_14 (argsK m c) := (W4_arr m ρ c 14).trans (arr0_14 (V3 m ρ) c (encIn m ρ c))
  have e1 : V4 m ρ c main_v78_1 = out0_15 (argsK m c) := (W4_arr m ρ c 15).trans (arr0_15 (V3 m ρ) c (encIn m ρ c))
  have e2 : V4 m ρ c main_v78_2 = out0_16 (argsK m c) := (W4_arr m ρ c 16).trans (arr0_16 (V3 m ρ) c (encIn m ρ c))
  rw [e0, e1, e2]

/-- The host's reshape of the gates. -/
theorem h80_at (V : Valuation τ sig (Elt Ideal)) (t : Fin 49) (r : Fin 375) (g : Fin 384) :
    (after hostOps2 V (Proc.devRef .tc main_v80) : Vec Ideal S49x375x384 .f32) (ix3 t r g) = (V (Proc.devRef .tc main_v79) : Vec Ideal S49x375x1x384 .f32) (ix4 t r 0 g) := by
  after_results_simp
  pointwise

/-- A transposed weight of the recurrent call. -/
theorem h81_at (V : Valuation τ sig (Elt Ideal)) (W : (⟨2, ![384, 128]⟩ : Shape).Idx → EReal) (h : V (Proc.devRef .tc main_arg21) = W) (l : Fin 128) (k : Fin 384) :
    (after hostOps2 V (Proc.devRef .tc main_v81) : Vec Ideal S128x384 .f32) (ix2 l k) = W (ix2 k l) := by
  after_results_simp
  pointwise
  rw [h]
  all_goals (refine congrArg W ?_; ext k; fin_cases k <;> rfl)

/-- A transposed weight of the recurrent call. -/
theorem h82_at (V : Valuation τ sig (Elt Ideal)) (W : (⟨2, ![384, 128]⟩ : Shape).Idx → EReal) (h : V (Proc.devRef .tc main_arg24) = W) (l : Fin 128) (k : Fin 384) :
    (after hostOps2 V (Proc.devRef .tc main_v82) : Vec Ideal S128x384 .f32) (ix2 l k) = W (ix2 k l) := by
  after_results_simp
  pointwise
  rw [h]
  all_goals (refine congrArg W ?_; ext k; fin_cases k <;> rfl)

/-- A transposed weight of the recurrent call. -/
theorem h83_at (V : Valuation τ sig (Elt Ideal)) (W : (⟨2, ![384, 128]⟩ : Shape).Idx → EReal) (h : V (Proc.devRef .tc main_arg25) = W) (l : Fin 128) (k : Fin 384) :
    (after hostOps2 V (Proc.devRef .tc main_v83) : Vec Ideal S128x384 .f32) (ix2 l k) = W (ix2 k l) := by
  after_results_simp
  pointwise
  rw [h]
  all_goals (refine congrArg W ?_; ext k; fin_cases k <;> rfl)

/-- A bias row of the recurrent call. -/
theorem h84_at (V : Valuation τ sig (Elt Ideal)) (W : (⟨1, ![384]⟩ : Shape).Idx → EReal) (h : V (Proc.devRef .tc main_arg23) = W) (k : Fin 384) :
    (after hostOps2 V (Proc.devRef .tc main_v84) : Vec Ideal S1x384 .f32) (ix2 0 k) = W (ix1 k) := by
  after_results_simp
  pointwise
  rw [h]
  all_goals (refine congrArg W ?_; ext k; fin_cases k <;> rfl)

/-- A bias row of the recurrent call. -/
theorem h85_at (V : Valuation τ sig (Elt Ideal)) (W : (⟨1, ![384]⟩ : Shape).Idx → EReal) (h : V (Proc.devRef .tc main_arg26) = W) (k : Fin 384) :
    (after hostOps2 V (Proc.devRef .tc main_v85) : Vec Ideal S1x384 .f32) (ix2 0 k) = W (ix1 k) := by
  after_results_simp
  pointwise
  rw [h]
  all_goals (refine congrArg W ?_; ext k; fin_cases k <;> rfl)

/-- A bias row of the recurrent call. -/
theorem h86_at (V : Valuation τ sig (Elt Ideal)) (W : (⟨1, ![384]⟩ : Shape).Idx → EReal) (h : V (Proc.devRef .tc main_arg27) = W) (k : Fin 384) :
    (after hostOps2 V (Proc.devRef .tc main_v86) : Vec Ideal S1x384 .f32) (ix2 0 k) = W (ix1 k) := by
  after_results_simp
  pointwise
  rw [h]
  all_goals (refine congrArg W ?_; ext k; fin_cases k <;> rfl)

/-- What the recurrent call's operands hold. -/
theorem gruIn : GruIn (V6 m ρ) c (argsK m c) (giK (argsK m c) (K4 (argsK m c))) where
  h80 := fun t r g => (h80_at (W5 m ρ c) t r g).trans (by
    rw [v79_eq]
    exact gate1_out (argsK m c) r t g)
  h81 := h81_at (W5 m ρ c) (argsK m c).a21 (W5_args m ρ c main_arg21 (by decide))
  h84 := h84_at (W5 m ρ c) (argsK m c).a23 (W5_args m ρ c main_arg23 (by decide))
  h82 := h82_at (W5 m ρ c) (argsK m c).a24 (W5_args m ρ c main_arg24 (by decide))
  h85 := h85_at (W5 m ρ c) (argsK m c).a26 (W5_args m ρ c main_arg26 (by decide))
  h83 := h83_at (W5 m ρ c) (argsK m c).a25 (W5_args m ρ c main_arg25 (by decide))
  h86 := h86_at (W5 m ρ c) (argsK m c).a27 (W5_args m ρ c main_arg27 (by decide))
  h28 := fun j => congrFun (W6_args m ρ c main_arg28 (by decide)) _

/-- The host's reshape of the logits. -/
theorem h88_at (V : Valuation τ sig (Elt Ideal)) (q : Fin 15) (u : Fin 25) :
    (after hostOps3 V (Proc.devRef .tc main_v88) : Vec Ideal S15x25 .f32) (ix2 q u)
      = (V (Proc.devRef .tc main_v87) : Vec Ideal S1x375 .f32) (ix2 0 ⟨q.val * 25 + u.val, by omega⟩) := by
  after_results_simp
  pointwise
  all_goals (refine congrArg (V (Proc.devRef .tc main_v87)) ?_; ext k; fin_cases k <;> simp <;> omega)

/-- The kernel program's result. -/
theorem v89_eq : (W9 m ρ c (Proc.devRef .tc main_v89) : Vec Ideal S15x5 .f32) = fun i => resK (argsK m c) (i 0).val (i 1) := by
  refine (W9_arr m ρ c 1).trans ((arr3 (V8 m ρ) c).trans ?_)
  have e : ∀ (q : Fin 15) (u : Fin 25), (V8 m ρ c main_v88 : Vec Ideal S15x25 .f32) (ix2 q u)
      = lgt (argsK m c) (giK (argsK m c) (K4 (argsK m c))) (q.val * 25 + u.val) := fun q u => by
    refine (h88_at (W7 m ρ c) q u).trans ?_
    rw [show W7 m ρ c (Proc.devRef .tc main_v87) = _ from (W7_arr m ρ c 8).trans (arr2 (V := V6 m ρ) (c := c) (gruIn m ρ c))]
    rfl
  funext i
  exact congrFun (congrArg lsm (funext fun k => Finset.sum_congr rfl fun u _ => congrArg (· * (if u.val / 5 = k.val then (1 : EReal) else 0)) (e (i 0) u))) (i 1)

end Cert.Kernel.Val

end
-- ==== Proof.Val.RefPads.lean ====
/- The reference's paddings, and the arguments its lists of operations leave alone. -/
module

public import proofs.«01_k».proof.Proof.Gen.ReferenceIdeal.Run
public import proofs.«01_k».proof.Proof.Val.Spec2

@[expose] public section

set_option maxRecDepth 16384
set_option maxHeartbeats 8000000

noncomputable section

namespace Cert.ReferenceIdeal.Val

open Cert.ReferenceIdeal Cert.ReferenceIdeal.Gen Cert.ReferenceIdeal.Value Cert.Spec Idealize.ShloMosaic.StableHlo
open Idealize.ShloMosaic Idealize.ShloMosaic.TcCoe
open Idealize.SL.Sem

variable (V : Valuation τ sig (Elt Ideal))

/-- The padding value. -/
theorem zero_word : (((0#32 : BitVec 32).toInt : ℝ) : EReal) = 0 := by simp

/-- A stack of maps padded by one zero on each side, at an index. -/
theorem pad_pd {n C H : ℕ} (v : (⟨4, ![n, C, H, H]⟩ : Shape).Idx → EReal) (z : S_.Idx → EReal) (hz : ∀ i, z i = 0)
    (hp : (⟨4, ![n, C, H, H]⟩ : Shape).Pads ![0, 0, 1, 1] ![0, 0, 1, 1] ![0, 0, 0, 0] ⟨4, ![n, C, H + 2, H + 2]⟩) (f : ℕ → Feat C)
    (h : ∀ (i : Fin n) (c : Fin C) (y x : Fin H), v (ix4 i c y x) = f i.val y.val x.val c) (i : Fin n) (c : Fin C) (y x : Fin (H + 2)) :
    pad (⟨4, ![n, C, H + 2, H + 2]⟩ : Shape) ![0, 0, 1, 1] ![0, 0, 1, 1] ![0, 0, 0, 0] v z hp h_S_ (ix4 i c y x) = pd H (f i.val) y.val x.val c := by
  unfold pad pd
  by_cases hb : 1 ≤ y.val ∧ y.val ≤ H ∧ 1 ≤ x.val ∧ x.val ≤ H
  · have hy := i.isLt
    have hx := c.isLt
    rw [if_pos hb]
    obtain ⟨h1, h2, h3, h4⟩ := hb
    rw [dif_pos]
    · refine Eq.trans (congrArg v ?_) (h i c ⟨y.val - 1, by omega⟩ ⟨x.val - 1, by omega⟩)
      funext k; apply Fin.ext; fin_cases k
      · exact Nat.div_one _
      · exact Nat.div_one _
      · exact Nat.div_one _
      · exact Nat.div_one _
    · intro a; fin_cases a
      · exact ⟨Nat.zero_le _, Nat.mod_one _, (Nat.div_one _).trans_lt hy⟩
      · exact ⟨Nat.zero_le _, Nat.mod_one _, (Nat.div_one _).trans_lt hx⟩
      · exact ⟨h1, Nat.mod_one _, (Nat.div_one _).trans_lt (show y.val - 1 < H by omega)⟩
      · exact ⟨h3, Nat.mod_one _, (Nat.div_one _).trans_lt (show x.val - 1 < H by omega)⟩
  · rw [if_neg hb, dif_neg]
    · exact hz _
    · intro ha
      refine hb ?_
      have p : 1 ≤ y.val ∧ (y.val - 1) % 1 = 0 ∧ (y.val - 1) / 1 < H := ha 2
      have q : 1 ≤ x.val ∧ (x.val - 1) % 1 = 0 ∧ (x.val - 1) / 1 < H := ha 3
      rw [Nat.div_one] at p q
      omega

/-- `main_v1` is `main_v0` with a border of zeros. -/
theorem pad1_at (f : ℕ → Feat 1) (h : ∀ (i : Fin 25) (c : Fin 1) (y x : Fin 224), V (Proc.devRef .tc main_v0) (ix4 i c y x) = f i.val y.val x.val c)
    (hz : V (Proc.devRef .tc main_c) = constantI S_ 32 0#32) (i : Fin 25) (c : Fin 1) (y x : Fin 226) :
    (after hostOps0_1 V (Proc.devRef .tc main_v1) : Vec Ideal S25x1x226x226 .f32) (ix4 i c y x) = pd 224 (f i.val) y.val x.val c := by
  have e : after hostOps0_1 V (Proc.devRef .tc main_v1) = pad S25x1x226x226 ![0, 0, 1, 1] ![0, 0, 1, 1] ![0, 0, 0, 0]
      (V (Proc.devRef .tc main_v0) : Vec Ideal S25x1x224x224 .f32) (sitofp .f32 (V (Proc.devRef .tc main_c) : IVec S_ 32) : FVec Ideal S_ .f32) pads_S25x1x224x224_S25x1x226x226_000_000_110_110 h_S_ := by
    after_results_simp
    rfl
  rw [e, hz]
  exact pad_pd _ _ (fun _ => zero_word) _ f h i c y x

/-- `main_v72` is `main_v71` with a border of zeros. -/
theorem pad3_at (f : ℕ → Feat 32) (h : ∀ (i : Fin 25) (c : Fin 32) (y x : Fin 56), V (Proc.devRef .tc main_v71) (ix4 i c y x) = f i.val y.val x.val c)
    (hz : V (Proc.devRef .tc main_c_3) = constantI S_ 32 0#32) (i : Fin 25) (c : Fin 32) (y x : Fin 58) :
    (after hostOps0_3 V (Proc.devRef .tc main_v72) : Vec Ideal S25x32x58x58 .f32) (ix4 i c y x) = pd 56 (f i.val) y.val x.val c := by
  have e : after hostOps0_3 V (Proc.devRef .tc main_v72) = pad S25x32x58x58 ![0, 0, 1, 1] ![0, 0, 1, 1] ![0, 0, 0, 0]
      (V (Proc.devRef .tc main_v71) : Vec Ideal S25x32x56x56 .f32) (sitofp .f32 (V (Proc.devRef .tc main_c_3) : IVec S_ 32) : FVec Ideal S_ .f32) pads_S25x32x56x56_S25x32x58x58_000_000_110_110 h_S_ := by
    after_results_simp
    rfl
  rw [e, hz]
  exact pad_pd _ _ (fun _ => zero_word) _ f h i c y x

/-- `main_v143` is `main_v142` with a border of zeros. -/
theorem pad5_at (f : ℕ → Feat 64) (h : ∀ (i : Fin 25) (c : Fin 64) (y x : Fin 28), V (Proc.devRef .tc main_v142) (ix4 i c y x) = f i.val y.val x.val c)
    (hz : V (Proc.devRef .tc main_c_8) = constantI S_ 32 0#32) (i : Fin 25) (c : Fin 64) (y x : Fin 30) :
    (after hostOps0_5 V (Proc.devRef .tc main_v143) : Vec Ideal S25x64x30x30 .f32) (ix4 i c y x) = pd 28 (f i.val) y.val x.val c := by
  have e : after hostOps0_5 V (Proc.devRef .tc main_v143) = pad S25x64x30x30 ![0, 0, 1, 1] ![0, 0, 1, 1] ![0, 0, 0, 0]
      (V (Proc.devRef .tc main_v142) : Vec Ideal S25x64x28x28 .f32) (sitofp .f32 (V (Proc.devRef .tc main_c_8) : IVec S_ 32) : FVec Ideal S_ .f32) pads_S25x64x28x28_S25x64x30x30_000_000_110_110 h_S_ := by
    after_results_simp
    rfl
  rw [e, hz]
  exact pad_pd _ _ (fun _ => zero_word) _ f h i c y x

/-- `main_v214` is `main_v213` with a border of zeros. -/
theorem pad7_at (f : ℕ → Feat 128) (h : ∀ (i : Fin 25) (c : Fin 128) (y x : Fin 14), V (Proc.devRef .tc main_v213) (ix4 i c y x) = f i.val y.val x.val c)
    (hz : V (Proc.devRef .tc main_c_13) = constantI S_ 32 0#32) (i : Fin 25) (c : Fin 128) (y x : Fin 16) :
    (after hostOps0_7 V (Proc.devRef .tc main_v214) : Vec Ideal S25x128x16x16 .f32) (ix4 i c y x) = pd 14 (f i.val) y.val x.val c := by
  have e : after hostOps0_7 V (Proc.devRef .tc main_v214) = pad S25x128x16x16 ![0, 0, 1, 1] ![0, 0, 1, 1] ![0, 0, 0, 0]
      (V (Proc.devRef .tc main_v213) : Vec Ideal S25x128x14x14 .f32) (sitofp .f32 (V (Proc.devRef .tc main_c_13) : IVec S_ 32) : FVec Ideal S_ .f32) pads_S25x128x14x14_S25x128x16x16_000_000_110_110 h_S_ := by
    after_results_simp
    rfl
  rw [e, hz]
  exact pad_pd _ _ (fun _ => zero_word) _ f h i c y x

/-- `main_v287` is `main_arg1` with a border of zeros. -/
theorem pad9_at (f : ℕ → Feat 1) (h : ∀ (i : Fin 15) (c : Fin 1) (y x : Fin 224), V (Proc.devRef .tc main_arg1) (ix4 i c y x) = f i.val y.val x.val c)
    (hz : V (Proc.devRef .tc main_c_18) = constantI S_ 32 0#32) (i : Fin 15) (c : Fin 1) (y x : Fin 226) :
    (after hostOps0_9 V (Proc.devRef .tc main_v287) : Vec Ideal S15x1x226x226 .f32) (ix4 i c y x) = pd 224 (f i.val) y.val x.val c := by
  have e : after hostOps0_9 V (Proc.devRef .tc main_v287) = pad S15x1x226x226 ![0, 0, 1, 1] ![0, 0, 1, 1] ![0, 0, 0, 0]
      (V (Proc.devRef .tc main_arg1) : Vec Ideal S15x1x224x224 .f32) (sitofp .f32 (V (Proc.devRef .tc main_c_18) : IVec S_ 32) : FVec Ideal S_ .f32) pads_S15x1x224x224_S15x1x226x226_000_000_110_110 h_S_ := by
    after_results_simp
    rfl
  rw [e, hz]
  exact pad_pd _ _ (fun _ => zero_word) _ f h i c y x

/-- `main_v358` is `main_v357` with a border of zeros. -/
theorem pad11_at (f : ℕ → Feat 32) (h : ∀ (i : Fin 15) (c : Fin 32) (y x : Fin 56), V (Proc.devRef .tc main_v357) (ix4 i c y x) = f i.val y.val x.val c)
    (hz : V (Proc.devRef .tc main_c_23) = constantI S_ 32 0#32) (i : Fin 15) (c : Fin 32) (y x : Fin 58) :
    (after hostOps0_11 V (Proc.devRef .tc main_v358) : Vec Ideal S15x32x58x58 .f32) (ix4 i c y x) = pd 56 (f i.val) y.val x.val c := by
  have e : after hostOps0_11 V (Proc.devRef .tc main_v358) = pad S15x32x58x58 ![0, 0, 1, 1] ![0, 0, 1, 1] ![0, 0, 0, 0]
      (V (Proc.devRef .tc main_v357) : Vec Ideal S15x32x56x56 .f32) (sitofp .f32 (V (Proc.devRef .tc main_c_23) : IVec S_ 32) : FVec Ideal S_ .f32) pads_S15x32x56x56_S15x32x58x58_000_000_110_110 h_S_ := by
    after_results_simp
    rfl
  rw [e, hz]
  exact pad_pd _ _ (fun _ => zero_word) _ f h i c y x

/-- `main_v429` is `main_v428` with a border of zeros. -/
theorem pad13_at (f : ℕ → Feat 64) (h : ∀ (i : Fin 15) (c : Fin 64) (y x : Fin 28), V (Proc.devRef .tc main_v428) (ix4 i c y x) = f i.val y.val x.val c)
    (hz : V (Proc.devRef .tc main_c_28) = constantI S_ 32 0#32) (i : Fin 15) (c : Fin 64) (y x : Fin 30) :
    (after hostOps0_13 V (Proc.devRef .tc main_v429) : Vec Ideal S15x64x30x30 .f32) (ix4 i c y x) = pd 28 (f i.val) y.val x.val c := by
  have e : after hostOps0_13 V (Proc.devRef .tc main_v429) = pad S15x64x30x30 ![0, 0, 1, 1] ![0, 0, 1, 1] ![0, 0, 0, 0]
      (V (Proc.devRef .tc main_v428) : Vec Ideal S15x64x28x28 .f32) (sitofp .f32 (V (Proc.devRef .tc main_c_28) : IVec S_ 32) : FVec Ideal S_ .f32) pads_S15x64x28x28_S15x64x30x30_000_000_110_110 h_S_ := by
    after_results_simp
    rfl
  rw [e, hz]
  exact pad_pd _ _ (fun _ => zero_word) _ f h i c y x

/-- `main_v500` is `main_v499` with a border of zeros. -/
theorem pad15_at (f : ℕ → Feat 128) (h : ∀ (i : Fin 15) (c : Fin 128) (y x : Fin 14), V (Proc.devRef .tc main_v499) (ix4 i c y x) = f i.val y.val x.val c)
    (hz : V (Proc.devRef .tc main_c_33) = constantI S_ 32 0#32) (i : Fin 15) (c : Fin 128) (y x : Fin 16) :
    (after hostOps0_15 V (Proc.devRef .tc main_v500) : Vec Ideal S15x128x16x16 .f32) (ix4 i c y x) = pd 14 (f i.val) y.val x.val c := by
  have e : after hostOps0_15 V (Proc.devRef .tc main_v500) = pad S15x128x16x16 ![0, 0, 1, 1] ![0, 0, 1, 1] ![0, 0, 0, 0]
      (V (Proc.devRef .tc main_v499) : Vec Ideal S15x128x14x14 .f32) (sitofp .f32 (V (Proc.devRef .tc main_c_33) : IVec S_ 32) : FVec Ideal S_ .f32) pads_S15x128x14x14_S15x128x16x16_000_000_110_110 h_S_ := by
    after_results_simp
    rfl
  rw [e, hz]
  exact pad_pd _ _ (fun _ => zero_word) _ f h i c y x

/-- The arguments. -/
abbrev argL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

/-- The arguments after `hostOps0`. -/
theorem kept0 : ∀ b ∈ argL, after hostOps0 V (Proc.devRef .tc b) = V (Proc.devRef .tc b) := fun b hb =>
  after_of_writes_sub hostOps0 V hostOps0_writes ((ListAll.forall_mem_of_all_decide (by decide +kernel) : ∀ b ∈ argL, b ∉ hostOps0_W) b hb)

/-- The arguments after `hostOps0_1`. -/
theorem kept1 : ∀ b ∈ argL, after hostOps0_1 V (Proc.devRef .tc b) = V (Proc.devRef .tc b) := fun b hb =>
  after_of_writes_sub hostOps0_1 V hostOps0_1_writes ((ListAll.forall_mem_of_all_decide (by decide +kernel) : ∀ b ∈ argL, b ∉ hostOps0_1_W) b hb)

/-- The arguments after `hostOps0_2`. -/
theorem kept2 : ∀ b ∈ argL, after hostOps0_2 V (Proc.devRef .tc b) = V (Proc.devRef .tc b) := fun b hb =>
  after_of_writes_sub hostOps0_2 V hostOps0_2_writes ((ListAll.forall_mem_of_all_decide (by decide +kernel) : ∀ b ∈ argL, b ∉ hostOps0_2_W) b hb)

/-- The arguments after `hostOps0_3`. -/
theorem kept3 : ∀ b ∈ argL, after hostOps0_3 V (Proc.devRef .tc b) = V (Proc.devRef .tc b) := fun b hb =>
  after_of_writes_sub hostOps0_3 V hostOps0_3_writes ((ListAll.forall_mem_of_all_decide (by decide +kernel) : ∀ b ∈ argL, b ∉ hostOps0_3_W) b hb)

/-- The arguments after `hostOps0_4`. -/
theorem kept4 : ∀ b ∈ argL, after hostOps0_4 V (Proc.devRef .tc b) = V (Proc.devRef .tc b) := fun b hb =>
  after_of_writes_sub hostOps0_4 V hostOps0_4_writes ((ListAll.forall_mem_of_all_decide (by decide +kernel) : ∀ b ∈ argL, b ∉ hostOps0_4_W) b hb)

/-- The arguments after `hostOps0_5`. -/
theorem kept5 : ∀ b ∈ argL, after hostOps0_5 V (Proc.devRef .tc b) = V (Proc.devRef .tc b) := fun b hb =>
  after_of_writes_sub hostOps0_5 V hostOps0_5_writes ((ListAll.forall_mem_of_all_decide (by decide +kernel) : ∀ b ∈ argL, b ∉ hostOps0_5_W) b hb)

/-- The arguments after `hostOps0_6`. -/
theorem kept6 : ∀ b ∈ argL, after hostOps0_6 V (Proc.devRef .tc b) = V (Proc.devRef .tc b) := fun b hb =>
  after_of_writes_sub hostOps0_6 V hostOps0_6_writes ((ListAll.forall_mem_of_all_decide (by decide +kernel) : ∀ b ∈ argL, b ∉ hostOps0_6_W) b hb)

/-- The arguments after `hostOps0_7`. -/
theorem kept7 : ∀ b ∈ argL, after hostOps0_7 V (Proc.devRef .tc b) = V (Proc.devRef .tc b) := fun b hb =>
  after_of_writes_sub hostOps0_7 V hostOps0_7_writes ((ListAll.forall_mem_of_all_decide (by decide +kernel) : ∀ b ∈ argL, b ∉ hostOps0_7_W) b hb)

/-- The arguments after `hostOps0_8`. -/
theorem kept8 : ∀ b ∈ argL, after hostOps0_8 V (Proc.devRef .tc b) = V (Proc.devRef .tc b) := fun b hb =>
  after_of_writes_sub hostOps0_8 V hostOps0_8_writes ((ListAll.forall_mem_of_all_decide (by decide +kernel) : ∀ b ∈ argL, b ∉ hostOps0_8_W) b hb)

/-- The arguments after `hostOps0_9`. -/
theorem kept9 : ∀ b ∈ argL, after hostOps0_9 V (Proc.devRef .tc b) = V (Proc.devRef .tc b) := fun b hb =>
  after_of_writes_sub hostOps0_9 V hostOps0_9_writes ((ListAll.forall_mem_of_all_decide (by decide +kernel) : ∀ b ∈ argL, b ∉ hostOps0_9_W) b hb)

/-- The arguments after `hostOps0_10`. -/
theorem kept10 : ∀ b ∈ argL, after hostOps0_10 V (Proc.devRef .tc b) = V (Proc.devRef .tc b) := fun b hb =>
  after_of_writes_sub hostOps0_10 V hostOps0_10_writes ((ListAll.forall_mem_of_all_decide (by decide +kernel) : ∀ b ∈ argL, b ∉ hostOps0_10_W) b hb)

/-- The arguments after `hostOps0_11`. -/
theorem kept11 : ∀ b ∈ argL, after hostOps0_11 V (Proc.devRef .tc b) = V (Proc.devRef .tc b) := fun b hb =>
  after_of_writes_sub hostOps0_11 V hostOps0_11_writes ((ListAll.forall_mem_of_all_decide (by decide +kernel) : ∀ b ∈ argL, b ∉ hostOps0_11_W) b hb)

/-- The arguments after `hostOps0_12`. -/
theorem kept12 : ∀ b ∈ argL, after hostOps0_12 V (Proc.devRef .tc b) = V (Proc.devRef .tc b) := fun b hb =>
  after_of_writes_sub hostOps0_12 V hostOps0_12_writes ((ListAll.forall_mem_of_all_decide (by decide +kernel) : ∀ b ∈ argL, b ∉ hostOps0_12_W) b hb)

/-- The arguments after `hostOps0_13`. -/
theorem kept13 : ∀ b ∈ argL, after hostOps0_13 V (Proc.devRef .tc b) = V (Proc.devRef .tc b) := fun b hb =>
  after_of_writes_sub hostOps0_13 V hostOps0_13_writes ((ListAll.forall_mem_of_all_decide (by decide +kernel) : ∀ b ∈ argL, b ∉ hostOps0_13_W) b hb)

/-- The arguments after `hostOps0_14`. -/
theorem kept14 : ∀ b ∈ argL, after hostOps0_14 V (Proc.devRef .tc b) = V (Proc.devRef .tc b) := fun b hb =>
  after_of_writes_sub hostOps0_14 V hostOps0_14_writes ((ListAll.forall_mem_of_all_decide (by decide +kernel) : ∀ b ∈ argL, b ∉ hostOps0_14_W) b hb)

/-- The arguments after `hostOps0_15`. -/
theorem kept15 : ∀ b ∈ argL, after hostOps0_15 V (Proc.devRef .tc b) = V (Proc.devRef .tc b) := fun b hb =>
  after_of_writes_sub hostOps0_15 V hostOps0_15_writes ((ListAll.forall_mem_of_all_decide (by decide +kernel) : ∀ b ∈ argL, b ∉ hostOps0_15_W) b hb)

/-- The arguments after `hostOps0_16`. -/
theorem kept16 : ∀ b ∈ argL, after hostOps0_16 V (Proc.devRef .tc b) = V (Proc.devRef .tc b) := fun b hb =>
  after_of_writes_sub hostOps0_16 V hostOps0_16_writes ((ListAll.forall_mem_of_all_decide (by decide +kernel) : ∀ b ∈ argL, b ∉ hostOps0_16_W) b hb)

end Cert.ReferenceIdeal.Val

end
-- ==== Proof.Val.PoolAt.lean ====
/- The 2x2 max pool of the reference at an index. -/
module

public import Idealize.ShloMosaic.Lib.Pointwise

@[expose] public section

set_option maxRecDepth 16384
set_option maxHeartbeats 8000000

noncomputable section

namespace Cert.Spec

open Idealize.ShloMosaic
open Idealize.ShloMosaic Idealize.ShloMosaic.TcCoe
open Idealize.SL.Sem

/-- The program's 2x2 max pool, a window maximum from minus infinity, at an index. -/
theorem reduceMax_at {B C H W H' W' : ℕ} (x : (⟨4, ![B, C, H, W]⟩ : Shape).Idx → EReal) (init : (⟨0, ![]⟩ : Shape).Idx → EReal)
    (h : Shape.ReduceWindows (s := ⟨4, ![B, C, H, W]⟩) ![1, 1, 2, 2] ![1, 1, 2, 2] ![0, 0, 0, 0] ![0, 0, 0, 0] ⟨4, ![B, C, H', W']⟩)
    (hu : 0 < (⟨0, ![]⟩ : Shape).numel) (i : Fin B) (o : Fin C) (y : Fin H') (z : Fin W') (hH : 2 * H' = H) (hW : 2 * W' = W)
    (hi : ∀ j, init j = ⊥) :
    Host.reduceWindow (s := ⟨4, ![B, C, H, W]⟩) (FloatOps.maximumf (F := Ideal) (φ := .f32)) ![1, 1, 2, 2] ![1, 1, 2, 2] ![0, 0, 0, 0] ![0, 0, 0, 0] x init h hu (ix4 i o y z)
      = max (max (x (ix4 i o ⟨2 * y.val, by omega⟩ ⟨2 * z.val, by omega⟩)) (x (ix4 i o ⟨2 * y.val + 1, by omega⟩ ⟨2 * z.val, by omega⟩)))
          (max (x (ix4 i o ⟨2 * y.val, by omega⟩ ⟨2 * z.val + 1, by omega⟩)) (x (ix4 i o ⟨2 * y.val + 1, by omega⟩ ⟨2 * z.val + 1, by omega⟩))) := by
  subst hH hW
  have hb := i.isLt; have hc := o.isLt; have hy := y.isLt; have hz := z.isLt
  have e4 : ∀ (f : EReal → EReal → EReal) (k : Fin (⟨4, ![1, 1, 2, 2]⟩ : Shape).numel → EReal) (v a0 a1 a2 a3 : EReal),
      k ⟨0, by decide⟩ = a0 → k ⟨1, by decide⟩ = a1 → k ⟨2, by decide⟩ = a2 → k ⟨3, by decide⟩ = a3 →
      (List.finRange (⟨4, ![1, 1, 2, 2]⟩ : Shape).numel).foldl (fun r n => f r (k n)) v = f (f (f (f v a0) a1) a2) a3 := by
    intro f k v a0 a1 a2 a3 h0 h1 h2 h3
    have hl : List.finRange (⟨4, ![1, 1, 2, 2]⟩ : Shape).numel = [⟨0, by decide⟩, ⟨1, by decide⟩, ⟨2, by decide⟩, ⟨3, by decide⟩] := by decide
    rw [hl]
    simp only [List.foldl, h0, h1, h2, h3]
  have k0 : (⟨4, ![1, 1, 2, 2]⟩ : Shape).rowMajor.symm ⟨0, by decide⟩ = ix4 0 0 0 0 := by decide
  have k1 : (⟨4, ![1, 1, 2, 2]⟩ : Shape).rowMajor.symm ⟨1, by decide⟩ = ix4 0 0 0 1 := by decide
  have k2 : (⟨4, ![1, 1, 2, 2]⟩ : Shape).rowMajor.symm ⟨2, by decide⟩ = ix4 0 0 1 0 := by decide
  have k3 : (⟨4, ![1, 1, 2, 2]⟩ : Shape).rowMajor.symm ⟨3, by decide⟩ = ix4 0 0 1 1 := by decide
  unfold Host.reduceWindow
  refine (e4 (FloatOps.maximumf (F := Ideal) (φ := .f32)) _ _ (x (ix4 i o ⟨2 * y.val, by omega⟩ ⟨2 * z.val, by omega⟩)) (x (ix4 i o ⟨2 * y.val, by omega⟩ ⟨2 * z.val + 1, by omega⟩))
    (x (ix4 i o ⟨2 * y.val + 1, by omega⟩ ⟨2 * z.val, by omega⟩)) (x (ix4 i o ⟨2 * y.val + 1, by omega⟩ ⟨2 * z.val + 1, by omega⟩)) ?_ ?_ ?_ ?_).trans ?_
  · refine (dif_pos (fun a => ?_)).trans (congrArg x (funext fun a => Fin.ext ?_))
    · dsimp only
      rw [k0]
      match a with
      | ⟨0, _⟩ => show 0 ≤ i.val * 1 + 0 ∧ i.val * 1 + 0 - 0 < B; omega
      | ⟨1, _⟩ => show 0 ≤ o.val * 1 + 0 ∧ o.val * 1 + 0 - 0 < C; omega
      | ⟨2, _⟩ => show 0 ≤ y.val * 2 + 0 ∧ y.val * 2 + 0 - 0 < 2 * H'; omega
      | ⟨3, _⟩ => show 0 ≤ z.val * 2 + 0 ∧ z.val * 2 + 0 - 0 < 2 * W'; omega
    · dsimp only
      rw [k0]
      match a with
      | ⟨0, _⟩ => show i.val * 1 + 0 - 0 = i.val; omega
      | ⟨1, _⟩ => show o.val * 1 + 0 - 0 = o.val; omega
      | ⟨2, _⟩ => show y.val * 2 + 0 - 0 = 2 * y.val; omega
      | ⟨3, _⟩ => show z.val * 2 + 0 - 0 = 2 * z.val; omega
  · refine (dif_pos (fun a => ?_)).trans (congrArg x (funext fun a => Fin.ext ?_))
    · dsimp only
      rw [k1]
      match a with
      | ⟨0, _⟩ => show 0 ≤ i.val * 1 + 0 ∧ i.val * 1 + 0 - 0 < B; omega
      | ⟨1, _⟩ => show 0 ≤ o.val * 1 + 0 ∧ o.val * 1 + 0 - 0 < C; omega
      | ⟨2, _⟩ => show 0 ≤ y.val * 2 + 0 ∧ y.val * 2 + 0 - 0 < 2 * H'; omega
      | ⟨3, _⟩ => show 0 ≤ z.val * 2 + 1 ∧ z.val * 2 + 1 - 0 < 2 * W'; omega
    · dsimp only
      rw [k1]
      match a with
      | ⟨0, _⟩ => show i.val * 1 + 0 - 0 = i.val; omega
      | ⟨1, _⟩ => show o.val * 1 + 0 - 0 = o.val; omega
      | ⟨2, _⟩ => show y.val * 2 + 0 - 0 = 2 * y.val; omega
      | ⟨3, _⟩ => show z.val * 2 + 1 - 0 = 2 * z.val + 1; omega
  · refine (dif_pos (fun a => ?_)).trans (congrArg x (funext fun a => Fin.ext ?_))
    · dsimp only
      rw [k2]
      match a with
      | ⟨0, _⟩ => show 0 ≤ i.val * 1 + 0 ∧ i.val * 1 + 0 - 0 < B; omega
      | ⟨1, _⟩ => show 0 ≤ o.val * 1 + 0 ∧ o.val * 1 + 0 - 0 < C; omega
      | ⟨2, _⟩ => show 0 ≤ y.val * 2 + 1 ∧ y.val * 2 + 1 - 0 < 2 * H'; omega
      | ⟨3, _⟩ => show 0 ≤ z.val * 2 + 0 ∧ z.val * 2 + 0 - 0 < 2 * W'; omega
    · dsimp only
      rw [k2]
      match a with
      | ⟨0, _⟩ => show i.val * 1 + 0 - 0 = i.val; omega
      | ⟨1, _⟩ => show o.val * 1 + 0 - 0 = o.val; omega
      | ⟨2, _⟩ => show y.val * 2 + 1 - 0 = 2 * y.val + 1; omega
      | ⟨3, _⟩ => show z.val * 2 + 0 - 0 = 2 * z.val; omega
  · refine (dif_pos (fun a => ?_)).trans (congrArg x (funext fun a => Fin.ext ?_))
    · dsimp only
      rw [k3]
      match a with
      | ⟨0, _⟩ => show 0 ≤ i.val * 1 + 0 ∧ i.val * 1 + 0 - 0 < B; omega
      | ⟨1, _⟩ => show 0 ≤ o.val * 1 + 0 ∧ o.val * 1 + 0 - 0 < C; omega
      | ⟨2, _⟩ => show 0 ≤ y.val * 2 + 1 ∧ y.val * 2 + 1 - 0 < 2 * H'; omega
      | ⟨3, _⟩ => show 0 ≤ z.val * 2 + 1 ∧ z.val * 2 + 1 - 0 < 2 * W'; omega
    · dsimp only
      rw [k3]
      match a with
      | ⟨0, _⟩ => show i.val * 1 + 0 - 0 = i.val; omega
      | ⟨1, _⟩ => show o.val * 1 + 0 - 0 = o.val; omega
      | ⟨2, _⟩ => show y.val * 2 + 1 - 0 = 2 * y.val + 1; omega
      | ⟨3, _⟩ => show z.val * 2 + 1 - 0 = 2 * z.val + 1; omega
  rw [hi]
  change max (max (max (max ⊥ _) _) _) _ = _
  rw [bot_sup_eq, max_assoc, max_assoc, max_assoc]
  exact congrArg _ (max_left_comm _ _ _)

end Cert.Spec

end
-- ==== Proof.Val.RefEnc.lean ====
/- The reference encoder's blocks at an index. -/
module

public import proofs.«01_k».proof.Proof.Gen.ReferenceIdeal.Run
public import proofs.«01_k».proof.Proof.Val.Spec
public import proofs.«01_k».proof.Proof.Val.PoolAt

@[expose] public section

set_option maxRecDepth 16384
set_option maxHeartbeats 8000000

noncomputable section

namespace Cert.ReferenceIdeal.Val

open Cert.ReferenceIdeal Cert.ReferenceIdeal.Gen Cert.Spec Idealize.ShloMosaic.StableHlo
open Idealize.ShloMosaic Idealize.ShloMosaic.TcCoe
open Idealize.SL.Sem

variable (V : Valuation τ sig (Elt Ideal))

set_option maxHeartbeats 40000000 in
/-- Block 1 of the support images at an index, from its padded input. -/
theorem RS1 (P : ℕ → Feat 1) (hP : ∀ (i : Fin 25) (c : Fin 1) (y x : Fin 226), V (Proc.devRef .tc main_v1) (ix4 i c y x) = P i.val y.val x.val c)
    (i : Fin 25) (o : Fin 32) (y x : Fin 56) :
    (after hostOps0_2 V (Proc.devRef .tc main_v71) : Vec Ideal S25x32x56x56 .f32) (ix4 i o y x)
      = mpool (actR (conv2 (P i.val) (wOf (V (Proc.devRef .tc main_arg2)))) (fun o => V (Proc.devRef .tc main_arg3) (ix1 o))
          (fun o => V (Proc.devRef .tc main_arg10) (ix1 o)) (fun o => V (Proc.devRef .tc main_arg11) (ix1 o))) y.val x.val o := by
  after_results_simp
  rw [reduceMax_at _ _ _ _ i o y x (by norm_num) (by norm_num) (fun j => by pointwise <;> first | rfl | exact ofBits_bot)]
  unfold mpool actR conv2 conv tap wOf bnc
  pointwise
  simp only [hP]
  refine max_cong (max_cong ?_ ?_) (max_cong ?_ ?_)
  all_goals refine max_cong (add_cong (mul_cong (add_cong ?_ rfl) rfl) rfl) (by first | rfl | simp)
  all_goals refine add_cong (add_cong (add_cong (add_cong (add_cong (add_cong (add_cong (add_cong ?_ ?_) ?_) ?_) ?_) ?_) ?_) ?_) ?_
  all_goals refine Finset.sum_congr rfl fun c _ => ?_
  all_goals obtain rfl : c = 0 := Subsingleton.elim _ _
  all_goals exact mul_cong' rfl (feat_cong _ (by omega) (by omega) rfl)

set_option maxHeartbeats 40000000 in
/-- Block 2 of the support images at an index, from its padded input. -/
theorem RS2 (P : ℕ → Feat 32) (hP : ∀ (i : Fin 25) (c : Fin 32) (y x : Fin 58), V (Proc.devRef .tc main_v72) (ix4 i c y x) = P i.val y.val x.val c)
    (i : Fin 25) (o : Fin 64) (y x : Fin 28) :
    (after hostOps0_4 V (Proc.devRef .tc main_v142) : Vec Ideal S25x64x28x28 .f32) (ix4 i o y x)
      = mpool (actR (conv (P i.val) (wOf (V (Proc.devRef .tc main_arg4)))) (fun o => V (Proc.devRef .tc main_arg5) (ix1 o))
          (fun o => V (Proc.devRef .tc main_arg12) (ix1 o)) (fun o => V (Proc.devRef .tc main_arg13) (ix1 o))) y.val x.val o := by
  after_results_simp
  rw [reduceMax_at _ _ _ _ i o y x (by norm_num) (by norm_num) (fun j => by pointwise <;> first | rfl | exact ofBits_bot)]
  unfold mpool actR conv tap wOf bnc
  pointwise
  simp only [hP]
  refine max_cong (max_cong ?_ ?_) (max_cong ?_ ?_)
  all_goals refine max_cong (add_cong (mul_cong (add_cong ?_ rfl) rfl) rfl) (by first | rfl | simp)
  all_goals refine add_cong (add_cong (add_cong (add_cong (add_cong (add_cong (add_cong (add_cong ?_ ?_) ?_) ?_) ?_) ?_) ?_) ?_) ?_
  all_goals refine Finset.sum_congr rfl fun c _ => ?_
  all_goals skip
  all_goals exact mul_cong' rfl (feat_cong _ (by omega) (by omega) rfl)

set_option maxHeartbeats 40000000 in
/-- Block 3 of the support images at an index, from its padded input. -/
theorem RS3 (P : ℕ → Feat 64) (hP : ∀ (i : Fin 25) (c : Fin 64) (y x : Fin 30), V (Proc.devRef .tc main_v143) (ix4 i c y x) = P i.val y.val x.val c)
    (i : Fin 25) (o : Fin 128) (y x : Fin 14) :
    (after hostOps0_6 V (Proc.devRef .tc main_v213) : Vec Ideal S25x128x14x14 .f32) (ix4 i o y x)
      = mpool (actR (conv (P i.val) (wOf (V (Proc.devRef .tc main_arg6)))) (fun o => V (Proc.devRef .tc main_arg7) (ix1 o))
          (fun o => V (Proc.devRef .tc main_arg14) (ix1 o)) (fun o => V (Proc.devRef .tc main_arg15) (ix1 o))) y.val x.val o := by
  after_results_simp
  rw [reduceMax_at _ _ _ _ i o y x (by norm_num) (by norm_num) (fun j => by pointwise <;> first | rfl | exact ofBits_bot)]
  unfold mpool actR conv tap wOf bnc
  pointwise
  simp only [hP]
  refine max_cong (max_cong ?_ ?_) (max_cong ?_ ?_)
  all_goals refine max_cong (add_cong (mul_cong (add_cong ?_ rfl) rfl) rfl) (by first | rfl | simp)
  all_goals refine add_cong (add_cong (add_cong (add_cong (add_cong (add_cong (add_cong (add_cong ?_ ?_) ?_) ?_) ?_) ?_) ?_) ?_) ?_
  all_goals refine Finset.sum_congr rfl fun c _ => ?_
  all_goals skip
  all_goals exact mul_cong' rfl (feat_cong _ (by omega) (by omega) rfl)

set_option maxHeartbeats 40000000 in
/-- Block 4 of the support images at an index, from its padded input. -/
theorem RS4 (P : ℕ → Feat 128) (hP : ∀ (i : Fin 25) (c : Fin 128) (y x : Fin 16), V (Proc.devRef .tc main_v214) (ix4 i c y x) = P i.val y.val x.val c)
    (i : Fin 25) (o : Fin 256) (y x : Fin 7) :
    (after hostOps0_8 V (Proc.devRef .tc main_v284) : Vec Ideal S25x256x7x7 .f32) (ix4 i o y x)
      = mpool (actR (conv (P i.val) (wOf (V (Proc.devRef .tc main_arg8)))) (fun o => V (Proc.devRef .tc main_arg9) (ix1 o))
          (fun o => V (Proc.devRef .tc main_arg16) (ix1 o)) (fun o => V (Proc.devRef .tc main_arg17) (ix1 o))) y.val x.val o := by
  after_results_simp
  rw [reduceMax_at _ _ _ _ i o y x (by norm_num) (by norm_num) (fun j => by pointwise <;> first | rfl | exact ofBits_bot)]
  unfold mpool actR conv tap wOf bnc
  pointwise
  simp only [hP]
  refine max_cong (max_cong ?_ ?_) (max_cong ?_ ?_)
  all_goals refine max_cong (add_cong (mul_cong (add_cong ?_ rfl) rfl) rfl) (by first | rfl | simp)
  all_goals refine add_cong (add_cong (add_cong (add_cong (add_cong (add_cong (add_cong (add_cong ?_ ?_) ?_) ?_) ?_) ?_) ?_) ?_) ?_
  all_goals refine Finset.sum_congr rfl fun c _ => ?_
  all_goals skip
  all_goals exact mul_cong' rfl (feat_cong _ (by omega) (by omega) rfl)

set_option maxHeartbeats 40000000 in
/-- Block 1 of the query images at an index, from its padded input. -/
theorem RQ1 (P : ℕ → Feat 1) (hP : ∀ (i : Fin 15) (c : Fin 1) (y x : Fin 226), V (Proc.devRef .tc main_v287) (ix4 i c y x) = P i.val y.val x.val c)
    (i : Fin 15) (o : Fin 32) (y x : Fin 56) :
    (after hostOps0_10 V (Proc.devRef .tc main_v357) : Vec Ideal S15x32x56x56 .f32) (ix4 i o y x)
      = mpool (actR (conv2 (P i.val) (wOf (V (Proc.devRef .tc main_arg2)))) (fun o => V (Proc.devRef .tc main_arg3) (ix1 o))
          (fun o => V (Proc.devRef .tc main_arg10) (ix1 o)) (fun o => V (Proc.devRef .tc main_arg11) (ix1 o))) y.val x.val o := by
  after_results_simp
  rw [reduceMax_at _ _ _ _ i o y x (by norm_num) (by norm_num) (fun j => by pointwise <;> first | rfl | exact ofBits_bot)]
  unfold mpool actR conv2 conv tap wOf bnc
  pointwise
  simp only [hP]
  refine max_cong (max_cong ?_ ?_) (max_cong ?_ ?_)
  all_goals refine max_cong (add_cong (mul_cong (add_cong ?_ rfl) rfl) rfl) (by first | rfl | simp)
  all_goals refine add_cong (add_cong (add_cong (add_cong (add_cong (add_cong (add_cong (add_cong ?_ ?_) ?_) ?_) ?_) ?_) ?_) ?_) ?_
  all_goals refine Finset.sum_congr rfl fun c _ => ?_
  all_goals obtain rfl : c = 0 := Subsingleton.elim _ _
  all_goals exact mul_cong' rfl (feat_cong _ (by omega) (by omega) rfl)

set_option maxHeartbeats 40000000 in
/-- Block 2 of the query images at an index, from its padded input. -/
theorem RQ2 (P : ℕ → Feat 32) (hP : ∀ (i : Fin 15) (c : Fin 32) (y x : Fin 58), V (Proc.devRef .tc main_v358) (ix4 i c y x) = P i.val y.val x.val c)
    (i : Fin 15) (o : Fin 64) (y x : Fin 28) :
    (after hostOps0_12 V (Proc.devRef .tc main_v428) : Vec Ideal S15x64x28x28 .f32) (ix4 i o y x)
      = mpool (actR (conv (P i.val) (wOf (V (Proc.devRef .tc main_arg4)))) (fun o => V (Proc.devRef .tc main_arg5) (ix1 o))
          (fun o => V (Proc.devRef .tc main_arg12) (ix1 o)) (fun o => V (Proc.devRef .tc main_arg13) (ix1 o))) y.val x.val o := by
  after_results_simp
  rw [reduceMax_at _ _ _ _ i o y x (by norm_num) (by norm_num) (fun j => by pointwise <;> first | rfl | exact ofBits_bot)]
  unfold mpool actR conv tap wOf bnc
  pointwise
  simp only [hP]
  refine max_cong (max_cong ?_ ?_) (max_cong ?_ ?_)
  all_goals refine max_cong (add_cong (mul_cong (add_cong ?_ rfl) rfl) rfl) (by first | rfl | simp)
  all_goals refine add_cong (add_cong (add_cong (add_cong (add_cong (add_cong (add_cong (add_cong ?_ ?_) ?_) ?_) ?_) ?_) ?_) ?_) ?_
  all_goals refine Finset.sum_congr rfl fun c _ => ?_
  all_goals skip
  all_goals exact mul_cong' rfl (feat_cong _ (by omega) (by omega) rfl)

set_option maxHeartbeats 40000000 in
/-- Block 3 of the query images at an index, from its padded input. -/
theorem RQ3 (P : ℕ → Feat 64) (hP : ∀ (i : Fin 15) (c : Fin 64) (y x : Fin 30), V (Proc.devRef .tc main_v429) (ix4 i c y x) = P i.val y.val x.val c)
    (i : Fin 15) (o : Fin 128) (y x : Fin 14) :
    (after hostOps0_14 V (Proc.devRef .tc main_v499) : Vec Ideal S15x128x14x14 .f32) (ix4 i o y x)
      = mpool (actR (conv (P i.val) (wOf (V (Proc.devRef .tc main_arg6)))) (fun o => V (Proc.devRef .tc main_arg7) (ix1 o))
          (fun o => V (Proc.devRef .tc main_arg14) (ix1 o)) (fun o => V (Proc.devRef .tc main_arg15) (ix1 o))) y.val x.val o := by
  after_results_simp
  rw [reduceMax_at _ _ _ _ i o y x (by norm_num) (by norm_num) (fun j => by pointwise <;> first | rfl | exact ofBits_bot)]
  unfold mpool actR conv tap wOf bnc
  pointwise
  simp only [hP]
  refine max_cong (max_cong ?_ ?_) (max_cong ?_ ?_)
  all_goals refine max_cong (add_cong (mul_cong (add_cong ?_ rfl) rfl) rfl) (by first | rfl | simp)
  all_goals refine add_cong (add_cong (add_cong (add_cong (add_cong (add_cong (add_cong (add_cong ?_ ?_) ?_) ?_) ?_) ?_) ?_) ?_) ?_
  all_goals refine Finset.sum_congr rfl fun c _ => ?_
  all_goals skip
  all_goals exact mul_cong' rfl (feat_cong _ (by omega) (by omega) rfl)

set_option maxHeartbeats 40000000 in
/-- Block 4 of the query images at an index, from its padded input. -/
theorem RQ4 (P : ℕ → Feat 128) (hP : ∀ (i : Fin 15) (c : Fin 128) (y x : Fin 16), V (Proc.devRef .tc main_v500) (ix4 i c y x) = P i.val y.val x.val c)
    (i : Fin 15) (o : Fin 256) (y x : Fin 7) :
    (after hostOps0_16 V (Proc.devRef .tc main_v570) : Vec Ideal S15x256x7x7 .f32) (ix4 i o y x)
      = mpool (actR (conv (P i.val) (wOf (V (Proc.devRef .tc main_arg8)))) (fun o => V (Proc.devRef .tc main_arg9) (ix1 o))
          (fun o => V (Proc.devRef .tc main_arg16) (ix1 o)) (fun o => V (Proc.devRef .tc main_arg17) (ix1 o))) y.val x.val o := by
  after_results_simp
  rw [reduceMax_at _ _ _ _ i o y x (by norm_num) (by norm_num) (fun j => by pointwise <;> first | rfl | exact ofBits_bot)]
  unfold mpool actR conv tap wOf bnc
  pointwise
  simp only [hP]
  refine max_cong (max_cong ?_ ?_) (max_cong ?_ ?_)
  all_goals refine max_cong (add_cong (mul_cong (add_cong ?_ rfl) rfl) rfl) (by first | rfl | simp)
  all_goals refine add_cong (add_cong (add_cong (add_cong (add_cong (add_cong (add_cong (add_cong ?_ ?_) ?_) ?_) ?_) ?_) ?_) ?_) ?_
  all_goals refine Finset.sum_congr rfl fun c _ => ?_
  all_goals skip
  all_goals exact mul_cong' rfl (feat_cong _ (by omega) (by omega) rfl)

end Cert.ReferenceIdeal.Val

end
-- ==== Proof.Val.RefChain.lean ====
/- The reference's features, block after block, from the arguments. -/
module

public import proofs.«01_k».proof.Proof.Val.RefPads
public import proofs.«01_k».proof.Proof.Val.RefEnc

@[expose] public section

set_option maxRecDepth 16384
set_option maxHeartbeats 8000000

noncomputable section

namespace Cert.ReferenceIdeal.Val

open Cert.ReferenceIdeal Cert.ReferenceIdeal.Gen Cert.ReferenceIdeal.Value Cert.Spec Idealize.ShloMosaic.StableHlo
open Idealize.ShloMosaic Idealize.ShloMosaic.TcCoe
open Idealize.SL.Sem

variable (V : Valuation τ sig (Elt Ideal))

/-- The arguments a set of contents holds. -/
def argsV : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)
  a20 := V (Proc.devRef .tc main_arg20)
  a21 := V (Proc.devRef .tc main_arg21)
  a22 := V (Proc.devRef .tc main_arg22)
  a23 := V (Proc.devRef .tc main_arg23)
  a24 := V (Proc.devRef .tc main_arg24)
  a25 := V (Proc.devRef .tc main_arg25)
  a26 := V (Proc.devRef .tc main_arg26)
  a27 := V (Proc.devRef .tc main_arg27)
  a28 := V (Proc.devRef .tc main_arg28)
  a29 := V (Proc.devRef .tc main_arg29)

/-- The contents after `hostOps0`. -/
abbrev X0 : Valuation τ sig (Elt Ideal) := after hostOps0 V
/-- The arguments there. -/
theorem keptX0 : ∀ b ∈ argL, X0 V (Proc.devRef .tc b) = V (Proc.devRef .tc b) := kept0 V

/-- The contents after `hostOps0_1`. -/
abbrev X1 : Valuation τ sig (Elt Ideal) := after hostOps0_1 (X0 V)
/-- The arguments there. -/
theorem keptX1 : ∀ b ∈ argL, X1 V (Proc.devRef .tc b) = V (Proc.devRef .tc b) := fun b hb => (kept1 _ b hb).trans (keptX0 V b hb)

/-- The contents after `hostOps0_2`. -/
abbrev X2 : Valuation τ sig (Elt Ideal) := after hostOps0_2 (X1 V)
/-- The arguments there. -/
theorem keptX2 : ∀ b ∈ argL, X2 V (Proc.devRef .tc b) = V (Proc.devRef .tc b) := fun b hb => (kept2 _ b hb).trans (keptX1 V b hb)

/-- The contents after `hostOps0_3`. -/
abbrev X3 : Valuation τ sig (Elt Ideal) := after hostOps0_3 (X2 V)
/-- The arguments there. -/
theorem keptX3 : ∀ b ∈ argL, X3 V (Proc.devRef .tc b) = V (Proc.devRef .tc b) := fun b hb => (kept3 _ b hb).trans (keptX2 V b hb)

/-- The contents after `hostOps0_4`. -/
abbrev X4 : Valuation τ sig (Elt Ideal) := after hostOps0_4 (X3 V)
/-- The arguments there. -/
theorem keptX4 : ∀ b ∈ argL, X4 V (Proc.devRef .tc b) = V (Proc.devRef .tc b) := fun b hb => (kept4 _ b hb).trans (keptX3 V b hb)

/-- The contents after `hostOps0_5`. -/
abbrev X5 : Valuation τ sig (Elt Ideal) := after hostOps0_5 (X4 V)
/-- The arguments there. -/
theorem keptX5 : ∀ b ∈ argL, X5 V (Proc.devRef .tc b) = V (Proc.devRef .tc b) := fun b hb => (kept5 _ b hb).trans (keptX4 V b hb)

/-- The contents after `hostOps0_6`. -/
abbrev X6 : Valuation τ sig (Elt Ideal) := after hostOps0_6 (X5 V)
/-- The arguments there. -/
theorem keptX6 : ∀ b ∈ argL, X6 V (Proc.devRef .tc b) = V (Proc.devRef .tc b) := fun b hb => (kept6 _ b hb).trans (keptX5 V b hb)

/-- The contents after `hostOps0_7`. -/
abbrev X7 : Valuation τ sig (Elt Ideal) := after hostOps0_7 (X6 V)
/-- The arguments there. -/
theorem keptX7 : ∀ b ∈ argL, X7 V (Proc.devRef .tc b) = V (Proc.devRef .tc b) := fun b hb => (kept7 _ b hb).trans (keptX6 V b hb)

/-- The contents after `hostOps0_8`. -/
abbrev X8 : Valuation τ sig (Elt Ideal) := after hostOps0_8 (X7 V)
/-- The arguments there. -/
theorem keptX8 : ∀ b ∈ argL, X8 V (Proc.devRef .tc b) = V (Proc.devRef .tc b) := fun b hb => (kept8 _ b hb).trans (keptX7 V b hb)

/-- The contents after `hostOps0_9`. -/
abbrev X9 : Valuation τ sig (Elt Ideal) := after hostOps0_9 (X8 V)
/-- The arguments there. -/
theorem keptX9 : ∀ b ∈ argL, X9 V (Proc.devRef .tc b) = V (Proc.devRef .tc b) := fun b hb => (kept9 _ b hb).trans (keptX8 V b hb)

/-- The contents after `hostOps0_10`. -/
abbrev X10 : Valuation τ sig (Elt Ideal) := after hostOps0_10 (X9 V)
/-- The arguments there. -/
theorem keptX10 : ∀ b ∈ argL, X10 V (Proc.devRef .tc b) = V (Proc.devRef .tc b) := fun b hb => (kept10 _ b hb).trans (keptX9 V b hb)

/-- The contents after `hostOps0_11`. -/
abbrev X11 : Valuation τ sig (Elt Ideal) := after hostOps0_11 (X10 V)
/-- The arguments there. -/
theorem keptX11 : ∀ b ∈ argL, X11 V (Proc.devRef .tc b) = V (Proc.devRef .tc b) := fun b hb => (kept11 _ b hb).trans (keptX10 V b hb)

/-- The contents after `hostOps0_12`. -/
abbrev X12 : Valuation τ sig (Elt Ideal) := after hostOps0_12 (X11 V)
/-- The arguments there. -/
theorem keptX12 : ∀ b ∈ argL, X12 V (Proc.devRef .tc b) = V (Proc.devRef .tc b) := fun b hb => (kept12 _ b hb).trans (keptX11 V b hb)

/-- The contents after `hostOps0_13`. -/
abbrev X13 : Valuation τ sig (Elt Ideal) := after hostOps0_13 (X12 V)
/-- The arguments there. -/
theorem keptX13 : ∀ b ∈ argL, X13 V (Proc.devRef .tc b) = V (Proc.devRef .tc b) := fun b hb => (kept13 _ b hb).trans (keptX12 V b hb)

/-- The contents after `hostOps0_14`. -/
abbrev X14 : Valuation τ sig (Elt Ideal) := after hostOps0_14 (X13 V)
/-- The arguments there. -/
theorem keptX14 : ∀ b ∈ argL, X14 V (Proc.devRef .tc b) = V (Proc.devRef .tc b) := fun b hb => (kept14 _ b hb).trans (keptX13 V b hb)

/-- The contents after `hostOps0_15`. -/
abbrev X15 : Valuation τ sig (Elt Ideal) := after hostOps0_15 (X14 V)
/-- The arguments there. -/
theorem keptX15 : ∀ b ∈ argL, X15 V (Proc.devRef .tc b) = V (Proc.devRef .tc b) := fun b hb => (kept15 _ b hb).trans (keptX14 V b hb)

/-- The padding value `main_c`. -/
theorem cst0 : after hostOps0 V (Proc.devRef .tc main_c) = constantI S_ 32 0#32 := by
  after_reads_simp

/-- The padding value `main_c_3`. -/
theorem cst2 : after hostOps0_2 V (Proc.devRef .tc main_c_3) = constantI S_ 32 0#32 := by
  after_reads_simp

/-- The padding value `main_c_8`. -/
theorem cst4 : after hostOps0_4 V (Proc.devRef .tc main_c_8) = constantI S_ 32 0#32 := by
  after_reads_simp

/-- The padding value `main_c_13`. -/
theorem cst6 : after hostOps0_6 V (Proc.devRef .tc main_c_13) = constantI S_ 32 0#32 := by
  after_reads_simp

/-- The padding value `main_c_18`. -/
theorem cst8 : after hostOps0_8 V (Proc.devRef .tc main_c_18) = constantI S_ 32 0#32 := by
  after_reads_simp

/-- The padding value `main_c_23`. -/
theorem cst10 : after hostOps0_10 V (Proc.devRef .tc main_c_23) = constantI S_ 32 0#32 := by
  after_reads_simp

/-- The padding value `main_c_28`. -/
theorem cst12 : after hostOps0_12 V (Proc.devRef .tc main_c_28) = constantI S_ 32 0#32 := by
  after_reads_simp

/-- The padding value `main_c_33`. -/
theorem cst14 : after hostOps0_14 V (Proc.devRef .tc main_c_33) = constantI S_ 32 0#32 := by
  after_reads_simp

/-- The support images as the first list lays them out. -/
theorem v0_at (i : Fin 25) (c : Fin 1) (y x : Fin 224) : (X0 V (Proc.devRef .tc main_v0) : Vec Ideal S25x1x224x224 .f32) (ix4 i c y x) = img (argsV V) i.val y.val x.val c := by
  have e : X0 V (Proc.devRef .tc main_v0) = shapeCast S25x1x224x224 (V (Proc.devRef .tc main_arg0) : Vec Ideal S5x5x1x224x224 .f32) shapeCasts_S5x5x1x224x224_S25x1x224x224 := by
    after_results_simp
    rfl
  rw [e]
  unfold img argsV
  rw [if_pos i.isLt]
  generalize (V (Proc.devRef .tc main_arg0) : Vec Ideal S5x5x1x224x224 .f32) = w
  pointwise
  refine congrArg w ?_
  ext k; fin_cases k <;> simp [Fin.ofNat] <;> omega

/-- The query images where the fifth padding finds them. -/
theorem q0_at (i : Fin 15) (c : Fin 1) (y x : Fin 224) : (X8 V (Proc.devRef .tc main_arg1) : Vec Ideal S15x1x224x224 .f32) (ix4 i c y x) = img (argsV V) (25 + i.val) y.val x.val c := by
  rw [keptX8 V main_arg1 (by decide +kernel)]
  unfold img argsV
  rw [if_neg (by omega)]
  refine congrArg (V (Proc.devRef .tc main_arg1) : Vec Ideal S15x1x224x224 .f32) ?_
  ext k; fin_cases k <;> simp [Fin.ofNat] <;> omega

/-- Support features after block 1. -/
theorem s1_at (i : Fin 25) (o : Fin 32) (y x : Fin 56) : (X2 V (Proc.devRef .tc main_v71) : Vec Ideal S25x32x56x56 .f32) (ix4 i o y x) = R1 (argsV V) i.val y.val x.val o := by
  refine (RS1 (X1 V) (fun i => pd 224 (img (argsV V) i)) (pad1_at (X0 V) (fun i => img (argsV V) i) (v0_at V) (cst0 V)) i o y x).trans ?_
  simp only [keptX1 V main_arg2 (by decide +kernel), keptX1 V main_arg3 (by decide +kernel), keptX1 V main_arg10 (by decide +kernel), keptX1 V main_arg11 (by decide +kernel)]
  rfl

/-- Support features after block 2. -/
theorem s2_at (i : Fin 25) (o : Fin 64) (y x : Fin 28) : (X4 V (Proc.devRef .tc main_v142) : Vec Ideal S25x64x28x28 .f32) (ix4 i o y x) = R2 (argsV V) i.val y.val x.val o := by
  refine (RS2 (X3 V) (fun i => pd 56 (R1 (argsV V) i)) (pad3_at (X2 V) (fun i => R1 (argsV V) i) (s1_at V) (cst2 (X1 V))) i o y x).trans ?_
  simp only [keptX3 V main_arg4 (by decide +kernel), keptX3 V main_arg5 (by decide +kernel), keptX3 V main_arg12 (by decide +kernel), keptX3 V main_arg13 (by decide +kernel)]
  rfl

/-- Support features after block 3. -/
theorem s3_at (i : Fin 25) (o : Fin 128) (y x : Fin 14) : (X6 V (Proc.devRef .tc main_v213) : Vec Ideal S25x128x14x14 .f32) (ix4 i o y x) = R3 (argsV V) i.val y.val x.val o := by
  refine (RS3 (X5 V) (fun i => pd 28 (R2 (argsV V) i)) (pad5_at (X4 V) (fun i => R2 (argsV V) i) (s2_at V) (cst4 (X3 V))) i o y x).trans ?_
  simp only [keptX5 V main_arg6 (by decide +kernel), keptX5 V main_arg7 (by decide +kernel), keptX5 V main_arg14 (by decide +kernel), keptX5 V main_arg15 (by decide +kernel)]
  rfl

/-- Support features after block 4. -/
theorem s4_at (i : Fin 25) (o : Fin 256) (y x : Fin 7) : (X8 V (Proc.devRef .tc main_v284) : Vec Ideal S25x256x7x7 .f32) (ix4 i o y x) = R4 (argsV V) i.val y.val x.val o := by
  refine (RS4 (X7 V) (fun i => pd 14 (R3 (argsV V) i)) (pad7_at (X6 V) (fun i => R3 (argsV V) i) (s3_at V) (cst6 (X5 V))) i o y x).trans ?_
  simp only [keptX7 V main_arg8 (by decide +kernel), keptX7 V main_arg9 (by decide +kernel), keptX7 V main_arg16 (by decide +kernel), keptX7 V main_arg17 (by decide +kernel)]
  rfl

/-- Query features after block 1. -/
theorem q1_at (i : Fin 15) (o : Fin 32) (y x : Fin 56) : (X10 V (Proc.devRef .tc main_v357) : Vec Ideal S15x32x56x56 .f32) (ix4 i o y x) = R1 (argsV V) (25 + i.val) y.val x.val o := by
  refine (RQ1 (X9 V) (fun i => pd 224 (img (argsV V) (25 + i))) (pad9_at (X8 V) (fun i => img (argsV V) (25 + i)) (q0_at V) (cst8 (X7 V))) i o y x).trans ?_
  simp only [keptX9 V main_arg2 (by decide +kernel), keptX9 V main_arg3 (by decide +kernel), keptX9 V main_arg10 (by decide +kernel), keptX9 V main_arg11 (by decide +kernel)]
  rfl

/-- Query features after block 2. -/
theorem q2_at (i : Fin 15) (o : Fin 64) (y x : Fin 28) : (X12 V (Proc.devRef .tc main_v428) : Vec Ideal S15x64x28x28 .f32) (ix4 i o y x) = R2 (argsV V) (25 + i.val) y.val x.val o := by
  refine (RQ2 (X11 V) (fun i => pd 56 (R1 (argsV V) (25 + i))) (pad11_at (X10 V) (fun i => R1 (argsV V) (25 + i)) (q1_at V) (cst10 (X9 V))) i o y x).trans ?_
  simp only [keptX11 V main_arg4 (by decide +kernel), keptX11 V main_arg5 (by decide +kernel), keptX11 V main_arg12 (by decide +kernel), keptX11 V main_arg13 (by decide +kernel)]
  rfl

/-- Query features after block 3. -/
theorem q3_at (i : Fin 15) (o : Fin 128) (y x : Fin 14) : (X14 V (Proc.devRef .tc main_v499) : Vec Ideal S15x128x14x14 .f32) (ix4 i o y x) = R3 (argsV V) (25 + i.val) y.val x.val o := by
  refine (RQ3 (X13 V) (fun i => pd 28 (R2 (argsV V) (25 + i))) (pad13_at (X12 V) (fun i => R2 (argsV V) (25 + i)) (q2_at V) (cst12 (X11 V))) i o y x).trans ?_
  simp only [keptX13 V main_arg6 (by decide +kernel), keptX13 V main_arg7 (by decide +kernel), keptX13 V main_arg14 (by decide +kernel), keptX13 V main_arg15 (by decide +kernel)]
  rfl

/-- Query features after block 4. -/
theorem q4_at (i : Fin 15) (o : Fin 256) (y x : Fin 7) : (after hostOps0_16 (X15 V) (Proc.devRef .tc main_v570) : Vec Ideal S15x256x7x7 .f32) (ix4 i o y x) = R4 (argsV V) (25 + i.val) y.val x.val o := by
  refine (RQ4 (X15 V) (fun i => pd 14 (R3 (argsV V) (25 + i))) (pad15_at (X14 V) (fun i => R3 (argsV V) (25 + i)) (q3_at V) (cst14 (X13 V))) i o y x).trans ?_
  simp only [keptX15 V main_arg8 (by decide +kernel), keptX15 V main_arg9 (by decide +kernel), keptX15 V main_arg16 (by decide +kernel), keptX15 V main_arg17 (by decide +kernel)]
  rfl

/-- The support features by position, from their maps. -/
theorem v286_of (i : Fin 25) (s : Fin 49) (f : Fin 256) :
    (after hostOps0_8 V (Proc.devRef .tc main_v286) : Vec Ideal S25x49x256 .f32) (ix3 i s f)
      = (after hostOps0_8 V (Proc.devRef .tc main_v284) : Vec Ideal S25x256x7x7 .f32) (ix4 i f ⟨s.val / 7, by omega⟩ ⟨s.val % 7, by omega⟩) := by
  have hs : (hostOps0_8 : List (HloOp τ sig (Elt Ideal))) = hostOps0_8.take 74 ++ hostOps0_8.drop 74 := (List.take_append_drop 74 _).symm
  rw [hs, after_append]
  generalize after (hostOps0_8.take 74) V = W
  have e : after (hostOps0_8.drop 74) W (Proc.devRef .tc main_v286) = transpose S25x49x256 [0, 2, 1]
      (shapeCast S25x256x49 (W (Proc.devRef .tc main_v284) : Vec Ideal S25x256x7x7 .f32) shapeCasts_S25x256x7x7_S25x256x49) transposes_S25x256x49_S25x49x256_0_2_1 := by
    simp only [hostOps0_8, List.drop]
    after_results_simp
    rfl
  have e' : after (hostOps0_8.drop 74) W (Proc.devRef .tc main_v284) = W (Proc.devRef .tc main_v284) := by
    simp only [hostOps0_8, List.drop]
    after_results_simp
  rw [e, e']
  generalize (W (Proc.devRef .tc main_v284) : Vec Ideal S25x256x7x7 .f32) = x
  pointwise

/-- The support features by position, where the attention finds them. -/
theorem v286_at (i : Fin 25) (s : Fin 49) (f : Fin 256) :
    (X15 V (Proc.devRef .tc main_v286) : Vec Ideal S25x49x256 .f32) (ix3 i s f) = ft (R4 (argsV V)) i.val s.val f := by
  have e : X15 V (Proc.devRef .tc main_v286) = X8 V (Proc.devRef .tc main_v286) := by
    rw [show X15 V (Proc.devRef .tc main_v286) = X14 V (Proc.devRef .tc main_v286) from after_of_writes_sub hostOps0_15 (X14 V) hostOps0_15_writes (by decide +kernel)]
    rw [show X14 V (Proc.devRef .tc main_v286) = X13 V (Proc.devRef .tc main_v286) from after_of_writes_sub hostOps0_14 (X13 V) hostOps0_14_writes (by decide +kernel)]
    rw [show X13 V (Proc.devRef .tc main_v286) = X12 V (Proc.devRef .tc main_v286) from after_of_writes_sub hostOps0_13 (X12 V) hostOps0_13_writes (by decide +kernel)]
    rw [show X12 V (Proc.devRef .tc main_v286) = X11 V (Proc.devRef .tc main_v286) from after_of_writes_sub hostOps0_12 (X11 V) hostOps0_12_writes (by decide +kernel)]
    rw [show X11 V (Proc.devRef .tc main_v286) = X10 V (Proc.devRef .tc main_v286) from after_of_writes_sub hostOps0_11 (X10 V) hostOps0_11_writes (by decide +kernel)]
    rw [show X10 V (Proc.devRef .tc main_v286) = X9 V (Proc.devRef .tc main_v286) from after_of_writes_sub hostOps0_10 (X9 V) hostOps0_10_writes (by decide +kernel)]
    rw [show X9 V (Proc.devRef .tc main_v286) = X8 V (Proc.devRef .tc main_v286) from after_of_writes_sub hostOps0_9 (X8 V) hostOps0_9_writes (by decide +kernel)]
  rw [e]
  exact (v286_of (X7 V) i s f).trans (s4_at V i f ⟨s.val / 7, by omega⟩ ⟨s.val % 7, by omega⟩)

end Cert.ReferenceIdeal.Val

end
-- ==== Proof.Val.RefAtt.lean ====
/- The reference's attention at an index. -/
module

public import proofs.«01_k».proof.Proof.Gen.ReferenceIdeal.Run
public import proofs.«01_k».proof.Proof.Val.Spec2

@[expose] public section

set_option maxRecDepth 16384
set_option maxHeartbeats 8000000

noncomputable section

namespace Cert.ReferenceIdeal.Val

open Cert.ReferenceIdeal Cert.ReferenceIdeal.Gen Cert.ReferenceIdeal.Value Cert.Spec Idealize.ShloMosaic.StableHlo
open Idealize.ShloMosaic Idealize.ShloMosaic.TcCoe
open Idealize.SL.Sem

variable (V : Valuation τ sig (Elt Ideal))

/-- The attention's operations. -/
def attOps : List (HloOp τ sig (Elt Ideal)) := hostOps0_16.drop 74
/-- Both sets of features through the attention's linear map. -/
def attOps1 : List (HloOp τ sig (Elt Ideal)) := attOps.take 12
/-- The scores. -/
def attOps2 : List (HloOp τ sig (Elt Ideal)) := (attOps.drop 12).take 8
/-- The weights. -/
def attOps3 : List (HloOp τ sig (Elt Ideal)) := (attOps.drop 20).take 14
/-- The attended features, and the query's beside them. -/
def attOps4 : List (HloOp τ sig (Elt Ideal)) := (attOps.drop 34).take 4
/-- The recurrent network's inputs. -/
def attOps5 : List (HloOp τ sig (Elt Ideal)) := attOps.drop 38

/-- The attention in five stretches. -/
theorem attOps_split : attOps = attOps1 ++ (attOps2 ++ (attOps3 ++ (attOps4 ++ attOps5))) := rfl

/-- The query features by position. -/
theorem v572_at (i : Fin 15) (s : Fin 49) (f : Fin 256) :
    (after attOps1 V (Proc.devRef .tc main_v572) : Vec Ideal S15x49x256 .f32) (ix3 i s f)
      = (V (Proc.devRef .tc main_v570) : Vec Ideal S15x256x7x7 .f32) (ix4 i f ⟨s.val / 7, by omega⟩ ⟨s.val % 7, by omega⟩) := by
  have e : after attOps1 V (Proc.devRef .tc main_v572) = transpose S15x49x256 [0, 2, 1]
      (shapeCast S15x256x49 (V (Proc.devRef .tc main_v570) : Vec Ideal S15x256x7x7 .f32) shapeCasts_S15x256x7x7_S15x256x49) transposes_S15x256x49_S15x49x256_0_2_1 := by
    simp only [attOps1, attOps, hostOps0_16, List.drop, List.take]
    after_results_simp
    rfl
  rw [e]
  generalize (V (Proc.devRef .tc main_v570) : Vec Ideal S15x256x7x7 .f32) = x
  pointwise

/-- The query features through the linear map. -/
theorem v577_at (i : Fin 15) (s : Fin 49) (c : Fin 64)
    (x : Vec Ideal S15x49x256 .f32) (hx : after attOps1 V (Proc.devRef .tc main_v572) = x)
    (w : Vec Ideal S64x256 .f32) (hw : V (Proc.devRef .tc main_arg18) = w)
    (b : Vec Ideal S64 .f32) (hb : V (Proc.devRef .tc main_arg19) = b) :
    (after attOps1 V (Proc.devRef .tc main_v577) : Vec Ideal S15x49x64 .f32) (ix3 i s c)
      = (∑ f : Fin 256, x (ix3 i s f) * w (ix2 c f))
        + b (ix1 c) := by
  have e : after attOps1 V (Proc.devRef .tc main_v577) = (addf
      (Host.dotGeneral (φ₁ := .f32) (φ₂ := .f32) dot_S15x49x256_S256x64_S15x49x64_2_0_01_1_n_n none x
        (transpose S256x64 [1, 0] w transposes_S64x256_S256x64_1_0))
      (broadcastInDim S15x49x64 ![0, 1, 2] bcast_S1x1x64_S15x49x64_0_1_2 (broadcastInDim S1x1x64 ![2] bcast_S64_S1x1x64_2 b)) : FVec Ideal S15x49x64 .f32) := by
    rw [← hx, ← hw, ← hb]
    simp only [attOps1, attOps, hostOps0_16, List.drop, List.take]
    after_results_simp
  rw [e]
  pointwise
  repeat' first
    | refine add_cong ?_ ?_
    | refine Finset.sum_congr rfl fun _ _ => ?_
    | refine mul_cong ?_ ?_
    | rfl

/-- The support features through the linear map. -/
theorem v582_at (i : Fin 25) (s : Fin 49) (c : Fin 64)
    (x : Vec Ideal S25x49x256 .f32) (hx : V (Proc.devRef .tc main_v286) = x)
    (w : Vec Ideal S64x256 .f32) (hw : V (Proc.devRef .tc main_arg18) = w)
    (b : Vec Ideal S64 .f32) (hb : V (Proc.devRef .tc main_arg19) = b) :
    (after attOps1 V (Proc.devRef .tc main_v582) : Vec Ideal S25x49x64 .f32) (ix3 i s c)
      = (∑ f : Fin 256, x (ix3 i s f) * w (ix2 c f))
        + b (ix1 c) := by
  have e : after attOps1 V (Proc.devRef .tc main_v582) = (addf
      (Host.dotGeneral (φ₁ := .f32) (φ₂ := .f32) dot_S25x49x256_S256x64_S25x49x64_2_0_01_1_n_n none x
        (transpose S256x64 [1, 0] w transposes_S64x256_S256x64_1_0))
      (broadcastInDim S25x49x64 ![0, 1, 2] bcast_S1x1x64_S25x49x64_0_1_2 (broadcastInDim S1x1x64 ![2] bcast_S64_S1x1x64_2 b)) : FVec Ideal S25x49x64 .f32) := by
    rw [← hx, ← hw, ← hb]
    simp only [attOps1, attOps, hostOps0_16, List.drop, List.take]
    after_results_simp
  rw [e]
  pointwise
  repeat' first
    | refine add_cong ?_ ?_
    | refine Finset.sum_congr rfl fun _ _ => ?_
    | refine mul_cong ?_ ?_
    | rfl

/-- The scores. -/
theorem v589_at (q : Fin 15) (i : Fin 25) (t u : Fin 49)
    (x : Vec Ideal S15x49x64 .f32) (hx : V (Proc.devRef .tc main_v577) = x)
    (y : Vec Ideal S25x49x64 .f32) (hy : V (Proc.devRef .tc main_v582) = y) :
    (after attOps2 V (Proc.devRef .tc main_v589) : Vec Ideal S15x25x49x49 .f32) (ix4 q i t u)
      = ∑ c : Fin 64, Ideal.tanh (x (ix3 q t c) * y (ix3 i u c)) := by
  have e : after attOps2 V (Proc.devRef .tc main_v589) = (Host.reduceAdd (Host.tanh (mulf
      (broadcastInDim S15x25x49x49x64 ![0, 1, 2, 3, 4] bcast_S15x1x49x1x64_S15x25x49x49x64_0_1_2_3_4 (broadcastInDim S15x1x49x1x64 ![0, 2, 4] bcast_S15x49x64_S15x1x49x1x64_0_2_4 x))
      (broadcastInDim S15x25x49x49x64 ![0, 1, 2, 3, 4] bcast_S1x25x1x49x64_S15x25x49x49x64_0_1_2_3_4 (broadcastInDim S1x25x1x49x64 ![1, 3, 4] bcast_S25x49x64_S1x25x1x49x64_1_3_4 y))))
      (constant S_ .f32 0x00000000#32) reducesTo_S15x25x49x49x64_S15x25x49x49_d4 h_S_ : FVec Ideal S15x25x49x49 .f32) := by
    rw [← hx, ← hy]
    simp only [attOps2, attOps, hostOps0_16, List.drop, List.take]
    after_results_simp
  rw [e]
  pointwise

/-- A maximum taken from minus infinity. -/
theorem fold_sup {n : ℕ} (f : Fin n → EReal) : Finset.fold max (Ideal.ofBits FTy.f32 4286578688#32) f Finset.univ = top f := by
  rw [show Ideal.ofBits FTy.f32 4286578688#32 = (⊥ : EReal) from by simp [Ideal.ofBits, Ideal.ieee]]
  rfl

/-- The weights. -/
theorem v600_at (q : Fin 15) (i : Fin 25) (t u : Fin 49)
    (x : Vec Ideal S15x25x49x49 .f32) (hx : V (Proc.devRef .tc main_v589) = x) :
    (after attOps3 V (Proc.devRef .tc main_v600) : Vec Ideal S15x25x49x49 .f32) (ix4 q i t u)
      = smx (fun u : Fin 49 => x (ix4 q i t u)) u := by
  have e1 : after attOps3 V (Proc.devRef .tc main_v596) = (Host.exp (subf x
      (broadcastInDim S15x25x49x49 ![0, 1, 2, 3] bcast_S15x25x49x1_S15x25x49x49_0_1_2_3 (broadcastInDim S15x25x49x1 ![0, 1, 2] bcast_S15x25x49_S15x25x49x1_0_1_2
        (maximumf (broadcastInDim S15x25x49 ![] bcast_S_S15x25x49 (constant S_ .f32 0xFF800000#32))
          (Host.reduce FloatOps.maximumf x (constant S_ .f32 0xFF800000#32) reducesTo_S15x25x49x49_S15x25x49_d3 h_S_))))) : FVec Ideal S15x25x49x49 .f32) := by
    rw [← hx]
    simp only [attOps3, attOps, hostOps0_16, List.drop, List.take]
    after_results_simp
  have e2 : ∀ z : Vec Ideal S15x25x49x49 .f32, after attOps3 V (Proc.devRef .tc main_v596) = z → after attOps3 V (Proc.devRef .tc main_v600) = (Host.divf z
      (broadcastInDim S15x25x49x49 ![0, 1, 2, 3] bcast_S15x25x49x1_S15x25x49x49_0_1_2_3 (broadcastInDim S15x25x49x1 ![0, 1, 2] bcast_S15x25x49_S15x25x49x1_0_1_2
        (Host.reduceAdd z (constant S_ .f32 0x00000000#32) reducesTo_S15x25x49x49_S15x25x49_d3 h_S_))) : FVec Ideal S15x25x49x49 .f32) := by
    intro z hz
    rw [← hz]
    simp only [attOps3, attOps, hostOps0_16, List.drop, List.take]
    after_results_simp
  have h1 : ∀ u : Fin 49, (after attOps3 V (Proc.devRef .tc main_v596) : Vec Ideal S15x25x49x49 .f32) (ix4 q i t u)
      = Ideal.exp (x (ix4 q i t u) - top fun u : Fin 49 => x (ix4 q i t u)) := by
    intro u
    rw [e1]
    pointwise
    rw [show Ideal.ofBits FTy.f32 4286578688#32 = (⊥ : EReal) from by simp [Ideal.ofBits, Ideal.ieee], max_eq_right bot_le]
    rfl
  rw [e2 _ rfl]
  generalize (after attOps3 V (Proc.devRef .tc main_v596) : Vec Ideal S15x25x49x49 .f32) = z at h1 ⊢
  pointwise
  unfold smx
  simp only [← h1]

/-- The attended features. -/
theorem v602_at (q : Fin 15) (i : Fin 25) (t : Fin 49) (f : Fin 256)
    (w : Vec Ideal S15x25x49x49 .f32) (hw : V (Proc.devRef .tc main_v600) = w)
    (x : Vec Ideal S25x49x256 .f32) (hx : V (Proc.devRef .tc main_v286) = x) :
    (after attOps4 V (Proc.devRef .tc main_v602) : Vec Ideal S15x25x49x256 .f32) (ix4 q i t f)
      = ∑ u : Fin 49, w (ix4 q i t u) * x (ix3 i u f) := by
  have e : after attOps4 V (Proc.devRef .tc main_v602) = (transpose S15x25x49x256 [2, 0, 3, 1]
      (Host.dotGeneral (φ₁ := .f32) (φ₂ := .f32) dot_S25x49x256_S15x25x49x49_S25x256x15x49_1_3_2_02_0_1 none x w)
      transposes_S25x256x15x49_S15x25x49x256_2_0_3_1 : FVec Ideal S15x25x49x256 .f32) := by
    rw [← hx, ← hw]
    simp only [attOps4, attOps, hostOps0_16, List.drop, List.take]
    after_results_simp
  rw [e]
  pointwise
  exact congrArg (fun g : Fin 49 → EReal => ∑ u, g u) (funext fun u => mul_comm _ _)

/-- The query's features for every pair. -/
theorem v604_at (q : Fin 15) (i : Fin 25) (t : Fin 49) (f : Fin 256) :
    (after attOps4 V (Proc.devRef .tc main_v604) : Vec Ideal S15x25x49x256 .f32) (ix4 q i t f)
      = (V (Proc.devRef .tc main_v572) : Vec Ideal S15x49x256 .f32) (ix3 q t f) := by
  have e : after attOps4 V (Proc.devRef .tc main_v604) = broadcastInDim S15x25x49x256 ![0, 1, 2, 3] bcast_S15x1x49x256_S15x25x49x256_0_1_2_3
      (broadcastInDim S15x1x49x256 ![0, 2, 3] bcast_S15x49x256_S15x1x49x256_0_2_3 (V (Proc.devRef .tc main_v572) : Vec Ideal S15x49x256 .f32)) := by
    simp only [attOps4, attOps, hostOps0_16, List.drop, List.take]
    after_results_simp
  rw [e]
  pointwise

/-- Two arrays side by side along the last axis. -/
def catF (x y : Vec Ideal S15x25x49x256 .f32) : Vec Ideal S15x25x49x512 .f32 :=
  concatenate S15x25x49x512 3 [⟨S15x25x49x256, x⟩, ⟨S15x25x49x256, y⟩] concatenates_S15x25x49x256_S15x25x49x256_S15x25x49x512_d3

/-- The recurrent network's input. -/
theorem v608_at (t : Fin 49) (r : Fin 375) (k : Fin 512) :
    (after attOps5 V (Proc.devRef .tc main_v609_0) : Vec Ideal S49x375x512 .f32) (ix3 t r k)
      = if h : k.val < 256 then (V (Proc.devRef .tc main_v602) : Vec Ideal S15x25x49x256 .f32) (ix4 (⟨r.val / 25, by omega⟩ : Fin 15) (⟨r.val % 25, by omega⟩ : Fin 25) t (⟨k.val, h⟩ : Fin 256))
        else (V (Proc.devRef .tc main_v604) : Vec Ideal S15x25x49x256 .f32) (ix4 (⟨r.val / 25, by omega⟩ : Fin 15) (⟨r.val % 25, by omega⟩ : Fin 25) t (⟨k.val - 256, by omega⟩ : Fin 256)) := by
  have e : after attOps5 V (Proc.devRef .tc main_v609_0) = transpose S49x375x512 [1, 0, 2]
      (shapeCast S375x49x512 (catF (V (Proc.devRef .tc main_v602)) (V (Proc.devRef .tc main_v604))) shapeCasts_S15x25x49x512_S375x49x512) transposes_S375x49x512_S49x375x512_1_0_2 := by
    simp only [attOps5, attOps, hostOps0_16, List.drop]
    after_results_simp
    rfl
  rw [e]
  generalize (V (Proc.devRef .tc main_v602) : Vec Ideal S15x25x49x256 .f32) = x
  generalize (V (Proc.devRef .tc main_v604) : Vec Ideal S15x25x49x256 .f32) = y
  pointwise [catF]

end Cert.ReferenceIdeal.Val

end
-- ==== Proof.Val.RefGru.lean ====
/- The reference's recurrent network, trip after trip, and its result. -/
module

public import proofs.«01_k».proof.Proof.Gen.ReferenceIdeal.Run
public import proofs.«01_k».proof.Proof.Val.Spec2

@[expose] public section

set_option maxRecDepth 16384
set_option maxHeartbeats 8000000

noncomputable section

namespace Cert.ReferenceIdeal.Val

open Cert.ReferenceIdeal Cert.ReferenceIdeal.Gen Cert.ReferenceIdeal.Value Cert.Spec Idealize.ShloMosaic.StableHlo
open Idealize.ShloMosaic Idealize.ShloMosaic.TcCoe
open Idealize.SL.Sem

/-- What the loop carries before trip `n`: the inputs, the weights, the counter and the two layers' states. -/
structure At (A : Args) (X : Vec Ideal S49x375x512 .f32) (n : ℕ) (H0 H1 : Vec Ideal S375x128 .f32) (S : Valuation τ sig (Elt Ideal)) : Prop where
  h0 : S (Proc.devRef .tc main_v609_0) = X
  h1 : S (Proc.devRef .tc main_v609_1) = A.a20
  h2 : S (Proc.devRef .tc main_v609_2) = A.a22
  h3 : S (Proc.devRef .tc main_v609_3) = A.a21
  h4 : S (Proc.devRef .tc main_v609_4) = A.a23
  h5 : S (Proc.devRef .tc main_v609_5) = A.a24
  h6 : S (Proc.devRef .tc main_v609_6) = A.a26
  h7 : S (Proc.devRef .tc main_v609_7) = A.a25
  h8 : S (Proc.devRef .tc main_v609_8) = A.a27
  h9 : S (Proc.devRef .tc main_v609_9) = fun _ => BitVec.ofNat 32 n
  h10 : S (Proc.devRef .tc main_v609_10) = H0
  h11 : S (Proc.devRef .tc main_v609_11) = H1

/-- The trip's slice of the inputs. -/
theorem slice_at (X : Vec Ideal S49x375x512 .f32) (n : ℕ) (hn : n < 49) (r : Fin 375) (k : Fin 512) :
    Host.dynamicSlice S1x375x512 X (fun k => (((![fun _ => BitVec.ofNat 32 n, constantI S_ 32 0#32, constantI S_ 32 0#32] : Fin 3 → (⟨S_, .i32⟩ : BufTy).Contents (Elt Ideal))) k (Shape.Idx.first h_S_)).toInt)
      sliceFits_S49x375x512_S1x375x512 (ix3 (0 : Fin 1) r k) = X (ix3 (⟨n, hn⟩ : Fin 49) r k) := by
  have hi : (BitVec.ofNat 32 n).toInt = (n : ℤ) := by
    rw [BitVec.toInt_ofNat', Int.bmod_eq_of_le] <;> omega
  unfold Host.dynamicSlice extractStridedSlice
  refine congrArg X ?_
  funext a; apply Fin.ext; fin_cases a
  · change (min (max (BitVec.ofNat 32 n).toInt 0) ((49 - 1 : ℕ) : ℤ)).toNat + 0 = n
    rw [hi]; omega
  · change (min (max (0#32 : BitVec 32).toInt 0) ((375 - 375 : ℕ) : ℤ)).toNat + r.val = r.val
    simp
  · change (min (max (0#32 : BitVec 32).toInt 0) ((512 - 512 : ℕ) : ℤ)).toNat + k.val = k.val
    simp

variable {A : Args} {X : Vec Ideal S49x375x512 .f32} {n : ℕ} {H0 H1 : Vec Ideal S375x128 .f32} {S : Valuation τ sig (Elt Ideal)}

/-- A linear map over the rows, at an index. -/
theorem lin_at (h : Vec Ideal S375x128 .f32) (w : Vec Ideal S384x128 .f32) (b : Vec Ideal S384 .f32) (r : Fin 375) (g : Fin 384) :
    (addf (Host.dotGeneral (φ₁ := .f32) (φ₂ := .f32) dot_S375x128_S128x384_S375x384_1_0_0_1_n_n none h (transpose S128x384 [1, 0] w transposes_S384x128_S128x384_1_0))
      (broadcastInDim S375x384 ![0, 1] bcast_S1x384_S375x384_0_1 (broadcastInDim S1x384 ![1] bcast_S384_S1x384_1 b)) : FVec Ideal S375x384 .f32) (ix2 r g)
      = lin (fun k => h (ix2 r k)) w b g := by
  unfold lin
  pointwise

/-- The first layer's input gates of a trip. -/
theorem v623_at (h : At A X n H0 H1 S) (hn : n < 49) (r : Fin 375) (g : Fin 384) :
    (res_main_while0b_v623 S : Vec Ideal S375x384 .f32) (ix2 r g) = (∑ k : Fin 512, X (ix3 (⟨n, hn⟩ : Fin 49) r k) * A.a20 (ix2 g k)) + A.a22 (ix1 g) := by
  unfold res_main_while0b_v623
  rw [h.h0, h.h1, h.h2, h.h9]
  have hs := slice_at X n hn
  generalize (Host.dynamicSlice S1x375x512 X (fun k => (((![fun _ => BitVec.ofNat 32 n, constantI S_ 32 0#32, constantI S_ 32 0#32] : Fin 3 → (⟨S_, .i32⟩ : BufTy).Contents (Elt Ideal))) k (Shape.Idx.first h_S_)).toInt)
      sliceFits_S49x375x512_S1x375x512) = Y at hs ⊢
  pointwise
  repeat' first
    | refine add_cong ?_ ?_
    | refine Finset.sum_congr rfl fun _ _ => ?_
    | refine mul_cong ?_ ?_
    | exact hs _ _
    | rfl

/-- The first layer's hidden gates of a trip. -/
theorem v628_at (h : At A X n H0 H1 S) (r : Fin 375) (g : Fin 384) :
    (res_main_while0b_v628 S : Vec Ideal S375x384 .f32) (ix2 r g) = lin (fun k => H0 (ix2 r k)) A.a21 A.a23 g := by
  unfold res_main_while0b_v628
  rw [h.h10, h.h3, h.h4]
  exact lin_at H0 A.a21 A.a23 r g

/-- A gated unit's new state over the rows, at an index. -/
theorem cell_at (gi gh : FVec Ideal S375x384 .f32) (H : FVec Ideal S375x128 .f32) (z : FVec Ideal S375x128 .f32)
    (hz : z = Host.divf (broadcastInDim S375x128 ![] bcast_S_S375x128 (constant S_ .f32 0x3F800000#32)) (addf (broadcastInDim S375x128 ![] bcast_S_S375x128 (constant S_ .f32 0x3F800000#32)) (Host.exp (Host.negf (addf (extractStridedSlice S375x128 ![0, 128] gi slices_S375x384_S375x128_0_128) (extractStridedSlice S375x128 ![0, 128] gh slices_S375x384_S375x128_0_128))))))
    (r : Fin 375) (j : Fin 128) :
    (addf (mulf (subf (broadcastInDim S375x128 ![] bcast_S_S375x128 (constant S_ .f32 0x3F800000#32)) z) (Host.tanh (addf (extractStridedSlice S375x128 ![0, 256] gi slices_S375x384_S375x128_0_256) (mulf (Host.divf (broadcastInDim S375x128 ![] bcast_S_S375x128 (constant S_ .f32 0x3F800000#32)) (addf (broadcastInDim S375x128 ![] bcast_S_S375x128 (constant S_ .f32 0x3F800000#32)) (Host.exp (Host.negf (addf (extractStridedSlice S375x128 ![0, 0] gi slices_S375x384_S375x128_0_0) (extractStridedSlice S375x128 ![0, 0] gh slices_S375x384_S375x128_0_0)))))) (extractStridedSlice S375x128 ![0, 256] gh slices_S375x384_S375x128_0_256))))) (mulf z H) : FVec Ideal S375x128 .f32) (ix2 r j)
      = cell (fun g => gi (ix2 r g)) (fun g => gh (ix2 r g)) (H (ix2 r j)) j := by
  unfold cell sg
  rw [hz]
  pointwise

/-- The first layer's new state in a trip. -/
theorem v656_at (h : At A X n H0 H1 S) (hn : n < 49) (r : Fin 375) (j : Fin 128) :
    (res_main_while0b_v656 S : Vec Ideal S375x128 .f32) (ix2 r j)
      = nxt0 A (fun g => (∑ k : Fin 512, X (ix3 (⟨n, hn⟩ : Fin 49) r k) * A.a20 (ix2 g k)) + A.a22 (ix1 g)) (fun k => H0 (ix2 r k)) j := by
  unfold res_main_while0b_v656
  rw [h.h10]
  refine (cell_at (res_main_while0b_v623 S) (res_main_while0b_v628 S) H0 (res_main_while0b_v648 S) rfl r j).trans ?_
  unfold nxt0
  simp only [v623_at h hn, v628_at h]

/-- The second layer's input gates in a trip. -/
theorem v661_at (h : At A X n H0 H1 S) (r : Fin 375) (g : Fin 384) :
    (res_main_while0b_v661 S : Vec Ideal S375x384 .f32) (ix2 r g) = lin (fun k => (res_main_while0b_v656 S : Vec Ideal S375x128 .f32) (ix2 r k)) A.a24 A.a26 g := by
  unfold res_main_while0b_v661
  rw [h.h5, h.h6]
  exact lin_at (res_main_while0b_v656 S) A.a24 A.a26 r g

/-- The second layer's hidden gates in a trip. -/
theorem v666_at (h : At A X n H0 H1 S) (r : Fin 375) (g : Fin 384) :
    (res_main_while0b_v666 S : Vec Ideal S375x384 .f32) (ix2 r g) = lin (fun k => H1 (ix2 r k)) A.a25 A.a27 g := by
  unfold res_main_while0b_v666
  rw [h.h11, h.h7, h.h8]
  exact lin_at H1 A.a25 A.a27 r g

/-- The second layer's new state in a trip. -/
theorem s11_at (h : At A X n H0 H1 S) (r : Fin 375) (j : Fin 128) :
    (step_main_v609_11 S : Vec Ideal S375x128 .f32) (ix2 r j)
      = nxt1 A (fun k => (res_main_while0b_v656 S : Vec Ideal S375x128 .f32) (ix2 r k)) (fun k => H1 (ix2 r k)) j := by
  unfold step_main_v609_11
  rw [h.h11]
  refine (cell_at (res_main_while0b_v661 S) (res_main_while0b_v666 S) H1 (res_main_while0b_v686 S) rfl r j).trans ?_
  unfold nxt1
  simp only [v661_at h, v666_at h]

/-- One trip. -/
theorem At.step (G : ℕ → ℕ → Fin 384 → EReal)
    (hX : ∀ (t : Fin 49) (r : Fin 375) (g : Fin 384), (∑ k : Fin 512, X (ix3 t r k) * A.a20 (ix2 g k)) + A.a22 (ix1 g) = G t.val r.val g)
    (h : At A X n (fun i => (hid A G (i 0).val n).1 (i 1)) (fun i => (hid A G (i 0).val n).2 (i 1)) S) (hn : n < 49) :
    At A X (n + 1) (fun i => (hid A G (i 0).val (n + 1)).1 (i 1)) (fun i => (hid A G (i 0).val (n + 1)).2 (i 1)) (STEP S) := by
  have e0 : ∀ (r : Fin 375) (j : Fin 128), (res_main_while0b_v656 S : Vec Ideal S375x128 .f32) (ix2 r j) = (hid A G r.val (n + 1)).1 j := by
    intro r j
    refine (v656_at h hn r j).trans ?_
    simp only [hX]
    rfl
  have e1 : ∀ (r : Fin 375) (j : Fin 128), (step_main_v609_11 S : Vec Ideal S375x128 .f32) (ix2 r j) = (hid A G r.val (n + 1)).2 j := by
    intro r j
    refine (s11_at h r j).trans ?_
    simp only [e0]
    rfl
  refine ⟨(STEP_main_v609_0 S).trans h.h0, (STEP_main_v609_1 S).trans h.h1, (STEP_main_v609_2 S).trans h.h2, (STEP_main_v609_3 S).trans h.h3, (STEP_main_v609_4 S).trans h.h4,
    (STEP_main_v609_5 S).trans h.h5, (STEP_main_v609_6 S).trans h.h6, (STEP_main_v609_7 S).trans h.h7, (STEP_main_v609_8 S).trans h.h8, ?_, ?_, ?_⟩
  · refine (STEP_main_v609_9 S).trans ?_
    unfold step_main_v609_9
    rw [h.h9]
    funext i
    change BitVec.ofNat 32 n + 1#32 = BitVec.ofNat 32 (n + 1)
    exact (BitVec.ofNat_add n 1).symm
  · refine (STEP_main_v609_10 S).trans ?_
    funext i
    rw [eq_ix2 i]
    exact e0 (i 0) (i 1)
  · refine (STEP_main_v609_11 S).trans ?_
    funext i
    rw [eq_ix2 i]
    exact e1 (i 0) (i 1)

/-- The trips. -/
theorem At.iter (G : ℕ → ℕ → Fin 384 → EReal)
    (hX : ∀ (t : Fin 49) (r : Fin 375) (g : Fin 384), (∑ k : Fin 512, X (ix3 t r k) * A.a20 (ix2 g k)) + A.a22 (ix1 g) = G t.val r.val g)
    (h : At A X 0 (fun _ => (0 : EReal)) (fun _ => (0 : EReal)) S) : ∀ n, n ≤ 49 →
    At A X n (fun i => (hid A G (i 0).val n).1 (i 1)) (fun i => (hid A G (i 0).val n).2 (i 1)) (STEP^[n] S)
  | 0, _ => h
  | n + 1, hn => by
    rw [Function.iterate_succ_apply']
    exact At.step G hX (At.iter G hX h n (by omega)) (by omega)

/-- A class's logit from the last states. -/
theorem logit_at (H : Vec Ideal S375x128 .f32) (w : Vec Ideal S1x128 .f32) (b : Vec Ideal S1 .f32) (q : Fin 15) (c : Fin 5) :
    (Host.reduceAdd (shapeCast S15x5x5 (addf (Host.dotGeneral (φ₁ := .f32) (φ₂ := .f32) dot_S375x128_S128x1_S375x1_1_0_0_1_n_n none H (transpose S128x1 [1, 0] w transposes_S1x128_S128x1_1_0)) (broadcastInDim S375x1 ![0, 1] bcast_S1x1_S375x1_0_1 (broadcastInDim S1x1 ![1] bcast_S1_S1x1_1 b)) : FVec Ideal S375x1 .f32) shapeCasts_S375x1_S15x5x5)
      (constant S_ .f32 0x00000000#32) reducesTo_S15x5x5_S15x5_d2 h_S_ : FVec Ideal S15x5 .f32) (ix2 q c)
      = ∑ k : Fin 5, ((∑ j : Fin 128, H (ix2 (⟨q.val * 25 + c.val * 5 + k.val, by omega⟩ : Fin 375) j) * w (ix2 0 j)) + b (ix1 0)) := by
  pointwise

/-- The log-softmax of the class logits, at an index. -/
theorem lsm_at (L : FVec Ideal S15x5 .f32) (q : Fin 15) (c : Fin 5) (M : FVec Ideal S15x5 .f32)
    (hM : M = broadcastInDim S15x5 ![0, 1] bcast_S15x1_S15x5_0_1 (broadcastInDim S15x1 ![0] bcast_S15_S15x1_0 (maximumf (broadcastInDim S15 ![] bcast_S_S15 (constant S_ .f32 0xFF800000#32)) (Host.reduce FloatOps.maximumf L (constant S_ .f32 0xFF800000#32) reducesTo_S15x5_S15_d1 h_S_)))) :
    (subf (subf L M) (broadcastInDim S15x5 ![0, 1] bcast_S15x1_S15x5_0_1 (Host.log (broadcastInDim S15x1 ![0] bcast_S15_S15x1_0 (Host.reduceAdd (Host.exp (subf L M)) (constant S_ .f32 0x00000000#32) reducesTo_S15x5_S15_d1 h_S_)))) : FVec Ideal S15x5 .f32) (ix2 q c)
      = lsm (fun c : Fin 5 => L (ix2 q c)) c := by
  have hm : ∀ c : Fin 5, M (ix2 q c) = top fun c : Fin 5 => L (ix2 q c) := by
    intro c
    rw [hM]
    pointwise
    rw [show Ideal.ofBits FTy.f32 4286578688#32 = (⊥ : EReal) from by simp [Ideal.ofBits, Ideal.ieee], max_eq_right bot_le]
    rfl
  unfold lsm
  pointwise
  simp only [hm]

/-- The result from the last states. -/
theorem out_at (G : ℕ → ℕ → Fin 384 → EReal) (S : Valuation τ sig (Elt Ideal))
    (hH : S (Proc.devRef .tc main_v609_11) = (fun i => (hid A G (i 0).val 49).2 (i 1) : Vec Ideal S375x128 .f32))
    (h28 : S (Proc.devRef .tc main_arg28) = A.a28) (h29 : S (Proc.devRef .tc main_arg29) = A.a29) (q : Fin 15) (c : Fin 5) :
    (out_main_v617 S : Vec Ideal S15x5 .f32) (ix2 q c)
      = lsm (fun c : Fin 5 => ∑ k : Fin 5, (lgt A G (q.val * 25 + c.val * 5 + k.val) + A.a29 (ix1 0))) c := by
  unfold out_main_v617
  rw [hH, h28, h29]
  refine (lsm_at _ q c _ rfl).trans ?_
  refine congrArg (fun f => lsm f c) (funext fun c => ?_)
  exact logit_at _ A.a28 A.a29 q c

end Cert.ReferenceIdeal.Val

end
-- ==== Proof.Val.RefFinal.lean ====
/- The reference's result from its arguments. -/
module

public import proofs.«01_k».proof.Proof.Val.RefChain
public import proofs.«01_k».proof.Proof.Val.RefAtt
public import proofs.«01_k».proof.Proof.Val.RefGru

@[expose] public section

set_option maxRecDepth 16384
set_option maxHeartbeats 8000000

noncomputable section

namespace Cert.ReferenceIdeal.Val

open Cert.ReferenceIdeal Cert.ReferenceIdeal.Gen Cert.ReferenceIdeal.Value Cert.Spec Idealize.ShloMosaic.StableHlo
open Idealize.ShloMosaic Idealize.ShloMosaic.TcCoe
open Idealize.SL.Sem

/-- Two sums with equal terms. -/
theorem sum_cong {n : ℕ} {f g : Fin n → EReal} (h : ∀ i, f i = g i) : ∑ i, f i = ∑ i, g i := Finset.sum_congr rfl fun i _ => h i

variable (V : Valuation τ sig (Elt Ideal))

/-- The linear map leaves the support features alone. -/
theorem k1_286 : after attOps1 V (Proc.devRef .tc main_v286) = V (Proc.devRef .tc main_v286) := by
  simp only [attOps1, attOps, hostOps0_16, List.drop, List.take]
  after_results_simp
/-- So do the scores. -/
theorem k2_286 : after attOps2 V (Proc.devRef .tc main_v286) = V (Proc.devRef .tc main_v286) := by
  simp only [attOps2, attOps, hostOps0_16, List.drop, List.take]
  after_results_simp
/-- So do the weights. -/
theorem k3_286 : after attOps3 V (Proc.devRef .tc main_v286) = V (Proc.devRef .tc main_v286) := by
  simp only [attOps3, attOps, hostOps0_16, List.drop, List.take]
  after_results_simp
/-- The scores leave the query features alone. -/
theorem k2_572 : after attOps2 V (Proc.devRef .tc main_v572) = V (Proc.devRef .tc main_v572) := by
  simp only [attOps2, attOps, hostOps0_16, List.drop, List.take]
  after_results_simp
/-- So do the weights. -/
theorem k3_572 : after attOps3 V (Proc.devRef .tc main_v572) = V (Proc.devRef .tc main_v572) := by
  simp only [attOps3, attOps, hostOps0_16, List.drop, List.take]
  after_results_simp
/-- The attention leaves the query features' maps alone. -/
theorem k_570 : after attOps V (Proc.devRef .tc main_v570) = V (Proc.devRef .tc main_v570) := by
  simp only [attOps, hostOps0_16, List.drop]
  after_results_simp

/-- The recurrent network's input from the features. -/
theorem xs_of (A : Args) (E : ℕ → Feat 256) (h18 : V (Proc.devRef .tc main_arg18) = A.a18) (h19 : V (Proc.devRef .tc main_arg19) = A.a19)
    (e570 : ∀ (i : Fin 15) (f : Fin 256) (y x : Fin 7), (V (Proc.devRef .tc main_v570) : Vec Ideal S15x256x7x7 .f32) (ix4 i f y x) = E (25 + i.val) y.val x.val f)
    (e286 : ∀ (i : Fin 25) (s : Fin 49) (f : Fin 256), (V (Proc.devRef .tc main_v286) : Vec Ideal S25x49x256 .f32) (ix3 i s f) = ft E i.val s.val f)
    (t : Fin 49) (r : Fin 375) (k : Fin 512) :
    (after attOps V (Proc.devRef .tc main_v609_0) : Vec Ideal S49x375x512 .f32) (ix3 t r k) = xs A E t.val r.val k := by
  rw [attOps_split, after_append, after_append, after_append, after_append]
  have p572 : ∀ (i : Fin 15) (s : Fin 49) (f : Fin 256), (after attOps1 V (Proc.devRef .tc main_v572) : Vec Ideal S15x49x256 .f32) (ix3 i s f) = ft E (25 + i.val) s.val f :=
    fun i s f => (v572_at V i s f).trans (e570 i f ⟨s.val / 7, by omega⟩ ⟨s.val % 7, by omega⟩)
  have p577 : ∀ (i : Fin 15) (s : Fin 49) (c : Fin 64), (after attOps1 V (Proc.devRef .tc main_v577) : Vec Ideal S15x49x64 .f32) (ix3 i s c) = attp A E (25 + i.val) s.val c :=
    fun i s c => (v577_at V i s c _ rfl A.a18 h18 A.a19 h19).trans (add_cong (sum_cong fun f => mul_cong (p572 i s f) rfl) rfl)
  have p582 : ∀ (i : Fin 25) (s : Fin 49) (c : Fin 64), (after attOps1 V (Proc.devRef .tc main_v582) : Vec Ideal S25x49x64 .f32) (ix3 i s c) = attp A E i.val s.val c :=
    fun i s c => (v582_at V i s c _ rfl A.a18 h18 A.a19 h19).trans (add_cong (sum_cong fun f => mul_cong (e286 i s f) rfl) rfl)
  have i1 : ∀ (i : Fin 25) (s : Fin 49) (f : Fin 256), (after attOps1 V (Proc.devRef .tc main_v286) : Vec Ideal S25x49x256 .f32) (ix3 i s f) = ft E i.val s.val f := by
    rw [k1_286]; exact e286
  generalize after attOps1 V = V1 at *
  have p589 : ∀ (q : Fin 15) (i : Fin 25) (t u : Fin 49), (after attOps2 V1 (Proc.devRef .tc main_v589) : Vec Ideal S15x25x49x49 .f32) (ix4 q i t u) = sco A E (25 + q.val) i.val t.val u.val :=
    fun q i t u => (v589_at V1 q i t u _ rfl _ rfl).trans (sum_cong fun c => congrArg Ideal.tanh (mul_cong (p577 q t c) (p582 i u c)))
  rw [← k2_286 V1] at i1
  rw [← k2_572 V1] at p572
  generalize after attOps2 V1 = V2 at *
  have p600 : ∀ (q : Fin 15) (i : Fin 25) (t u : Fin 49), (after attOps3 V2 (Proc.devRef .tc main_v600) : Vec Ideal S15x25x49x49 .f32) (ix4 q i t u) = smx (fun u : Fin 49 => sco A E (25 + q.val) i.val t.val u.val) u :=
    fun q i t u => (v600_at V2 q i t u _ rfl).trans (congrArg (fun f => smx f u) (funext fun u => p589 q i t u))
  rw [← k3_286 V2] at i1
  rw [← k3_572 V2] at p572
  generalize after attOps3 V2 = V3 at *
  refine (v608_at _ t r k).trans ?_
  unfold xs
  split_ifs with hk
  · exact (v602_at V3 _ _ t _ _ rfl _ rfl).trans (sum_cong fun u => mul_cong (p600 _ _ t u) (i1 _ u _))
  · exact (v604_at V3 _ _ t _).trans (p572 _ t _)

/-- The last list's first part writes only what the list writes. -/
theorem take_kept (b : Ref sig .tc) (hb : b ∉ hostOps0_16_W) :
    after (hostOps0_16.take 74) V (Proc.devRef .tc b) = V (Proc.devRef .tc b) :=
  after_of_writes_sub (hostOps0_16.take 74) V
    (List.forall_iff_forall_mem.mpr fun op ho => List.forall_iff_forall_mem.mp hostOps0_16_writes op (List.mem_of_mem_take ho)) hb

/-- The last list in two. -/
theorem last_split : after hostOps0_16 V = after attOps (after (hostOps0_16.take 74) V) := by
  rw [← after_append]
  exact congrArg (fun l => after l V) (List.take_append_drop 74 _).symm

/-- The recurrent network's input from the arguments. -/
theorem xs_at (t : Fin 49) (r : Fin 375) (k : Fin 512) :
    (after hostOps0_16 (X15 V) (Proc.devRef .tc main_v609_0) : Vec Ideal S49x375x512 .f32) (ix3 t r k) = xs (argsV V) (R4 (argsV V)) t.val r.val k := by
  have q := q4_at V
  rw [last_split] at q ⊢
  rw [k_570] at q
  refine xs_of _ (argsV V) (R4 (argsV V)) ?_ ?_ q ?_ t r k
  · rw [take_kept _ main_arg18 (by decide +kernel)]; exact keptX15 V main_arg18 (by decide +kernel)
  · rw [take_kept _ main_arg19 (by decide +kernel)]; exact keptX15 V main_arg19 (by decide +kernel)
  · rw [take_kept _ main_v286 (by decide +kernel)]; exact v286_at V

/-- The loop's copy of an argument, 1 of 8. -/
theorem in1 : after hostOps0_16 (X15 V) (Proc.devRef .tc main_v609_1) = (argsV V).a20 := by
  have e : ∀ U : Valuation τ sig (Elt Ideal), after hostOps0_16 U (Proc.devRef .tc main_v609_1) = U (Proc.devRef .tc main_arg20) := by
    intro U
    after_reads_simp
    rfl
  exact (e _).trans (keptX15 V main_arg20 (by decide +kernel))

/-- The loop's copy of an argument, 2 of 8. -/
theorem in2 : after hostOps0_16 (X15 V) (Proc.devRef .tc main_v609_2) = (argsV V).a22 := by
  have e : ∀ U : Valuation τ sig (Elt Ideal), after hostOps0_16 U (Proc.devRef .tc main_v609_2) = U (Proc.devRef .tc main_arg22) := by
    intro U
    after_reads_simp
    rfl
  exact (e _).trans (keptX15 V main_arg22 (by decide +kernel))

/-- The loop's copy of an argument, 3 of 8. -/
theorem in3 : after hostOps0_16 (X15 V) (Proc.devRef .tc main_v609_3) = (argsV V).a21 := by
  have e : ∀ U : Valuation τ sig (Elt Ideal), after hostOps0_16 U (Proc.devRef .tc main_v609_3) = U (Proc.devRef .tc main_arg21) := by
    intro U
    after_reads_simp
    rfl
  exact (e _).trans (keptX15 V main_arg21 (by decide +kernel))

/-- The loop's copy of an argument, 4 of 8. -/
theorem in4 : after hostOps0_16 (X15 V) (Proc.devRef .tc main_v609_4) = (argsV V).a23 := by
  have e : ∀ U : Valuation τ sig (Elt Ideal), after hostOps0_16 U (Proc.devRef .tc main_v609_4) = U (Proc.devRef .tc main_arg23) := by
    intro U
    after_reads_simp
    rfl
  exact (e _).trans (keptX15 V main_arg23 (by decide +kernel))

/-- The loop's copy of an argument, 5 of 8. -/
theorem in5 : after hostOps0_16 (X15 V) (Proc.devRef .tc main_v609_5) = (argsV V).a24 := by
  have e : ∀ U : Valuation τ sig (Elt Ideal), after hostOps0_16 U (Proc.devRef .tc main_v609_5) = U (Proc.devRef .tc main_arg24) := by
    intro U
    after_reads_simp
    rfl
  exact (e _).trans (keptX15 V main_arg24 (by decide +kernel))

/-- The loop's copy of an argument, 6 of 8. -/
theorem in6 : after hostOps0_16 (X15 V) (Proc.devRef .tc main_v609_6) = (argsV V).a26 := by
  have e : ∀ U : Valuation τ sig (Elt Ideal), after hostOps0_16 U (Proc.devRef .tc main_v609_6) = U (Proc.devRef .tc main_arg26) := by
    intro U
    after_reads_simp
    rfl
  exact (e _).trans (keptX15 V main_arg26 (by decide +kernel))

/-- The loop's copy of an argument, 7 of 8. -/
theorem in7 : after hostOps0_16 (X15 V) (Proc.devRef .tc main_v609_7) = (argsV V).a25 := by
  have e : ∀ U : Valuation τ sig (Elt Ideal), after hostOps0_16 U (Proc.devRef .tc main_v609_7) = U (Proc.devRef .tc main_arg25) := by
    intro U
    after_reads_simp
    rfl
  exact (e _).trans (keptX15 V main_arg25 (by decide +kernel))

/-- The loop's copy of an argument, 8 of 8. -/
theorem in8 : after hostOps0_16 (X15 V) (Proc.devRef .tc main_v609_8) = (argsV V).a27 := by
  have e : ∀ U : Valuation τ sig (Elt Ideal), after hostOps0_16 U (Proc.devRef .tc main_v609_8) = U (Proc.devRef .tc main_arg27) := by
    intro U
    after_reads_simp
    rfl
  exact (e _).trans (keptX15 V main_arg27 (by decide +kernel))

/-- The first layer's state starts at zero. -/
theorem in10 : after hostOps0_16 V (Proc.devRef .tc main_v609_10) = (fun _ => (0 : EReal) : Vec Ideal S375x128 .f32) := by
  have e : after hostOps0_16 V (Proc.devRef .tc main_v609_10) = (broadcastInDim S375x128 ![] bcast_S_S375x128 (constant S_ .f32 0x00000000#32) : FVec Ideal S375x128 .f32) := by
    after_reads_simp
    rfl
  rw [e]
  funext i
  pointwise

/-- The second layer's state starts at zero. -/
theorem in11 : after hostOps0_16 V (Proc.devRef .tc main_v609_11) = (fun _ => (0 : EReal) : Vec Ideal S375x128 .f32) := by
  have e : after hostOps0_16 V (Proc.devRef .tc main_v609_11) = (broadcastInDim S375x128 ![] bcast_S_S375x128 (constant S_ .f32 0x00000000#32) : FVec Ideal S375x128 .f32) := by
    after_reads_simp
    rfl
  rw [e]
  funext i
  pointwise

/-- The arguments a memory holds. -/
abbrev argsR (m : (ℓ : Loc nD τ sig) → Buf (Elt Ideal) ℓ) (c : Dev nD) : Args := argsV (launchContents m c)

/-- The reference's result. -/
theorem v617_eq (m : (ℓ : Loc nD τ sig) → Buf (Elt Ideal) ℓ) (c : Dev nD) :
    (out_main_v617 (STEP^[49] (entryContents preI m c)) : Vec Ideal S15x5 .f32) = fun i => resR (argsR m c) (i 0).val (i 1) := by
  have h9 : (entryContents preI m c) (Proc.devRef .tc main_v609_9) = fun _ => BitVec.ofNat 32 0 := ctr_entry m c
  obtain ⟨X, eX⟩ : ∃ X : Vec Ideal S49x375x512 .f32, after hostOps0_16 (X15 (launchContents m c)) (Proc.devRef .tc main_v609_0) = X := ⟨_, rfl⟩
  have hX : ∀ (t : Fin 49) (r : Fin 375) (g : Fin 384), (∑ k : Fin 512, X (ix3 t r k) * (argsR m c).a20 (ix2 g k)) + (argsR m c).a22 (ix1 g) = giR (argsR m c) (R4 (argsR m c)) t.val r.val g :=
    fun t r g => add_cong (sum_cong fun k => mul_cong ((congrFun eX _).symm.trans (xs_at (launchContents m c) t r k)) rfl) rfl
  have h : At (argsR m c) X 0 (fun _ => (0 : EReal)) (fun _ => (0 : EReal)) (entryContents preI m c) :=
    ⟨eX, in1 _, in2 _, in3 _, in4 _, in5 _, in6 _, in7 _, in8 _, h9, in10 _, in11 _⟩
  have hl := At.iter (giR (argsR m c) (R4 (argsR m c))) hX h 49 le_rfl
  funext i
  refine Eq.trans ?_ (out_at (A := argsR m c) (giR (argsR m c) (R4 (argsR m c))) (STEP^[49] (entryContents preI m c)) hl.h11 (iter_main_arg28 m c 49) (iter_main_arg29 m c 49) (i 0) (i 1))
  exact congrArg (out_main_v617 (STEP^[49] (entryContents preI m c)) : Vec Ideal S15x5 .f32) (eq_ix2 i)

end Cert.ReferenceIdeal.Val

end
-- ==== Proof.Val.Equal.lean ====
/- Where the arguments the precondition names are finite, the kernel's arrangement and the problem's give one result. -/
module

public import proofs.«01_k».proof.Proof.Val.Spec2

@[expose] public section

set_option maxRecDepth 16384
set_option maxHeartbeats 8000000

noncomputable section

namespace Cert.Spec

open Idealize.ShloMosaic
open Idealize.ShloMosaic Idealize.ShloMosaic.TcCoe
open Idealize.SL.Sem

/-- A value that is a real number. -/
def Fn (x : EReal) : Prop := ∃ r : ℝ, x = (r : EReal)

/-- A real number, read over the extended reals, is one. -/
theorem fn_coe (r : ℝ) : Fn (r : EReal) := ⟨r, rfl⟩
/-- Zero is a real number. -/
theorem fn_zero : Fn 0 := ⟨0, rfl⟩
/-- One is a real number. -/
theorem fn_one : Fn 1 := ⟨1, rfl⟩
/-- A sum of two reals is real. -/
theorem Fn.add {x y : EReal} (hx : Fn x) (hy : Fn y) : Fn (x + y) := by
  obtain ⟨a, rfl⟩ := hx; obtain ⟨b, rfl⟩ := hy; exact ⟨a + b, by norm_cast⟩
/-- A product of two reals is real. -/
theorem Fn.mul {x y : EReal} (hx : Fn x) (hy : Fn y) : Fn (x * y) := by
  obtain ⟨a, rfl⟩ := hx; obtain ⟨b, rfl⟩ := hy; exact ⟨a * b, by norm_cast⟩
/-- A difference of two reals is real. -/
theorem Fn.sub {x y : EReal} (hx : Fn x) (hy : Fn y) : Fn (x - y) := by
  obtain ⟨a, rfl⟩ := hx; obtain ⟨b, rfl⟩ := hy; exact ⟨a - b, by norm_cast⟩
/-- The larger of two reals is real. -/
theorem Fn.max {x y : EReal} (hx : Fn x) (hy : Fn y) : Fn (max x y) := by
  rcases le_total x y with h | h
  · rwa [max_eq_right h]
  · rwa [max_eq_left h]
/-- A finite sum of reals is real. -/
theorem Fn.sum {ι : Type*} [Fintype ι] {f : ι → EReal} (h : ∀ i, Fn (f i)) : Fn (∑ i, f i) := by
  classical
  exact Finset.sum_induction f Fn (fun _ _ => Fn.add) fn_zero fun i _ => h i

/-- A finite sum of reals, read over the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The hyperbolic tangent is a real number everywhere. -/
theorem fn_tanh (x : EReal) : Fn (Ideal.tanh x) := by
  induction x with
  | bot => exact ⟨-1, by simp⟩
  | top => exact ⟨1, by simp⟩
  | coe r => exact ⟨Real.tanh r, rfl⟩

/-- The logistic function is a real number everywhere. -/
theorem fn_sg (x : EReal) : Fn (sg x) := by
  unfold sg
  induction x with
  | bot => exact ⟨0, by simp [Ideal.div, EReal.neg_bot, show (1 : EReal) + ⊤ = ⊤ from EReal.add_top_of_ne_bot (EReal.coe_ne_bot 1)]⟩
  | top => exact ⟨1, by simp [Ideal.div, EReal.neg_top]⟩
  | coe r =>
    refine ⟨1 / (1 + Real.exp (-r)), ?_⟩
    have h : (1 + Real.exp (-r)) ≠ 0 := by positivity
    rw [← EReal.coe_neg, Ideal.exp_coe, show (1 : EReal) + (Real.exp (-r) : EReal) = ((1 + Real.exp (-r) : ℝ) : EReal) by norm_cast, Ideal.div_coe h, one_mul]

/-- The batch norm's constant is a real number. -/
theorem fn_bnc : Fn bnc := by
  unfold bnc
  show Fn (Ideal.ofBits .f32 0x3F7FFFAC#32)
  simp [Ideal.ofBits, Ideal.ieee, -EReal.coe_mul]
  exact fn_coe _

/-- The arguments the precondition names are real numbers. -/
structure FinArgs (A : Args) : Prop where
  f0 : ∀ i, Fn (A.a0 i)
  f1 : ∀ i, Fn (A.a1 i)
  f2 : ∀ i, Fn (A.a2 i)
  f3 : ∀ i, Fn (A.a3 i)
  f4 : ∀ i, Fn (A.a4 i)
  f5 : ∀ i, Fn (A.a5 i)
  f6 : ∀ i, Fn (A.a6 i)
  f7 : ∀ i, Fn (A.a7 i)
  f8 : ∀ i, Fn (A.a8 i)
  f9 : ∀ i, Fn (A.a9 i)
  f10 : ∀ i, Fn (A.a10 i)
  f11 : ∀ i, Fn (A.a11 i)
  f12 : ∀ i, Fn (A.a12 i)
  f13 : ∀ i, Fn (A.a13 i)
  f14 : ∀ i, Fn (A.a14 i)
  f15 : ∀ i, Fn (A.a15 i)
  f16 : ∀ i, Fn (A.a16 i)
  f17 : ∀ i, Fn (A.a17 i)
  f20 : ∀ i, Fn (A.a20 i)
  f28 : ∀ i, Fn (A.a28 i)
  f29 : ∀ i, Fn (A.a29 i)

/-- A padded map of reals. -/
theorem fn_pd {C : ℕ} (H : ℕ) {f : Feat C} (h : ∀ y x o, Fn (f y x o)) (y x : ℕ) (o : Fin C) : Fn (pd H f y x o) := by
  unfold pd
  split
  · exact h _ _ _
  · exact fn_zero

/-- A convolution of reals. -/
theorem fn_conv {C O : ℕ} {f : Feat C} {W : (⟨4, ![O, C, 3, 3]⟩ : Shape).Idx → EReal} (h : ∀ y x o, Fn (f y x o)) (hw : ∀ i, Fn (W i)) (y x : ℕ) (o : Fin O) :
    Fn (conv f (wOf W) y x o) := by
  have ht : ∀ dy dx, Fn (tap f (wOf W) dy dx y x o) := fun dy dx => Fn.sum fun c => (h _ _ _).mul (hw _)
  exact ((((((((ht 0 0).add (ht 0 1)).add (ht 0 2)).add (ht 1 0)).add (ht 1 1)).add (ht 1 2)).add (ht 2 0)).add (ht 2 1)).add (ht 2 2)

/-- A pooled map of reals. -/
theorem fn_mpool {O : ℕ} {f : Feat O} (h : ∀ y x o, Fn (f y x o)) (y x : ℕ) (o : Fin O) : Fn (mpool f y x o) :=
  ((h _ _ _).max (h _ _ _)).max ((h _ _ _).max (h _ _ _))

/-- Over reals the folded scale and shift are the bias and the batch norm one after the other, and give reals. -/
theorem act_actR {O : ℕ} {f : Feat O} {b g be : (⟨1, ![O]⟩ : Shape).Idx → EReal} (h : ∀ y x o, Fn (f y x o)) (hb : ∀ i, Fn (b i)) (hg : ∀ i, Fn (g i)) (he : ∀ i, Fn (be i)) :
    act f (scl g) (sft b g be) = actR f (fun o => b (ix1 o)) (fun o => g (ix1 o)) (fun o => be (ix1 o)) ∧ ∀ y x o, Fn (act f (scl g) (sft b g be) y x o) := by
  refine ⟨?_, fun y x o => ?_⟩
  · funext y x o
    unfold act actR sft scl
    dsimp only
    obtain ⟨f', hf⟩ := h y x o
    obtain ⟨b', hb'⟩ := hb (ix1 o)
    obtain ⟨g', hg'⟩ := hg (ix1 o)
    obtain ⟨e', he'⟩ := he (ix1 o)
    obtain ⟨n', hn'⟩ := fn_bnc
    rw [hf, hb', hg', he', hn']
    refine congrArg (max · 0) ?_
    norm_cast
    ring
  · unfold act sft scl
    exact (((h _ _ _).mul ((hg _).mul fn_bnc)).add (((hb _).mul ((hg _).mul fn_bnc)).add (he _))).max fn_zero

variable {A : Args} (H : FinArgs A)
include H

/-- An image's pixels are reals. -/
theorem fn_img (i y x : ℕ) (o : Fin 1) : Fn (img A i y x o) := by
  unfold img
  split
  · exact H.f0 _
  · exact H.f1 _

/-- The first block either way. -/
theorem K1_R1 (i : ℕ) : K1 A i = R1 A i ∧ ∀ y x o, Fn (K1 A i y x o) := by
  have h := act_actR (f := conv2 (pd 224 (img A i)) (wOf A.a2)) (fun y x o => fn_conv (fn_pd 224 (fn_img H i)) H.f2 _ _ o) H.f3 H.f10 H.f11
  exact ⟨congrArg mpool h.1, fn_mpool h.2⟩

/-- Block 2 either way. -/
theorem K2_R2 (i : ℕ) : K2 A i = R2 A i ∧ ∀ y x o, Fn (K2 A i y x o) := by
  have hp := K1_R1 H i
  have h := act_actR (f := conv (pd 56 (K1 A i)) (wOf A.a4)) (fun y x o => fn_conv (fn_pd 56 hp.2) H.f4 y x o) H.f5 H.f12 H.f13
  refine ⟨?_, fn_mpool h.2⟩
  unfold K2 R2
  rw [h.1, hp.1]

/-- Block 3 either way. -/
theorem K3_R3 (i : ℕ) : K3 A i = R3 A i ∧ ∀ y x o, Fn (K3 A i y x o) := by
  have hp := K2_R2 H i
  have h := act_actR (f := conv (pd 28 (K2 A i)) (wOf A.a6)) (fun y x o => fn_conv (fn_pd 28 hp.2) H.f6 y x o) H.f7 H.f14 H.f15
  refine ⟨?_, fn_mpool h.2⟩
  unfold K3 R3
  rw [h.1, hp.1]

/-- Block 4 either way. -/
theorem K4_R4 (i : ℕ) : K4 A i = R4 A i ∧ ∀ y x o, Fn (K4 A i y x o) := by
  have hp := K3_R3 H i
  have h := act_actR (f := conv (pd 14 (K3 A i)) (wOf A.a8)) (fun y x o => fn_conv (fn_pd 14 hp.2) H.f8 y x o) H.f9 H.f16 H.f17
  refine ⟨?_, fn_mpool h.2⟩
  unfold K4 R4
  rw [h.1, hp.1]

omit H in
/-- The greatest of finitely many values, at least one, is one of them. -/
theorem top_mem {n : ℕ} (f : Fin (n + 1) → EReal) : ∃ i, top f = f i := by
  obtain ⟨i, -, h⟩ := Finset.exists_mem_eq_sup Finset.univ Finset.univ_nonempty f
  exact ⟨i, h⟩

omit H in
/-- A softmax's weights over reals, without the shift. -/
theorem smx_coe (σ : Fin 49 → ℝ) (s : Fin 49) :
    smx (fun s => (σ s : EReal)) s = ((Real.exp (σ s) * (1 / ∑ s', Real.exp (σ s')) : ℝ) : EReal) := by
  obtain ⟨i, hi⟩ := top_mem (n := 48) (fun s => (σ s : EReal))
  unfold smx
  rw [hi]
  have e : ∀ s, Ideal.exp ((σ s : EReal) - (σ i : EReal)) = ((Real.exp (σ s) * Real.exp (-σ i) : ℝ) : EReal) := fun s => by
    rw [← EReal.coe_sub, Ideal.exp_coe, ← Real.exp_add, sub_eq_add_neg]
  simp only [e]
  rw [← coe_sum]
  have hp : 0 < ∑ s', Real.exp (σ s') := Finset.sum_pos (fun _ _ => Real.exp_pos _) Finset.univ_nonempty
  have h0 : ∑ s' : Fin 49, Real.exp (σ s') * Real.exp (-σ i) ≠ 0 := by
    rw [← Finset.sum_mul]
    exact mul_ne_zero hp.ne' (Real.exp_pos _).ne'
  rw [Ideal.div_coe h0, ← EReal.coe_mul, ← Finset.sum_mul]
  congr 1
  have := (Real.exp_pos (-σ i)).ne'
  field_simp

omit H in
/-- Over reals, averaging the projected rows is projecting the averaged rows. -/
theorem avg_proj (σ : Fin 49 → ℝ) (F : Fin 49 → Fin 256 → ℝ) (w : Fin 256 → ℝ) :
    Ideal.div (∑ s : Fin 49, Ideal.exp (σ s : EReal) * ∑ f : Fin 256, (F s f : EReal) * (w f : EReal)) (∑ s : Fin 49, Ideal.exp (σ s : EReal) * 1)
      = ∑ f : Fin 256, (∑ s : Fin 49, smx (fun s => (σ s : EReal)) s * (F s f : EReal)) * (w f : EReal) := by
  have hp : (0 : ℝ) < ∑ s' : Fin 49, Real.exp (σ s') := Finset.sum_pos (fun _ _ => Real.exp_pos _) Finset.univ_nonempty
  simp only [smx_coe, Ideal.exp_coe, mul_one, ← EReal.coe_mul, ← coe_sum]
  rw [Ideal.div_coe hp.ne', ← EReal.coe_mul]
  congr 1
  simp only [Finset.sum_mul, Finset.mul_sum]
  rw [Finset.sum_comm]
  refine Finset.sum_congr rfl fun f _ => Finset.sum_congr rfl fun s _ => ?_
  ring

/-- The first layer's input gates either way. -/
theorem giK_giR : giK A (K4 A) = giR A (R4 A) := by
  have hE : K4 A = R4 A := funext fun i => (K4_R4 H i).1
  rw [← hE]
  funext t r g
  have hF : ∀ i s f, Fn (ft (K4 A) i s f) := fun i s f => (K4_R4 H i).2 _ _ _
  have hS : ∀ i j t s, Fn (sco A (K4 A) i j t s) := fun i j t s => Fn.sum fun c => fn_tanh _
  choose F hF using hF
  choose S hS using hS
  choose w hw using H.f20
  unfold giK giR
  have e : ∑ k : Fin 512, xs A (K4 A) t r k * A.a20 (ix2 g k)
      = (∑ f : Fin 256, atd A (K4 A) t r f * A.a20 (ix2 g (f.castLE (by norm_num))))
        + ∑ f : Fin 256, ft (K4 A) (25 + r / 25) t f * A.a20 (ix2 g (f.natAdd 256)) := by
    refine (Fin.sum_univ_add (a := 256) (b := 256) (fun k : Fin 512 => xs A (K4 A) t r k * A.a20 (ix2 g k))).trans ?_
    refine congrArg₂ (· + ·) (Finset.sum_congr rfl fun f _ => ?_) (Finset.sum_congr rfl fun f _ => ?_)
    · refine congrArg₂ (· * ·) ?_ rfl
      exact dif_pos f.isLt
    · refine congrArg₂ (· * ·) ?_ rfl
      refine (dif_neg (by simp)).trans ?_
      exact congrArg _ (Fin.ext (by simp))
  rw [e, add_assoc]
  refine congrArg₂ (· + ·) ?_ rfl
  unfold atd prA
  simp only [hS, hF, hw]
  exact avg_proj _ (fun s f => F (r % 25) s f) _

omit H in
/-- A state's entries stay reals, whatever the gates. -/
theorem fn_cell (gi gh : Fin 384 → EReal) {h : EReal} (hh : Fn h) (j : Fin 128) : Fn (cell gi gh h j) :=
  ((fn_one.sub (fn_sg _)).mul (fn_tanh _)).add ((fn_sg _).mul hh)

omit H in
/-- The second layer's states are reals. -/
theorem fn_hid (G : ℕ → ℕ → Fin 384 → EReal) (r n : ℕ) : ∀ j, Fn ((hid A G r n).2 j) := by
  induction n with
  | zero => exact fun j => fn_zero
  | succ n ih => exact fun j => fn_cell _ _ (ih j) j

/-- A pair's logit is a real. -/
theorem fn_lgt (G : ℕ → ℕ → Fin 384 → EReal) (r : ℕ) : Fn (lgt A G r) := Fn.sum fun j => (fn_hid G r 49 j).mul (H.f28 _)

omit H in
/-- A log-softmax over reals does not see a shift common to all. -/
theorem lsm_shift (s : Fin 5 → ℝ) (β : ℝ) : lsm (fun c => (s c : EReal) + (β : EReal)) = lsm (fun c => (s c : EReal)) := by
  obtain ⟨i, hi⟩ := top_mem (n := 4) (fun c => (s c : EReal))
  have h : top (fun c => (s c : EReal) + (β : EReal)) = (s i : EReal) + (β : EReal) := by
    refine le_antisymm (Finset.sup_le fun c _ => ?_) (Finset.le_sup (f := fun c => (s c : EReal) + (β : EReal)) (Finset.mem_univ i))
    refine add_le_add ?_ le_rfl
    exact (Finset.le_sup (f := fun c => (s c : EReal)) (Finset.mem_univ c)).trans_eq hi
  have e : ∀ c, (s c : EReal) + (β : EReal) - ((s i : EReal) + (β : EReal)) = (s c : EReal) - (s i : EReal) := fun c => by
    rw [← EReal.coe_add, ← EReal.coe_add, ← EReal.coe_sub, ← EReal.coe_sub]
    congr 1
    ring
  funext c
  unfold lsm
  rw [h, hi]
  simp only [e]

omit H in
/-- The product with the table of zeros and ones keeps a class's five shots. -/
theorem sum_shots (ℓ : ℕ → ℝ) (c : Fin 5) : ∑ u : Fin 25, ℓ u.val * (if u.val / 5 = c.val then 1 else 0) = ∑ k : Fin 5, ℓ (c.val * 5 + k.val) := by
  fin_cases c <;> simp [Fin.sum_univ_succ, Fin.succ, add_assoc]

/-- Over the extended reals the kernel's arrangement and the problem's give one result. -/
theorem resK_resR (q : ℕ) (c : Fin 5) : resK A q c = resR A q c := by
  unfold resK resR
  have hL := fun r => fn_lgt H (giR A (R4 A)) r
  choose ℓ hℓ using hL
  obtain ⟨β, hβ⟩ := H.f29 (ix1 0)
  have h1 : clsK A q = fun c => ((∑ k : Fin 5, ℓ (q * 25 + (c.val * 5 + k.val)) : ℝ) : EReal) := by
    funext c
    unfold clsK
    rw [giK_giR H]
    simp only [hℓ]
    rw [← sum_shots (fun n => ℓ (q * 25 + n)) c, coe_sum]
    refine Finset.sum_congr rfl fun u _ => ?_
    rw [EReal.coe_mul]
    congr 1
    split <;> simp
  have h2 : clsR A q = fun c => ((∑ k : Fin 5, ℓ (q * 25 + (c.val * 5 + k.val)) : ℝ) : EReal) + ((5 * β : ℝ) : EReal) := by
    funext c
    unfold clsR
    simp only [hℓ, hβ, ← EReal.coe_add, ← coe_sum]
    congr 1
    rw [Finset.sum_add_distrib]
    simp [add_assoc]
  rw [h1, h2, lsm_shift]

end Cert.Spec

end
-- ==== Proof.Val.Pre.lean ====
/- The precondition read back: where it holds, the arguments it names are real numbers. -/
module

public import proofs.«01_k».proof.Pre_finite
public import proofs.«01_k».proof.Proof.Val.Equal
public import Idealize.ShloMosaic.Lib.ReduceAll
public import Idealize.ShloMosaic.Lib.Pointwise

@[expose] public section

set_option maxRecDepth 16384
set_option maxHeartbeats 8000000

noncomputable section

namespace Cert.Spec

open Idealize.ShloMosaic
open Idealize.ShloMosaic Idealize.ShloMosaic.TcCoe
open Idealize.SL.Sem

/-- The shape relations the precondition states. -/
theorem preFacts : Cert.Pre_finite.Facts where
  bcast_S_S5x5x1x224x224 := by decide
  reducesTo_S5x5x1x224x224_S_d0_1_2_3_4 := by decide
  h_S_ := by decide
  bcast_S_S15x1x224x224 := by decide
  reducesTo_S15x1x224x224_S_d0_1_2_3 := by decide
  bcast_S_S32x1x3x3 := by decide
  reducesTo_S32x1x3x3_S_d0_1_2_3 := by decide
  bcast_S_S32 := by decide
  reducesTo_S32_S_d0 := by decide
  bcast_S_S64x32x3x3 := by decide
  reducesTo_S64x32x3x3_S_d0_1_2_3 := by decide
  bcast_S_S64 := by decide
  reducesTo_S64_S_d0 := by decide
  bcast_S_S128x64x3x3 := by decide
  reducesTo_S128x64x3x3_S_d0_1_2_3 := by decide
  bcast_S_S128 := by decide
  reducesTo_S128_S_d0 := by decide
  bcast_S_S256x128x3x3 := by decide
  reducesTo_S256x128x3x3_S_d0_1_2_3 := by decide
  bcast_S_S256 := by decide
  reducesTo_S256_S_d0 := by decide
  bcast_S_S384x512 := by decide
  reducesTo_S384x512_S_d0_1 := by decide
  bcast_S_S1x128 := by decide
  reducesTo_S1x128_S_d0_1 := by decide
  bcast_S_S1 := by decide
  reducesTo_S1_S_d0 := by decide

/-- A test that every element's magnitude is below infinity, read back at an element. -/
theorem fn_of_all {s : Shape} {axes : List (Fin s.rank)} (x : FVec Ideal s .f32) (hb : Cert.Pre_finite.S_.BroadcastsInDim s (![] : Fin 0 → Fin s.rank)) (hr : s.ReducesTo axes Cert.Pre_finite.S_)
    (hu : 0 < Cert.Pre_finite.S_.numel) (j : Cert.Pre_finite.S_.Idx)
    (e : Host.reduce IntOp.andi (cmpf .olt (Host.absf x) (broadcastInDim s ![] hb (constant Cert.Pre_finite.S_ .f32 0x7F800000#32))) (constantI Cert.Pre_finite.S_ 1 1#1) hr hu j = 1#1)
    (i : s.Idx) : Fn (x i) := by
  have h := Host.reduce_andi_all _ _ _ _ j e i
  have h' : max (x i) (-x i) < Ideal.ofBits .f32 0x7F800000#32 := by
    by_contra hc
    change Ideal.cmp .olt (max (x i) (-x i)) (Ideal.ofBits .f32 0x7F800000#32) = 1#1 at h
    simp [Ideal.cmp, hc] at h
  rw [show Ideal.ofBits .f32 0x7F800000#32 = ⊤ by simp [Ideal.ofBits, Ideal.ieee]] at h'
  have key : ∀ y : EReal, max y (-y) < ⊤ → Fn y := fun y h => by
    induction y with
    | bot => simp at h
    | top => simp at h
    | coe r => exact fn_coe r
  exact key _ h'

/-- Where the precondition holds, the arguments it names are real numbers. -/
theorem finArgs (A : Args) (h : @Cert.Pre_finite.fn preFacts Ideal _ A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26 A.a27 A.a28 A.a29 = fun _ => 1#1) : FinArgs A := by
  have e := congrFun h (Shape.Idx.first preFacts.h_S_)
  simp only [Cert.Pre_finite.fn, Cert.Pre_finite.fn_part1, Cert.Pre_finite.fn_part2, Cert.Pre_finite.fn_part3, Cert.Pre_finite.fn_part4, Cert.Pre_finite.fn_part5, Cert.Pre_finite.fn_part6] at e
  obtain ⟨e, e29⟩ := IntOp.andi_eq_one.1 e
  obtain ⟨e, e28⟩ := IntOp.andi_eq_one.1 e
  obtain ⟨e, e20⟩ := IntOp.andi_eq_one.1 e
  obtain ⟨e, e17⟩ := IntOp.andi_eq_one.1 e
  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  exact ⟨fn_of_all _ _ _ _ _ e, fn_of_all _ _ _ _ _ e1, fn_of_all _ _ _ _ _ e2, fn_of_all _ _ _ _ _ e3, fn_of_all _ _ _ _ _ e4, fn_of_all _ _ _ _ _ e5, fn_of_all _ _ _ _ _ e6, fn_of_all _ _ _ _ _ e7, fn_of_all _ _ _ _ _ e8, fn_of_all _ _ _ _ _ e9, fn_of_all _ _ _ _ _ e10, fn_of_all _ _ _ _ _ e11, fn_of_all _ _ _ _ _ e12, fn_of_all _ _ _ _ _ e13, fn_of_all _ _ _ _ _ e14, fn_of_all _ _ _ _ _ e15, fn_of_all _ _ _ _ _ e16, fn_of_all _ _ _ _ _ e17, fn_of_all _ _ _ _ _ e20, fn_of_all _ _ _ _ _ e28, fn_of_all _ _ _ _ _ e29⟩

end Cert.Spec

end
-- ==== Proof.lean ====
module

public import proofs.«01_k».proof.Defs
public import proofs.«01_k».proof.Proof.Kernel.Run
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.ReferenceIdeal
public import Idealize.ShloMosaic.Lib.Quiescent
public import proofs.«01_k».proof.Proof.Gen.ReferenceIdeal.Run
public import proofs.«01_k».proof.Proof.Same
public import proofs.«01_k».proof.Proof.Val.KFinal
public import proofs.«01_k».proof.Proof.Val.RefFinal
public import proofs.«01_k».proof.Proof.Val.Equal
public import proofs.«01_k».proof.Proof.Val.Pre
public import Idealize.ShloMosaic.Adequacy
public import Idealize.ShloMosaic.Init

@[expose] public section

noncomputable section

namespace Cert.Proof

open Idealize.ShloMosaic Idealize.SL.Sem

/-- The kernel at the bit-exact reading: it ends, its arguments kept and every counter at zero. -/
theorem frame_p : Cert.quiescent_Kernel := fun m ρ _ => Cert.Kernel.Hand.frame (F := Bits) m ρ

/-- The kernel over the extended reals: it ends, its arguments kept and every counter at zero. -/
theorem frame_pi : Cert.quiescent_KernelIdeal := fun m ρ _ => Cert.Same.run _ _ (Cert.Kernel.Hand.frame (F := Ideal) m ρ)

/-- The reference over the extended reals: it ends, its arguments kept; it declares no semaphore. -/
theorem frame_ri : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- On equal arguments the two programs' arguments are one. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : ∀ A B : Cert.Spec.Args, A = Cert.ReferenceIdeal.Val.argsR m' c → B = Cert.Kernel.Val.argsK m c →
A.a0 = B.a0 ∧ A.a1 = B.a1 ∧ A.a2 = B.a2 ∧ A.a3 = B.a3 ∧ A.a4 = B.a4 ∧ A.a5 = B.a5 ∧ A.a6 = B.a6 ∧ A.a7 = B.a7 ∧ A.a8 = B.a8 ∧ A.a9 = B.a9 ∧ A.a10 = B.a10 ∧ A.a11 = B.a11 ∧ A.a12 = B.a12 ∧ A.a13 = B.a13 ∧ A.a14 = B.a14 ∧ A.a15 = B.a15 ∧ A.a16 = B.a16 ∧ A.a17 = B.a17 ∧ A.a18 = B.a18 ∧ A.a19 = B.a19 ∧ A.a20 = B.a20 ∧ A.a21 = B.a21 ∧ A.a22 = B.a22 ∧ A.a23 = B.a23 ∧ A.a24 = B.a24 ∧ A.a25 = B.a25 ∧ A.a26 = B.a26 ∧ A.a27 = B.a27 ∧ A.a28 = B.a28 ∧ A.a29 = B.a29) :
    Cert.ReferenceIdeal.Val.argsR m' c = Cert.Kernel.Val.argsK m c :=
  (Cert.Spec.Args.mk.injEq ..).mpr (h _ _ rfl rfl)

/-- Over the extended reals the kernel's result is the kernel's form of the problem's mathematics, and its arguments are kept. -/
theorem value (m : (ℓ : Loc Cert.Kernel.nD Cert.Kernel.τ Cert.Kernel.sig) → Buf (Elt Ideal) ℓ) (g : Dev Cert.Kernel.nD → PrngReg) :
    θ_run (Cert.Kernel.defs (F := Ideal)) (onTc (τ := Cert.Kernel.τ) (Cert.Kernel.main (F := Ideal))) ⟨m, fun _ => 0, g⟩ (fun r => ∀ c : Dev Cert.Kernel.nD,
      r.2.mem ((c.tc : Thread Cert.Kernel.nD Cert.Kernel.τ).loc Cert.Kernel.main_v89) = (fun i => Cert.Spec.resK (Cert.Kernel.Val.argsK m c) (i 0).val (i 1))
      ∧ Cert.Kernel.Hand.Kept m r.2.mem c) :=
  (θ_run Cert.Kernel.defs _ _).mono (fun r h c =>
    ⟨(h.1 c _ (Cert.Kernel.Hand.mem_uc Cert.Kernel.main_v89 (by decide))).trans (Cert.Kernel.Val.v89_eq m g c), Cert.Kernel.Hand.kept_all m g h.1 c⟩)
    (Cert.Kernel.Hand.run m g)

-- the two printed programs' references are compared, argument by argument
set_option maxHeartbeats 2000000 in
/-- On finite images and weights the kernel's result over the extended reals is the reference's. -/
theorem algebraic : @Cert.algebraic_KernelIdeal_ReferenceIdeal_pre_finite Cert.KernelIdeal.Gen.facts Cert.ReferenceIdeal.Gen.facts Cert.Spec.preFacts := by
  intro m g m' g' hp ha
  refine ⟨fun c i => Cert.Spec.resK (Cert.Kernel.Val.argsK m c) (i 0).val (i 1), ?_, ?_⟩
  · refine Cert.Same.run _ _ ((θ_run Cert.Kernel.defs _ _).mono (fun r h c => ?_) (value m g))
    refine ⟨?_, ?_⟩
    · exact (h c).1
    · exact (h c).2
  · refine (θ_run Cert.ReferenceIdeal.defs _ _).mono (fun r h c => ⟨(h c).1.trans ((Cert.ReferenceIdeal.Val.v617_eq m' c).trans ?_), (h c).2⟩)
      (Cert.ReferenceIdeal.Value.run (F := Ideal) m' g')
    have ea : Cert.ReferenceIdeal.Val.argsR m' c = Cert.Kernel.Val.argsK m c := args_eq m m' c (by rintro _ _ rfl rfl; exact ha c)
    rw [ea]
    funext i
    exact (Cert.Spec.resK_resR (Cert.Spec.finArgs (Cert.Kernel.Val.argsK m c) (hp c)) (i 0).val (i 1)).symm

/-- The claims, in the order of the statement. -/
theorem claim : Cert.Claim := ⟨Cert.Kernel.Gen.facts, Cert.KernelIdeal.Gen.facts, Cert.ReferenceIdeal.Gen.facts, Cert.Spec.preFacts,
  frame_p, frame_pi, fun m ρ _ => frame_pi m ρ trivial, frame_ri, fun m ρ _ => frame_ri m ρ trivial, trivial, algebraic⟩

end Cert.Proof

end
